-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4)
      ∧ r.2.mem ((c.tc : Thread Cert.MergeBwdReferenceIdeal.nD Cert.MergeBwdReferenceIdeal.τ).loc Cert.MergeBwdReferenceIdeal.main_arg5) = m ((c.tc : Thread Cert.MergeBwdReferenceIdeal.nD Cert.MergeBwdReferenceIdeal.τ).loc Cert.MergeBwdReferenceIdeal.main_arg5)
      ∧ r.2.mem ((c.tc : Thread Cert.MergeBwdReferenceIdeal.nD Cert.MergeBwdReferenceIdeal.τ).loc Cert.MergeBwdReferenceIdeal.main_arg6) = m ((c.tc : Thread Cert.MergeBwdReferenceIdeal.nD Cert.MergeBwdReferenceIdeal.τ).loc Cert.MergeBwdReferenceIdeal.main_arg6)
      ∧ r.2.mem ((c.tc : Thread Cert.MergeBwdReferenceIdeal.nD Cert.MergeBwdReferenceIdeal.τ).loc Cert.MergeBwdReferenceIdeal.main_arg7) = m ((c.tc : Thread Cert.MergeBwdReferenceIdeal.nD Cert.MergeBwdReferenceIdeal.τ).loc Cert.MergeBwdReferenceIdeal.main_arg7))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3)
      ∧ r.2.mem ((c.tc : Thread Cert.AdamwReferenceIdeal.nD Cert.AdamwReferenceIdeal.τ).loc Cert.AdamwReferenceIdeal.main_arg4) = m ((c.tc : Thread Cert.AdamwReferenceIdeal.nD Cert.AdamwReferenceIdeal.τ).loc Cert.AdamwReferenceIdeal.main_arg4)
      ∧ r.2.mem ((c.tc : Thread Cert.AdamwReferenceIdeal.nD Cert.AdamwReferenceIdeal.τ).loc Cert.AdamwReferenceIdeal.main_arg5) = m ((c.tc : Thread Cert.AdamwReferenceIdeal.nD Cert.AdamwReferenceIdeal.τ).loc Cert.AdamwReferenceIdeal.main_arg5)
      ∧ r.2.mem ((c.tc : Thread Cert.AdamwReferenceIdeal.nD Cert.AdamwReferenceIdeal.τ).loc Cert.AdamwReferenceIdeal.main_arg6) = m ((c.tc : Thread Cert.AdamwReferenceIdeal.nD Cert.AdamwReferenceIdeal.τ).loc Cert.AdamwReferenceIdeal.main_arg6)
      ∧ r.2.mem ((c.tc : Thread Cert.AdamwReferenceIdeal.nD Cert.AdamwReferenceIdeal.τ).loc Cert.AdamwReferenceIdeal.main_arg7) = m ((c.tc : Thread Cert.AdamwReferenceIdeal.nD Cert.AdamwReferenceIdeal.τ).loc Cert.AdamwReferenceIdeal.main_arg7)
      ∧ r.2.mem ((c.tc : Thread Cert.AdamwReferenceIdeal.nD Cert.AdamwReferenceIdeal.τ).loc Cert.AdamwReferenceIdeal.main_arg8) = m ((c.tc : Thread Cert.AdamwReferenceIdeal.nD Cert.AdamwReferenceIdeal.τ).loc Cert.AdamwReferenceIdeal.main_arg8)
      ∧ r.2.mem ((c.tc : Thread Cert.AdamwReferenceIdeal.nD Cert.AdamwReferenceIdeal.τ).loc Cert.AdamwReferenceIdeal.main_arg9) = m ((c.tc : Thread Cert.AdamwReferenceIdeal.nD Cert.AdamwReferenceIdeal.τ).loc Cert.AdamwReferenceIdeal.main_arg9)
      ∧ r.2.mem ((c.tc : Thread Cert.AdamwReferenceIdeal.nD Cert.AdamwReferenceIdeal.τ).loc Cert.AdamwReferenceIdeal.main_arg10) = m ((c.tc : Thread Cert.AdamwReferenceIdeal.nD Cert.AdamwReferenceIdeal.τ).loc Cert.AdamwReferenceIdeal.main_arg10)
      ∧ r.2.mem ((c.tc : Thread Cert.AdamwReferenceIdeal.nD Cert.AdamwReferenceIdeal.τ).loc Cert.AdamwReferenceIdeal.main_arg11) = m ((c.tc : Thread Cert.AdamwReferenceIdeal.nD Cert.AdamwReferenceIdeal.τ).loc Cert.AdamwReferenceIdeal.main_arg11))
      ∧ r.2.sem = fun _ => 0)

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v4_0)) (v2 : (c : Dev Cert.FfnIdeal.nD) → Buf (Elt Ideal) ((c.tc : Thread Cert.FfnIdeal.nD Cert.FfnIdeal.τ).loc Cert.FfnIdeal.main_v6)) (v3 : (c : Dev Cert.FfnIdeal.nD) → Buf (Elt Ideal) ((c.tc : Thread Cert.FfnIdeal.nD Cert.FfnIdeal.τ).loc Cert.FfnIdeal.main_v7)) (v4 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v4_0) = v1 c
          ∧ r.2.mem ((c.tc : Thread Cert.FfnIdeal.nD Cert.FfnIdeal.τ).loc Cert.FfnIdeal.main_v6) = v2 c
          ∧ r.2.mem ((c.tc : Thread Cert.FfnIdeal.nD Cert.FfnIdeal.τ).loc Cert.FfnIdeal.main_v7) = v3 c
          ∧ r.2.mem ((c.tc : Thread Cert.FfnIdeal.nD Cert.FfnIdeal.τ).loc Cert.FfnIdeal.main_v8) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v24) = v0 c
          ∧ r.2.mem ((c.tc : Thread Cert.FfnReferenceIdeal.nD Cert.FfnReferenceIdeal.τ).loc Cert.FfnReferenceIdeal.main_v58) = v1 c
          ∧ r.2.mem ((c.tc : Thread Cert.FfnReferenceIdeal.nD Cert.FfnReferenceIdeal.τ).loc Cert.FfnReferenceIdeal.main_v43) = v2 c
          ∧ r.2.mem ((c.tc : Thread Cert.FfnReferenceIdeal.nD Cert.FfnReferenceIdeal.τ).loc Cert.FfnReferenceIdeal.main_v36) = v3 c
          ∧ r.2.mem ((c.tc : Thread Cert.FfnReferenceIdeal.nD Cert.FfnReferenceIdeal.τ).loc Cert.FfnReferenceIdeal.main_v29) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Kernel_KernelIdeal : Prop :=
  IdealRules.named_const.Statement Cert.KernelIdeal.κ "mask" .f32 0xF149F2CA#32 ⊥

def preserves_Proj_ProjIdeal : Prop :=
  True

def algebraic_ProjIdeal_ProjReferenceIdeal_pre_finite_proj [hProjIdeal : Cert.ProjIdeal.Facts] [hProjReferenceIdeal : Cert.ProjReferenceIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_proj m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v10)) (v1 : (c : Dev Cert.ProjIdeal.nD) → Buf (Elt Ideal) ((c.tc : Thread Cert.ProjIdeal.nD Cert.ProjIdeal.τ).loc Cert.ProjIdeal.main_v11)) (v2 : (c : Dev Cert.ProjIdeal.nD) → Buf (Elt Ideal) ((c.tc : Thread Cert.ProjIdeal.nD Cert.ProjIdeal.τ).loc Cert.ProjIdeal.main_v5_9)) (v3 : (c : Dev Cert.ProjIdeal.nD) → Buf (Elt Ideal) ((c.tc : Thread Cert.ProjIdeal.nD Cert.ProjIdeal.τ).loc Cert.ProjIdeal.main_v12)) (v4 : (c : Dev Cert.ProjIdeal.nD) → Buf (Elt Ideal) ((c.tc : Thread Cert.ProjIdeal.nD Cert.ProjIdeal.τ).loc Cert.ProjIdeal.main_v5_7)) (v5 : (c : Dev Cert.ProjIdeal.nD) → Buf (Elt Ideal) ((c.tc : Thread Cert.ProjIdeal.nD Cert.ProjIdeal.τ).loc Cert.ProjIdeal.main_v5_8)) (v6 : (c : Dev Cert.ProjIdeal.nD) → Buf (Elt Ideal) ((c.tc : Thread Cert.ProjIdeal.nD Cert.ProjIdeal.τ).loc Cert.ProjIdeal.main_v9_0)) (v7 : (c : Dev Cert.ProjIdeal.nD) → Buf (Elt Ideal) ((c.tc : Thread Cert.ProjIdeal.nD Cert.ProjIdeal.τ).loc Cert.ProjIdeal.main_v14)) (v8 : (c : Dev Cert.ProjIdeal.nD) → Buf (Elt Ideal) ((c.tc : Thread Cert.ProjIdeal.nD Cert.ProjIdeal.τ).loc Cert.ProjIdeal.main_v6)) (v9 : (c : Dev Cert.ProjIdeal.nD) → Buf (Elt Ideal) ((c.tc : Thread Cert.ProjIdeal.nD Cert.ProjIdeal.τ).loc Cert.ProjIdeal.main_v7)) (v10 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_v11) = v1 c
          ∧ r.2.mem ((c.tc : Thread Cert.ProjIdeal.nD Cert.ProjIdeal.τ).loc Cert.ProjIdeal.main_v5_9) = v2 c
          ∧ r.2.mem ((c.tc : Thread Cert.ProjIdeal.nD Cert.ProjIdeal.τ).loc Cert.ProjIdeal.main_v12) = v3 c
          ∧ r.2.mem ((c.tc : Thread Cert.ProjIdeal.nD Cert.ProjIdeal.τ).loc Cert.ProjIdeal.main_v5_7) = v4 c
          ∧ r.2.mem ((c.tc : Thread Cert.ProjIdeal.nD Cert.ProjIdeal.τ).loc Cert.ProjIdeal.main_v5_8) = v5 c
          ∧ r.2.mem ((c.tc : Thread Cert.ProjIdeal.nD Cert.ProjIdeal.τ).loc Cert.ProjIdeal.main_v9_0) = v6 c
          ∧ r.2.mem ((c.tc : Thread Cert.ProjIdeal.nD Cert.ProjIdeal.τ).loc Cert.ProjIdeal.main_v14) = v7 c
          ∧ r.2.mem ((c.tc : Thread Cert.ProjIdeal.nD Cert.ProjIdeal.τ).loc Cert.ProjIdeal.main_v6) = v8 c
          ∧ r.2.mem ((c.tc : Thread Cert.ProjIdeal.nD Cert.ProjIdeal.τ).loc Cert.ProjIdeal.main_v7) = v9 c
          ∧ r.2.mem ((c.tc : Thread Cert.ProjIdeal.nD Cert.ProjIdeal.τ).loc Cert.ProjIdeal.main_v8) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v42) = v0 c
          ∧ r.2.mem ((c.tc : Thread Cert.ProjReferenceIdeal.nD Cert.ProjReferenceIdeal.τ).loc Cert.ProjReferenceIdeal.main_v43) = v1 c
          ∧ r.2.mem ((c.tc : Thread Cert.ProjReferenceIdeal.nD Cert.ProjReferenceIdeal.τ).loc Cert.ProjReferenceIdeal.main_v44) = v2 c
          ∧ r.2.mem ((c.tc : Thread Cert.ProjReferenceIdeal.nD Cert.ProjReferenceIdeal.τ).loc Cert.ProjReferenceIdeal.main_v45) = v3 c
          ∧ r.2.mem ((c.tc : Thread Cert.ProjReferenceIdeal.nD Cert.ProjReferenceIdeal.τ).loc Cert.ProjReferenceIdeal.main_v46) = v4 c
          ∧ r.2.mem ((c.tc : Thread Cert.ProjReferenceIdeal.nD Cert.ProjReferenceIdeal.τ).loc Cert.ProjReferenceIdeal.main_v47) = v5 c
          ∧ r.2.mem ((c.tc : Thread Cert.ProjReferenceIdeal.nD Cert.ProjReferenceIdeal.τ).loc Cert.ProjReferenceIdeal.main_v41) = v6 c
          ∧ r.2.mem ((c.tc : Thread Cert.ProjReferenceIdeal.nD Cert.ProjReferenceIdeal.τ).loc Cert.ProjReferenceIdeal.main_v26) = v7 c
          ∧ r.2.mem ((c.tc : Thread Cert.ProjReferenceIdeal.nD Cert.ProjReferenceIdeal.τ).loc Cert.ProjReferenceIdeal.main_v48) = v8 c
          ∧ r.2.mem ((c.tc : Thread Cert.ProjReferenceIdeal.nD Cert.ProjReferenceIdeal.τ).loc Cert.ProjReferenceIdeal.main_v49) = v9 c
          ∧ r.2.mem ((c.tc : Thread Cert.ProjReferenceIdeal.nD Cert.ProjReferenceIdeal.τ).loc Cert.ProjReferenceIdeal.main_v50) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v18) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)
      ∧ m' ((c.tc : Thread Cert.MergeBwdReferenceIdeal.nD Cert.MergeBwdReferenceIdeal.τ).loc Cert.MergeBwdReferenceIdeal.main_arg5) = m ((c.tc : Thread Cert.MergeBwdIdeal.nD Cert.MergeBwdIdeal.τ).loc Cert.MergeBwdIdeal.main_arg5)
      ∧ m' ((c.tc : Thread Cert.MergeBwdReferenceIdeal.nD Cert.MergeBwdReferenceIdeal.τ).loc Cert.MergeBwdReferenceIdeal.main_arg6) = m ((c.tc : Thread Cert.MergeBwdIdeal.nD Cert.MergeBwdIdeal.τ).loc Cert.MergeBwdIdeal.main_arg6)
      ∧ m' ((c.tc : Thread Cert.MergeBwdReferenceIdeal.nD Cert.MergeBwdReferenceIdeal.τ).loc Cert.MergeBwdReferenceIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v5_0)) (v1 : (c : Dev Cert.MergeBwdIdeal.nD) → Buf (Elt Ideal) ((c.tc : Thread Cert.MergeBwdIdeal.nD Cert.MergeBwdIdeal.τ).loc Cert.MergeBwdIdeal.main_v5_1)) (v2 : (c : Dev Cert.MergeBwdIdeal.nD) → Buf (Elt Ideal) ((c.tc : Thread Cert.MergeBwdIdeal.nD Cert.MergeBwdIdeal.τ).loc Cert.MergeBwdIdeal.main_v5_2)) (v3 : (c : Dev Cert.MergeBwdIdeal.nD) → Buf (Elt Ideal) ((c.tc : Thread Cert.MergeBwdIdeal.nD Cert.MergeBwdIdeal.τ).loc Cert.MergeBwdIdeal.main_v5_3)) (v4 : (c : Dev Cert.MergeBwdIdeal.nD) → Buf (Elt Ideal) ((c.tc : Thread Cert.MergeBwdIdeal.nD Cert.MergeBwdIdeal.τ).loc Cert.MergeBwdIdeal.main_v5_4)) (v5 : (c : Dev Cert.MergeBwdIdeal.nD) → Buf (Elt Ideal) ((c.tc : Thread Cert.MergeBwdIdeal.nD Cert.MergeBwdIdeal.τ).loc Cert.MergeBwdIdeal.main_v5_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v5_0) = v0 c
          ∧ r.2.mem ((c.tc : Thread Cert.MergeBwdIdeal.nD Cert.MergeBwdIdeal.τ).loc Cert.MergeBwdIdeal.main_v5_1) = v1 c
          ∧ r.2.mem ((c.tc : Thread Cert.MergeBwdIdeal.nD Cert.MergeBwdIdeal.τ).loc Cert.MergeBwdIdeal.main_v5_2) = v2 c
          ∧ r.2.mem ((c.tc : Thread Cert.MergeBwdIdeal.nD Cert.MergeBwdIdeal.τ).loc Cert.MergeBwdIdeal.main_v5_3) = v3 c
          ∧ r.2.mem ((c.tc : Thread Cert.MergeBwdIdeal.nD Cert.MergeBwdIdeal.τ).loc Cert.MergeBwdIdeal.main_v5_4) = v4 c
          ∧ r.2.mem ((c.tc : Thread Cert.MergeBwdIdeal.nD Cert.MergeBwdIdeal.τ).loc Cert.MergeBwdIdeal.main_v5_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v39) = v0 c
          ∧ r.2.mem ((c.tc : Thread Cert.MergeBwdReferenceIdeal.nD Cert.MergeBwdReferenceIdeal.τ).loc Cert.MergeBwdReferenceIdeal.main_v40) = v1 c
          ∧ r.2.mem ((c.tc : Thread Cert.MergeBwdReferenceIdeal.nD Cert.MergeBwdReferenceIdeal.τ).loc Cert.MergeBwdReferenceIdeal.main_v42) = v2 c
          ∧ r.2.mem ((c.tc : Thread Cert.MergeBwdReferenceIdeal.nD Cert.MergeBwdReferenceIdeal.τ).loc Cert.MergeBwdReferenceIdeal.main_v36) = v3 c
          ∧ r.2.mem ((c.tc : Thread Cert.MergeBwdReferenceIdeal.nD Cert.MergeBwdReferenceIdeal.τ).loc Cert.MergeBwdReferenceIdeal.main_v30) = v4 c
          ∧ r.2.mem ((c.tc : Thread Cert.MergeBwdReferenceIdeal.nD Cert.MergeBwdReferenceIdeal.τ).loc Cert.MergeBwdReferenceIdeal.main_v25) = v5 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4)
          ∧ r.2.mem ((c.tc : Thread Cert.MergeBwdReferenceIdeal.nD Cert.MergeBwdReferenceIdeal.τ).loc Cert.MergeBwdReferenceIdeal.main_arg5) = m' ((c.tc : Thread Cert.MergeBwdReferenceIdeal.nD Cert.MergeBwdReferenceIdeal.τ).loc Cert.MergeBwdReferenceIdeal.main_arg5)
          ∧ r.2.mem ((c.tc : Thread Cert.MergeBwdReferenceIdeal.nD Cert.MergeBwdReferenceIdeal.τ).loc Cert.MergeBwdReferenceIdeal.main_arg6) = m' ((c.tc : Thread Cert.MergeBwdReferenceIdeal.nD Cert.MergeBwdReferenceIdeal.τ).loc Cert.MergeBwdReferenceIdeal.main_arg6)
          ∧ r.2.mem ((c.tc : Thread Cert.MergeBwdReferenceIdeal.nD Cert.MergeBwdReferenceIdeal.τ).loc Cert.MergeBwdReferenceIdeal.main_arg7) = m' ((c.tc : Thread Cert.MergeBwdReferenceIdeal.nD Cert.MergeBwdReferenceIdeal.τ).loc Cert.MergeBwdReferenceIdeal.main_arg7))

def preserves_Adamw_AdamwIdeal : Prop :=
  True

def algebraic_AdamwIdeal_AdamwReferenceIdeal [hAdamwIdeal : Cert.AdamwIdeal.Facts] [hAdamwReferenceIdeal : Cert.AdamwReferenceIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwIdeal m →
    (∀ c : Dev Cert.AdamwIdeal.nD,
      m' ((c.tc : Thread Cert.AdamwReferenceIdeal.nD Cert.AdamwReferenceIdeal.τ).loc Cert.AdamwReferenceIdeal.main_arg0) = m ((c.tc : Thread Cert.AdamwIdeal.nD Cert.AdamwIdeal.τ).loc Cert.AdamwIdeal.main_arg0)
      ∧ m' ((c.tc : Thread Cert.AdamwReferenceIdeal.nD Cert.AdamwReferenceIdeal.τ).loc Cert.AdamwReferenceIdeal.main_arg1) = m ((c.tc : Thread Cert.AdamwIdeal.nD Cert.AdamwIdeal.τ).loc Cert.AdamwIdeal.main_arg1)
      ∧ m' ((c.tc : Thread Cert.AdamwReferenceIdeal.nD Cert.AdamwReferenceIdeal.τ).loc Cert.AdamwReferenceIdeal.main_arg2) = m ((c.tc : Thread Cert.AdamwIdeal.nD Cert.AdamwIdeal.τ).loc Cert.AdamwIdeal.main_arg2)
      ∧ m' ((c.tc : Thread Cert.AdamwReferenceIdeal.nD Cert.AdamwReferenceIdeal.τ).loc Cert.AdamwReferenceIdeal.main_arg3) = m ((c.tc : Thread Cert.AdamwIdeal.nD Cert.AdamwIdeal.τ).loc Cert.AdamwIdeal.main_arg3)
      ∧ m' ((c.tc : Thread Cert.AdamwReferenceIdeal.nD Cert.AdamwReferenceIdeal.τ).loc Cert.AdamwReferenceIdeal.main_arg4) = m ((c.tc : Thread Cert.AdamwIdeal.nD Cert.AdamwIdeal.τ).loc Cert.AdamwIdeal.main_arg4)
      ∧ m' ((c.tc : Thread Cert.AdamwReferenceIdeal.nD Cert.AdamwReferenceIdeal.τ).loc Cert.AdamwReferenceIdeal.main_arg5) = m ((c.tc : Thread Cert.AdamwIdeal.nD Cert.AdamwIdeal.τ).loc Cert.AdamwIdeal.main_arg5)
      ∧ m' ((c.tc : Thread Cert.AdamwReferenceIdeal.nD Cert.AdamwReferenceIdeal.τ).loc Cert.AdamwReferenceIdeal.main_arg6) = m ((c.tc : Thread Cert.AdamwIdeal.nD Cert.AdamwIdeal.τ).loc Cert.AdamwIdeal.main_arg6)
      ∧ m' ((c.tc : Thread Cert.AdamwReferenceIdeal.nD Cert.AdamwReferenceIdeal.τ).loc Cert.AdamwReferenceIdeal.main_arg7) = m ((c.tc : Thread Cert.AdamwIdeal.nD Cert.AdamwIdeal.τ).loc Cert.AdamwIdeal.main_arg7)
      ∧ m' ((c.tc : Thread Cert.AdamwReferenceIdeal.nD Cert.AdamwReferenceIdeal.τ).loc Cert.AdamwReferenceIdeal.main_arg8) = m ((c.tc : Thread Cert.AdamwIdeal.nD Cert.AdamwIdeal.τ).loc Cert.AdamwIdeal.main_arg8)
      ∧ m' ((c.tc : Thread Cert.AdamwReferenceIdeal.nD Cert.AdamwReferenceIdeal.τ).loc Cert.AdamwReferenceIdeal.main_arg9) = m ((c.tc : Thread Cert.AdamwIdeal.nD Cert.AdamwIdeal.τ).loc Cert.AdamwIdeal.main_arg9)
      ∧ m' ((c.tc : Thread Cert.AdamwReferenceIdeal.nD Cert.AdamwReferenceIdeal.τ).loc Cert.AdamwReferenceIdeal.main_arg10) = m ((c.tc : Thread Cert.AdamwIdeal.nD Cert.AdamwIdeal.τ).loc Cert.AdamwIdeal.main_arg10)
      ∧ m' ((c.tc : Thread Cert.AdamwReferenceIdeal.nD Cert.AdamwReferenceIdeal.τ).loc Cert.AdamwReferenceIdeal.main_arg11) = m ((c.tc : Thread Cert.AdamwIdeal.nD Cert.AdamwIdeal.τ).loc Cert.AdamwIdeal.main_arg11)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v1_0)) (v4 : (c : Dev Cert.AdamwIdeal.nD) → Buf (Elt Ideal) ((c.tc : Thread Cert.AdamwIdeal.nD Cert.AdamwIdeal.τ).loc Cert.AdamwIdeal.main_v1_1)) (v5 : (c : Dev Cert.AdamwIdeal.nD) → Buf (Elt Ideal) ((c.tc : Thread Cert.AdamwIdeal.nD Cert.AdamwIdeal.τ).loc Cert.AdamwIdeal.main_v1_2)) (v6 : (c : Dev Cert.AdamwIdeal.nD) → Buf (Elt Ideal) ((c.tc : Thread Cert.AdamwIdeal.nD Cert.AdamwIdeal.τ).loc Cert.AdamwIdeal.main_v2_0)) (v7 : (c : Dev Cert.AdamwIdeal.nD) → Buf (Elt Ideal) ((c.tc : Thread Cert.AdamwIdeal.nD Cert.AdamwIdeal.τ).loc Cert.AdamwIdeal.main_v2_1)) (v8 : (c : Dev Cert.AdamwIdeal.nD) → Buf (Elt Ideal) ((c.tc : Thread Cert.AdamwIdeal.nD Cert.AdamwIdeal.τ).loc Cert.AdamwIdeal.main_v2_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v1_0) = v3 c
          ∧ r.2.mem ((c.tc : Thread Cert.AdamwIdeal.nD Cert.AdamwIdeal.τ).loc Cert.AdamwIdeal.main_v1_1) = v4 c
          ∧ r.2.mem ((c.tc : Thread Cert.AdamwIdeal.nD Cert.AdamwIdeal.τ).loc Cert.AdamwIdeal.main_v1_2) = v5 c
          ∧ r.2.mem ((c.tc : Thread Cert.AdamwIdeal.nD Cert.AdamwIdeal.τ).loc Cert.AdamwIdeal.main_v2_0) = v6 c
          ∧ r.2.mem ((c.tc : Thread Cert.AdamwIdeal.nD Cert.AdamwIdeal.τ).loc Cert.AdamwIdeal.main_v2_1) = v7 c
          ∧ r.2.mem ((c.tc : Thread Cert.AdamwIdeal.nD Cert.AdamwIdeal.τ).loc Cert.AdamwIdeal.main_v2_2) = v8 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_v47) = v3 c
          ∧ r.2.mem ((c.tc : Thread Cert.AdamwReferenceIdeal.nD Cert.AdamwReferenceIdeal.τ).loc Cert.AdamwReferenceIdeal.main_v28) = v4 c
          ∧ r.2.mem ((c.tc : Thread Cert.AdamwReferenceIdeal.nD Cert.AdamwReferenceIdeal.τ).loc Cert.AdamwReferenceIdeal.main_v34) = v5 c
          ∧ r.2.mem ((c.tc : Thread Cert.AdamwReferenceIdeal.nD Cert.AdamwReferenceIdeal.τ).loc Cert.AdamwReferenceIdeal.main_v71) = v6 c
          ∧ r.2.mem ((c.tc : Thread Cert.AdamwReferenceIdeal.nD Cert.AdamwReferenceIdeal.τ).loc Cert.AdamwReferenceIdeal.main_v52) = v7 c
          ∧ r.2.mem ((c.tc : Thread Cert.AdamwReferenceIdeal.nD Cert.AdamwReferenceIdeal.τ).loc Cert.AdamwReferenceIdeal.main_v58) = v8 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3)
          ∧ r.2.mem ((c.tc : Thread Cert.AdamwReferenceIdeal.nD Cert.AdamwReferenceIdeal.τ).loc Cert.AdamwReferenceIdeal.main_arg4) = m' ((c.tc : Thread Cert.AdamwReferenceIdeal.nD Cert.AdamwReferenceIdeal.τ).loc Cert.AdamwReferenceIdeal.main_arg4)
          ∧ r.2.mem ((c.tc : Thread Cert.AdamwReferenceIdeal.nD Cert.AdamwReferenceIdeal.τ).loc Cert.AdamwReferenceIdeal.main_arg5) = m' ((c.tc : Thread Cert.AdamwReferenceIdeal.nD Cert.AdamwReferenceIdeal.τ).loc Cert.AdamwReferenceIdeal.main_arg5)
          ∧ r.2.mem ((c.tc : Thread Cert.AdamwReferenceIdeal.nD Cert.AdamwReferenceIdeal.τ).loc Cert.AdamwReferenceIdeal.main_arg6) = m' ((c.tc : Thread Cert.AdamwReferenceIdeal.nD Cert.AdamwReferenceIdeal.τ).loc Cert.AdamwReferenceIdeal.main_arg6)
          ∧ r.2.mem ((c.tc : Thread Cert.AdamwReferenceIdeal.nD Cert.AdamwReferenceIdeal.τ).loc Cert.AdamwReferenceIdeal.main_arg7) = m' ((c.tc : Thread Cert.AdamwReferenceIdeal.nD Cert.AdamwReferenceIdeal.τ).loc Cert.AdamwReferenceIdeal.main_arg7)
          ∧ r.2.mem ((c.tc : Thread Cert.AdamwReferenceIdeal.nD Cert.AdamwReferenceIdeal.τ).loc Cert.AdamwReferenceIdeal.main_arg8) = m' ((c.tc : Thread Cert.AdamwReferenceIdeal.nD Cert.AdamwReferenceIdeal.τ).loc Cert.AdamwReferenceIdeal.main_arg8)
          ∧ r.2.mem ((c.tc : Thread Cert.AdamwReferenceIdeal.nD Cert.AdamwReferenceIdeal.τ).loc Cert.AdamwReferenceIdeal.main_arg9) = m' ((c.tc : Thread Cert.AdamwReferenceIdeal.nD Cert.AdamwReferenceIdeal.τ).loc Cert.AdamwReferenceIdeal.main_arg9)
          ∧ r.2.mem ((c.tc : Thread Cert.AdamwReferenceIdeal.nD Cert.AdamwReferenceIdeal.τ).loc Cert.AdamwReferenceIdeal.main_arg10) = m' ((c.tc : Thread Cert.AdamwReferenceIdeal.nD Cert.AdamwReferenceIdeal.τ).loc Cert.AdamwReferenceIdeal.main_arg10)
          ∧ r.2.mem ((c.tc : Thread Cert.AdamwReferenceIdeal.nD Cert.AdamwReferenceIdeal.τ).loc Cert.AdamwReferenceIdeal.main_arg11) = m' ((c.tc : Thread Cert.AdamwReferenceIdeal.nD Cert.AdamwReferenceIdeal.τ).loc Cert.AdamwReferenceIdeal.main_arg11))

def Claim : Prop :=
  ∃ (hFfn : Cert.Ffn.Facts) (hFfnIdeal : Cert.FfnIdeal.Facts) (hFfnReferenceIdeal : Cert.FfnReferenceIdeal.Facts) (hKernel : Cert.Kernel.Facts) (hKernelIdeal : Cert.KernelIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hMergeBwd : Cert.MergeBwd.Facts) (hMergeBwdIdeal : Cert.MergeBwdIdeal.Facts) (hMergeBwdReferenceIdeal : Cert.MergeBwdReferenceIdeal.Facts) (hAdamw : Cert.Adamw.Facts) (hAdamwIdeal : Cert.AdamwIdeal.Facts) (hAdamwReferenceIdeal : Cert.AdamwReferenceIdeal.Facts) (hPre_finite_ffn : Cert.Pre_finite_ffn.Facts) (hPre_finite_proj : Cert.Pre_finite_proj.Facts),
    quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Kernel (hKernel := hKernel)
    ∧ quiescent_KernelIdeal (hKernelIdeal := hKernelIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_Adamw (hAdamw := hAdamw)
    ∧ quiescent_AdamwIdeal (hAdamwIdeal := hAdamwIdeal)
    ∧ quiescent_AdamwReferenceIdeal (hAdamwReferenceIdeal := hAdamwReferenceIdeal)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Kernel_KernelIdeal
    ∧ preserves_Proj_ProjIdeal
    ∧ algebraic_ProjIdeal_ProjReferenceIdeal_pre_finite_proj (hProjIdeal := hProjIdeal) (hProjReferenceIdeal := hProjReferenceIdeal) (hPre_finite_proj := hPre_finite_proj)
    ∧ preserves_Merge_MergeIdeal
    ∧ algebraic_MergeIdeal_MergeReferenceIdeal (hMergeIdeal := hMergeIdeal) (hMergeReferenceIdeal := hMergeReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_Adamw_AdamwIdeal
    ∧ algebraic_AdamwIdeal_AdamwReferenceIdeal (hAdamwIdeal := hAdamwIdeal) (hAdamwReferenceIdeal := hAdamwReferenceIdeal)
-- ==== Pre_finite_ffn.lean ====
abbrev S4352x1024 : Shape := ⟨2, ![4352, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4352x1024 .f32) (main_arg1 : FVec F S1024 .f32) (main_arg2 : FVec F S1024x5632 .f32) (main_arg3 : FVec F S2816x1024 .f32) (main_arg4 : FVec F S4352x1024 .f32) : IVec S4352x1024 1 × IVec S1024 1 × IVec S1024x5632 1 × IVec S2816x1024 1 × IVec S4352x1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4352x1024 .f32 := Host.absf main_arg4
  let main_cst_3 : FVec F S_ .f32 := constant S_ .f32 0x7F800000#32
  let main_v13 : FVec F S4352x1024 .f32 := broadcastInDim S4352x1024 ![] bcast_S_S4352x1024 main_cst_3
  let main_v14 : IVec S4352x1024 1 := cmpf .olt main_v12 main_v13
  (main_v2, main_v5, main_v8, main_v11, main_v14)
-- ==== Pre_finite_proj.lean ====
abbrev S4352x1024 : Shape := ⟨2, ![4352, 1024]⟩
abbrev S1024 : Shape := ⟨1, ![1024]⟩
abbrev S1024x4480 : Shape := ⟨2, ![1024, 4480]⟩
abbrev S4352x896 : Shape := ⟨2, ![4352, 896]⟩
abbrev S4352x1536 : Shape := ⟨2, ![4352, 1536]⟩
abbrev S4352x2048 : Shape := ⟨2, ![4352, 2048]⟩
abbrev S_ : Shape := ⟨0, ![]⟩

class Facts : Prop where
  bcast_S_S4352x1024 : S_.BroadcastsInDim S4352x1024 (![] : Fin 0 → Fin S4352x1024.rank)
  bcast_S_S1024 : S_.BroadcastsInDim S1024 (![] : Fin 0 → Fin S1024.rank)
  bcast_S_S1024x4480 : S_.BroadcastsInDim S1024x4480 (![] : Fin 0 → Fin S1024x4480.rank)
  bcast_S_S4352x896 : S_.BroadcastsInDim S4352x896 (![] : Fin 0 → Fin S4352x896.rank)
  bcast_S_S4352x1536 : S_.BroadcastsInDim S4352x1536 (![] : Fin 0 → Fin S4352x1536.rank)
  bcast_S_S4352x2048 : S_.BroadcastsInDim S4352x2048 (![] : Fin 0 → Fin S4352x2048.rank)

variable [Facts]

def fn_part1 {F : FTy → Type} [FloatOps F] (main_arg6 : FVec F S4352x2048 .f32) (main_v2 : IVec S4352x1024 1) (main_v5 : IVec S1024 1) (main_v8 : IVec S1024x4480 1) (main_v11 : IVec S4352x1024 1) (main_v14 : IVec S4352x896 1) (main_v17 : IVec S4352x1536 1) : IVec S4352x1024 1 × IVec S1024 1 × IVec S1024x4480 1 × IVec S4352x1024 1 × IVec S4352x896 1 × IVec S4352x1536 1 × IVec S4352x2048 1 :=
  let main_v18 : FVec F S4352x2048 .f32 := Host.absf main_arg6
  let main_cst_5 : FVec F S_ .f32 := constant S_ .f32 0x7F800000#32
  let main_v19 : FVec F S4352x2048 .f32 := broadcastInDim S4352x2048 ![] bcast_S_S4352x2048 main_cst_5
  let main_v20 : IVec S4352x2048 1 := cmpf .olt main_v18 main_v19
  (main_v2, main_v5, main_v8, main_v11, main_v14, main_v17, main_v20)

def fn {F : FTy → Type} [FloatOps F] (main_arg0 : FVec F S4352x1024 .f32) (main_arg1 : FVec F S1024 .f32) (main_arg2 : FVec F S1024x4480 .f32) (main_arg3 : FVec F S4352x1024 .f32) (main_arg4 : FVec F S4352x896 .f32) (main_arg5 : FVec F S4352x1536 .f32) (main_arg6 : FVec F S4352x2048 .f32) : IVec S4352x1024 1 × IVec S1024 1 × IVec S1024x4480 1 × IVec S4352x1024 1 × IVec S4352x896 1 × IVec S4352x1536 1 × IVec S4352x2048 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4480 .f32 := Host.absf main_arg2
  let main_cst_1 : FVec F S_ .f32 := constant S_ .f32 0x7F800000#32
  let main_v7 : FVec F S1024x4480 .f32 := broadcastInDim S1024x4480 ![] bcast_S_S1024x4480 main_cst_1
  let main_v8 : IVec S1024x4480 1 := cmpf .olt main_v6 main_v7
  let main_v9 : FVec F S4352x1024 .f32 := Host.absf main_arg3
  let main_cst_2 : FVec F S_ .f32 := constant S_ .f32 0x7F800000#32
  let main_v10 : FVec F S4352x1024 .f32 := broadcastInDim S4352x1024 ![] bcast_S_S4352x1024 main_cst_2
  let main_v11 : IVec S4352x1024 1 := cmpf .olt main_v9 main_v10
  let main_v12 : FVec F S4352x896 .f32 := Host.absf main_arg4
  let main_cst_3 : FVec F S_ .f32 := constant S_ .f32 0x7F800000#32
  let main_v13 : FVec F S4352x896 .f32 := broadcastInDim S4352x896 ![] bcast_S_S4352x896 main_cst_3
  let main_v14 : IVec S4352x896 1 := cmpf .olt main_v12 main_v13
  let main_v15 : FVec F S4352x1536 .f32 := Host.absf main_arg5
  let main_cst_4 : FVec F S_ .f32 := constant S_ .f32 0x7F800000#32
  let main_v16 : FVec F S4352x1536 .f32 := broadcastInDim S4352x1536 ![] bcast_S_S4352x1536 main_cst_4
  let main_v17 : IVec S4352x1536 1 := cmpf .olt main_v15 main_v16
  fn_part1 (F := F) main_arg6 main_v2 main_v5 main_v8 main_v11 main_v14 main_v17
-- ==== Ffn.lean ====
abbrev S4352x1024 : Shape := ⟨2, ![4352, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4352x2816 : Shape := ⟨2, ![4352, 2816]⟩
abbrev S272x1024 : Shape := ⟨2, ![272, 1024]⟩
abbrev S272x2816 : Shape := ⟨2, ![272, 2816]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S2x4352x2816 : Shape := ⟨3, ![2, 4352, 2816]⟩
abbrev S16x1x1024 : Shape := ⟨3, ![16, 1, 1024]⟩
abbrev S2x272x2816 : Shape := ⟨3, ![2, 272, 2816]⟩
abbrev S1x1x1024 : Shape := ⟨3, ![1, 1, 1024]⟩
abbrev S256x1024 : Shape := ⟨2, ![256, 1024]⟩
abbrev S1x272x256 : Shape := ⟨3, ![1, 272, 256]⟩
abbrev S1x272x2816 : Shape := ⟨3, ![1, 272, 2816]⟩
abbrev S1024x2816 : Shape := ⟨2, ![1024, 2816]⟩
abbrev S_ : Shape := ⟨0, ![]⟩
abbrev S4352x512 : Shape := ⟨2, ![4352, 512]⟩
abbrev S1x4352x1408 : Shape := ⟨3, ![1, 4352, 1408]⟩
abbrev S512x1408 : Shape := ⟨2, ![512, 1408]⟩
abbrev S4352x1408 : Shape := ⟨2, ![4352, 1408]⟩
abbrev S4352x256 : Shape := ⟨2, ![4352, 256]⟩

abbrev nBuf : Space → Nat
  | .hbm => 22
  | .vmem => 46
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4352x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S4352x1024, .f32⟩
  | .hbm, ⟨9, _⟩ => ⟨S4352x2816, .f32⟩
  | .hbm, ⟨10, _⟩ => ⟨S4352x2816, .f32⟩
  | .hbm, ⟨11, _⟩ => ⟨S4352x1024, .f32⟩
  | .hbm, ⟨12, _⟩ => ⟨S4352x1024, .bf16⟩
  | .hbm, ⟨13, _⟩ => ⟨S4352x2816, .bf16⟩
  | .hbm, ⟨14, _⟩ => ⟨S2x4352x2816, .bf16⟩
  | .hbm, ⟨15, _⟩ => ⟨S4352x1024, .bf16⟩
  | .hbm, ⟨16, _⟩ => ⟨S16x1x1024, .f32⟩
  | .hbm, ⟨17, _⟩ => ⟨S_, .f32⟩
  | .hbm, ⟨18, _⟩ => ⟨S1x1024, .f32⟩
  | .hbm, ⟨19, _⟩ => ⟨S1024, .f32⟩
  | .hbm, ⟨20, _⟩ => ⟨S1024x5632, .f32⟩
  | .hbm, ⟨21, _⟩ => ⟨S2816x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S272x1024, .f32⟩
  | .local _ .vmem, ⟨6, _⟩ => ⟨S272x1024, .f32⟩
  | .local _ .vmem, ⟨7, _⟩ => ⟨S272x2816, .f32⟩
  | .local _ .vmem, ⟨8, _⟩ => ⟨S272x2816, .f32⟩
  | .local _ .vmem, ⟨9, _⟩ => ⟨S272x2816, .f32⟩
  | .local _ .vmem, ⟨10, _⟩ => ⟨S272x2816, .f32⟩
  | .local _ .vmem, ⟨11, _⟩ => ⟨S272x2816, .bf16⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S1x1024, .f32⟩
  | .local _ .vmem, ⟨17, _⟩ => ⟨S272x2816, .f32⟩
  | .local _ .vmem, ⟨18, _⟩ => ⟨S272x2816, .f32⟩
  | .local _ .vmem, ⟨19, _⟩ => ⟨S272x2816, .f32⟩
  | .local _ .vmem, ⟨20, _⟩ => ⟨S272x2816, .f32⟩
  | .local _ .vmem, ⟨21, _⟩ => ⟨S1024x5632, .bf16⟩
  | .local _ .vmem, ⟨22, _⟩ => ⟨S2816x1024, .bf16⟩
  | .local _ .vmem, ⟨23, _⟩ => ⟨S272x1024, .f32⟩
  | .local _ .vmem, ⟨24, _⟩ => ⟨S272x1024, .f32⟩
  | .local _ .vmem, ⟨25, _⟩ => ⟨S272x1024, .bf16⟩
  | .local _ .vmem, ⟨26, _⟩ => ⟨S272x1024, .bf16⟩
  | .local _ .vmem, ⟨27, _⟩ => ⟨S272x2816, .bf16⟩
  | .local _ .vmem, ⟨28, _⟩ => ⟨S272x2816, .bf16⟩
  | .local _ .vmem, ⟨29, _⟩ => ⟨S2x272x2816, .bf16⟩
  | .local _ .vmem, ⟨30, _⟩ => ⟨S2x272x2816, .bf16⟩
  | .local _ .vmem, ⟨31, _⟩ => ⟨S272x1024, .bf16⟩
  | .local _ .vmem, ⟨32, _⟩ => ⟨S272x1024, .bf16⟩
  | .local _ .vmem, ⟨33, _⟩ => ⟨S1x1x1024, .f32⟩
  | .local _ .vmem, ⟨34, _⟩ => ⟨S1x1x1024, .f32⟩
  | .local _ .vmem, ⟨35, _⟩ => ⟨S4352x512, .bf16⟩
  | .local _ .vmem, ⟨36, _⟩ => ⟨S4352x512, .bf16⟩
  | .local _ .vmem, ⟨37, _⟩ => ⟨S1x4352x1408, .bf16⟩
  | .local _ .vmem, ⟨38, _⟩ => ⟨S1x4352x1408, .bf16⟩
  | .local _ .vmem, ⟨39, _⟩ => ⟨S512x1408, .f32⟩
  | .local _ .vmem, ⟨40, _⟩ => ⟨S512x1408, .f32⟩
  | .local _ .vmem, ⟨41, _⟩ => ⟨S4352x256, .bf16⟩
  | .local _ .vmem, ⟨42, _⟩ => ⟨S4352x256, .bf16⟩
  | .local _ .vmem, ⟨43, _⟩ => ⟨S4352x1024, .bf16⟩
  | .local _ .vmem, ⟨44, _⟩ => ⟨S256x1024, .f32⟩
  | .local _ .vmem, ⟨45, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem2_1 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S272x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S272x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S272x2816 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S272x2816 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x5632 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S272x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S272x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S272x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x272x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S272x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4352x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4352x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4352x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4352x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== FfnReferenceIdeal.lean ====
abbrev S4352x1024 : Shape := ⟨2, ![4352, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x5632 : Shape := ⟨2, ![4352, 5632]⟩
abbrev S4352x2816 : Shape := ⟨2, ![4352, 2816]⟩
abbrev S1024x2816 : Shape := ⟨2, ![1024, 2816]⟩
abbrev S5632x1024 : Shape := ⟨2, ![5632, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1024, .f32⟩
  | .hbm, ⟨21, _⟩ => ⟨S4352x1024, .f32⟩
  | .hbm, ⟨22, _⟩ => ⟨S1x1024, .f32⟩
  | .hbm, ⟨23, _⟩ => ⟨S4352x1024, .f32⟩
  | .hbm, ⟨24, _⟩ => ⟨S4352x1024, .f32⟩
  | .hbm, ⟨25, _⟩ => ⟨S4352x5632, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x2816, .f32⟩
  | .hbm, ⟨30, _⟩ => ⟨S_, .f32⟩
  | .hbm, ⟨31, _⟩ => ⟨S4352x2816, .f32⟩
  | .hbm, ⟨32, _⟩ => ⟨S4352x2816, .f32⟩
  | .hbm, ⟨33, _⟩ => ⟨S_, .f32⟩
  | .hbm, ⟨34, _⟩ => ⟨S4352x2816, .f32⟩
  | .hbm, ⟨35, _⟩ => ⟨S4352x2816, .f32⟩
  | .hbm, ⟨36, _⟩ => ⟨S_, .f32⟩
  | .hbm, ⟨37, _⟩ => ⟨S4352x2816, .f32⟩
  | .hbm, ⟨38, _⟩ => ⟨S4352x2816, .f32⟩
  | .hbm, ⟨39, _⟩ => ⟨S4352x2816, .f32⟩
  | .hbm, ⟨40, _⟩ => ⟨S4352x2816, .f32⟩
  | .hbm, ⟨41, _⟩ => ⟨S4352x2816, .f32⟩
  | .hbm, ⟨42, _⟩ => ⟨S4352x1024, .f32⟩
  | .hbm, ⟨43, _⟩ => ⟨S_, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S_, .f32⟩
  | .hbm, ⟨49, _⟩ => ⟨S4352x1024, .f32⟩
  | .hbm, ⟨50, _⟩ => ⟨S4352x1024, .f32⟩
  | .hbm, ⟨51, _⟩ => ⟨S1024x2816, .f32⟩
  | .hbm, ⟨52, _⟩ => ⟨S2816x1024, .f32⟩
  | .hbm, ⟨53, _⟩ => ⟨S4352x2816, .f32⟩
  | .hbm, ⟨54, _⟩ => ⟨S4352x2816, .f32⟩
  | .hbm, ⟨55, _⟩ => ⟨S4352x2816, .f32⟩
  | .hbm, ⟨56, _⟩ => ⟨S4352x2816, .f32⟩
  | .hbm, ⟨57, _⟩ => ⟨S4352x2816, .f32⟩
  | .hbm, ⟨58, _⟩ => ⟨S4352x2816, .f32⟩
  | .hbm, ⟨59, _⟩ => ⟨S4352x2816, .f32⟩
  | .hbm, ⟨60, _⟩ => ⟨S4352x5632, .f32⟩
  | .hbm, ⟨61, _⟩ => ⟨S5632x1024, .f32⟩
  | .hbm, ⟨62, _⟩ => ⟨S1024x5632, .f32⟩
  | .hbm, ⟨63, _⟩ => ⟨S4352x1024, .f32⟩
  | .hbm, ⟨64, _⟩ => ⟨S4352x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4352x1024, .f32⟩
  | .hbm, ⟨69, _⟩ => ⟨S4352x1024, .f32⟩
  | .hbm, ⟨70, _⟩ => ⟨S_, .f32⟩
  | .hbm, ⟨71, _⟩ => ⟨S1024, .f32⟩
  | .hbm, ⟨72, _⟩ => ⟨S4352x1024, .f32⟩
  | .hbm, ⟨73, _⟩ => ⟨S_, .f32⟩
  | .hbm, ⟨74, _⟩ => ⟨S4352, .f32⟩
  | .hbm, ⟨75, _⟩ => ⟨S4352x1, .f32⟩
  | .hbm, ⟨76, _⟩ => ⟨S4352x1024, .f32⟩
  | .hbm, ⟨77, _⟩ => ⟨S4352x1024, .f32⟩
  | .hbm, ⟨78, _⟩ => ⟨S4352x1024, .f32⟩
  | .hbm, ⟨79, _⟩ => ⟨S4352x1, .f32⟩
  | .hbm, ⟨80, _⟩ => ⟨S_, .f32⟩
  | .hbm, ⟨81, _⟩ => ⟨S4352x1, .f32⟩
  | .hbm, ⟨82, _⟩ => ⟨S4352x1, .f32⟩
  | .hbm, ⟨83, _⟩ => ⟨S_, .f32⟩
  | .hbm, ⟨84, _⟩ => ⟨S4352, .f32⟩
  | .hbm, ⟨85, _⟩ => ⟨S4352x1024, .f32⟩
  | .hbm, ⟨86, _⟩ => ⟨S4352x1024, .f32⟩
  | .hbm, ⟨87, _⟩ => ⟨S4352x1024, .f32⟩
  | .hbm, ⟨88, _⟩ => ⟨S4352x1024, .f32⟩
  | .hbm, ⟨89, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel.lean ====
abbrev S2x2176x8x64 : Shape := ⟨4, ![2, 2176, 8, 64]⟩
abbrev S2x2176x2x64 : Shape := ⟨4, ![2, 2176, 2, 64]⟩
abbrev S8 : Shape := ⟨1, ![8]⟩
abbrev S2x2176x512 : Shape := ⟨3, ![2, 2176, 512]⟩
abbrev S4352x8x64 : Shape := ⟨3, ![4352, 8, 64]⟩
abbrev S_ : Shape := ⟨0, ![]⟩
abbrev S4352x4x64 : Shape := ⟨3, ![4352, 4, 64]⟩
abbrev S4352x4x128 : Shape := ⟨3, ![4352, 4, 128]⟩
abbrev S4352x8x128 : Shape := ⟨3, ![4352, 8, 128]⟩
abbrev S4352x1024 : Shape := ⟨2, ![4352, 1024]⟩
abbrev S4352x128 : Shape := ⟨2, ![4352, 128]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S1x2x4x1 : Shape := ⟨4, ![1, 2, 4, 1]⟩
abbrev S2x2x4x128 : Shape := ⟨4, ![2, 2, 4, 128]⟩
abbrev S1x2x4x128 : Shape := ⟨4, ![1, 2, 4, 128]⟩
abbrev S2x17x128x2x4x64 : Shape := ⟨6, ![2, 17, 128, 2, 4, 64]⟩
abbrev S2x17x128x2x64 : Shape := ⟨5, ![2, 17, 128, 2, 64]⟩
abbrev S2x1x128x2x64 : Shape := ⟨5, ![2, 1, 128, 2, 64]⟩
abbrev S2x16x128x2x64 : Shape := ⟨5, ![2, 16, 128, 2, 64]⟩
abbrev S2x17x256x2x64 : Shape := ⟨5, ![2, 17, 256, 2, 64]⟩
abbrev S2x16x2x64 : Shape := ⟨4, ![2, 16, 2, 64]⟩
abbrev S2x1x16x2x64 : Shape := ⟨5, ![2, 1, 16, 2, 64]⟩
abbrev S2x17x16x2x64 : Shape := ⟨5, ![2, 17, 16, 2, 64]⟩
abbrev S2x17x272x2x64 : Shape := ⟨5, ![2, 17, 272, 2, 64]⟩
abbrev S2176 : Shape := ⟨1, ![2176]⟩
abbrev S17x128 : Shape := ⟨2, ![17, 128]⟩
abbrev S17 : Shape := ⟨1, ![17]⟩
abbrev S17x1 : Shape := ⟨2, ![17, 1]⟩
abbrev S256 : Shape := ⟨1, ![256]⟩
abbrev S1x256 : Shape := ⟨2, ![1, 256]⟩
abbrev S17x256 : Shape := ⟨2, ![17, 256]⟩
abbrev S16 : Shape := ⟨1, ![16]⟩
abbrev S1x16 : Shape := ⟨2, ![1, 16]⟩
abbrev S17x16 : Shape := ⟨2, ![17, 16]⟩
abbrev S17x272 : Shape := ⟨2, ![17, 272]⟩
abbrev S272 : Shape := ⟨1, ![272]⟩
abbrev S17x128x1 : Shape := ⟨3, ![17, 128, 1]⟩
abbrev S17x1x272 : Shape := ⟨3, ![17, 1, 272]⟩
abbrev S17x128x272 : Shape := ⟨3, ![17, 128, 272]⟩
abbrev S1x1x272 : Shape := ⟨3, ![1, 1, 272]⟩
abbrev S2x17x2x272x128x4 : Shape := ⟨6, ![2, 17, 2, 272, 128, 4]⟩
abbrev S2x17x2x4x128x272 : Shape := ⟨6, ![2, 17, 2, 4, 128, 272]⟩
abbrev S1x1x2x4x1x1 : Shape := ⟨6, ![1, 1, 2, 4, 1, 1]⟩
abbrev S1x17x1x1x128x272 : Shape := ⟨6, ![1, 17, 1, 1, 128, 272]⟩
abbrev S1x17x2x4x128x272 : Shape := ⟨6, ![1, 17, 2, 4, 128, 272]⟩
abbrev S2x1x2x4x128x1 : Shape := ⟨6, ![2, 1, 2, 4, 128, 1]⟩
abbrev S2x17x2x4x128x1 : Shape := ⟨6, ![2, 17, 2, 4, 128, 1]⟩
abbrev S2x17x2x4x128x273 : Shape := ⟨6, ![2, 17, 2, 4, 128, 273]⟩
abbrev S2x17x2x4x128 : Shape := ⟨5, ![2, 17, 2, 4, 128]⟩
abbrev S2x17x2x512x1 : Shape := ⟨5, ![2, 17, 2, 512, 1]⟩
abbrev S2x2176x1024 : Shape := ⟨3, ![2, 2176, 1024]⟩
abbrev S2x2176x128 : Shape := ⟨3, ![2, 2176, 128]⟩
abbrev S2x2x512x1 : Shape := ⟨4, ![2, 2, 512, 1]⟩
abbrev S2x128x1024 : Shape := ⟨3, ![2, 128, 1024]⟩
abbrev S2x128x128 : Shape := ⟨3, ![2, 128, 128]⟩
abbrev S2x1x2x512x1 : Shape := ⟨5, ![2, 1, 2, 512, 1]⟩
abbrev S2x128x512 : Shape := ⟨3, ![2, 128, 512]⟩
abbrev S128x128 : Shape := ⟨2, ![128, 128]⟩
abbrev S1x128x128 : Shape := ⟨3, ![1, 128, 128]⟩
abbrev S384x128 : Shape := ⟨2, ![384, 128]⟩
abbrev S1x128x1024 : Shape := ⟨3, ![1, 128, 1024]⟩
abbrev S128x1024 : Shape := ⟨2, ![128, 1024]⟩
abbrev S512x128 : Shape := ⟨2, ![512, 128]⟩
abbrev S512x384 : Shape := ⟨2, ![512, 384]⟩
abbrev S1x1x1x512x1 : Shape := ⟨5, ![1, 1, 1, 512, 1]⟩
abbrev S512x1 : Shape := ⟨2, ![512, 1]⟩
abbrev S1x512x1 : Shape := ⟨3, ![1, 512, 1]⟩
abbrev S512 : Shape := ⟨1, ![512]⟩
abbrev S1x1x512x1 : Shape := ⟨4, ![1, 1, 512, 1]⟩

abbrev nBuf : Space → Nat
  | .hbm => 172
  | .vmem => 25
  | .smem => 0
  | _ => 0

abbrev hbmTy0_0 (i : Nat) : BufTy := match i % 128 with
  | 0 => ⟨S2x2176x8x64, .f32⟩
  | 1 => ⟨S2x2176x2x64, .f32⟩
  | 2 => ⟨S2x2176x2x64, .f32⟩
  | 3 => ⟨S8, .f32⟩
  | 4 => ⟨S2x2176x512, .f32⟩
  | 5 => ⟨S4352x8x64, .f32⟩
  | 6 => ⟨S4352x8x64, .bf16⟩
  | 7 => ⟨S_, .bf16⟩
  | 8 => ⟨S4352x4x64, .bf16⟩
  | 9 => ⟨S4352x4x64, .bf16⟩
  | 10 => ⟨S4352x4x128, .bf16⟩
  | 11 => ⟨S4352x4x64, .bf16⟩
  | 12 => ⟨S4352x4x128, .bf16⟩
  | 13 => ⟨S4352x8x128, .bf16⟩
  | 14 => ⟨S4352x1024, .bf16⟩
  | 15 => ⟨S4352x8x64, .f32⟩
  | 16 => ⟨S4352x8x64, .bf16⟩
  | 17 => ⟨S_, .bf16⟩
  | 18 => ⟨S4352x4x64, .bf16⟩
  | 19 => ⟨S4352x4x64, .bf16⟩
  | 20 => ⟨S4352x4x128, .bf16⟩
  | 21 => ⟨S4352x4x64, .bf16⟩
  | 22 => ⟨S4352x4x128, .bf16⟩
  | 23 => ⟨S4352x8x128, .bf16⟩
  | 24 => ⟨S4352x1024, .bf16⟩
  | 25 => ⟨S4352x128, .f32⟩
  | 26 => ⟨S4352x128, .bf16⟩
  | 27 => ⟨S4352x128, .f32⟩
  | 28 => ⟨S4352x128, .bf16⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S2x4, .f32⟩
  | 44 => ⟨S2x4x128, .f32⟩
  | 45 => ⟨S2x512, .f32⟩
  | 46 => ⟨S2x512x1, .f32⟩
  | 47 => ⟨S2x4, .f32⟩
  | 48 => ⟨S1x2x4x1, .f32⟩
  | 49 => ⟨S2x2x4x128, .f32⟩
  | 50 => ⟨S1x2x4x128, .f32⟩
  | 51 => ⟨S2x4x128, .f32⟩
  | 52 => ⟨S2x512x1, .f32⟩
  | 53 => ⟨S2x17x128x2x4x64, .f32⟩
  | 54 => ⟨S2x17x128x2x64, .f32⟩
  | 55 => ⟨S2x1x128x2x64, .f32⟩
  | 56 => ⟨S_, .f32⟩
  | 57 => ⟨S2x1x128x2x64, .f32⟩
  | 58 => ⟨S2x16x128x2x64, .f32⟩
  | 59 => ⟨S2x17x128x2x64, .f32⟩
  | 60 => ⟨S2x17x256x2x64, .f32⟩
  | 61 => ⟨S2x16x2x64, .f32⟩
  | 62 => ⟨S2x1x16x2x64, .f32⟩
  | 63 => ⟨S2x17x16x2x64, .f32⟩
  | 64 => ⟨S2x17x272x2x64, .f32⟩
  | 65 => ⟨S2176, .i32⟩
  | 66 => ⟨S17x128, .i32⟩
  | 67 => ⟨S17, .i32⟩
  | 68 => ⟨S17x1, .i32⟩
  | 69 => ⟨S_, .i32⟩
  | 70 => ⟨S17x1, .i32⟩
  | 71 => ⟨S17x1, .i32⟩
  | 72 => ⟨S_, .i32⟩
  | 73 => ⟨S17x1, .i32⟩
  | 74 => ⟨S17x1, .i32⟩
  | 75 => ⟨S256, .i32⟩
  | 76 => ⟨S1x256, .i32⟩
  | 77 => ⟨S17x256, .i32⟩
  | 78 => ⟨S17x256, .i32⟩
  | 79 => ⟨S17x256, .i32⟩
  | 80 => ⟨S16, .i32⟩
  | 81 => ⟨S1x16, .i32⟩
  | 82 => ⟨S_, .i32⟩
  | 83 => ⟨S1x16, .i32⟩
  | 84 => ⟨S1x16, .i32⟩
  | 85 => ⟨S17x16, .i32⟩
  | 86 => ⟨S17x272, .i32⟩
  | 87 => ⟨S_, .i1⟩
  | 88 => ⟨S16, .i1⟩
  | 89 => ⟨S_, .i1⟩
  | 90 => ⟨S256, .i1⟩
  | 91 => ⟨S272, .i1⟩
  | 92 => ⟨S17x128x1, .i32⟩
  | 93 => ⟨S17x1x272, .i32⟩
  | 94 => ⟨S17x128x272, .i32⟩
  | 95 => ⟨S17x128x272, .i32⟩
  | 96 => ⟨S17x128x272, .i32⟩
  | 97 => ⟨S_, .i32⟩
  | 98 => ⟨S17x128x272, .i32⟩
  | 99 => ⟨S17x128x272, .i1⟩
  | 100 => ⟨S17x1x272, .i32⟩
  | 101 => ⟨S_, .i32⟩
  | 102 => ⟨S17x1x272, .i32⟩
  | 103 => ⟨S17x1x272, .i1⟩
  | 104 => ⟨S17x128x272, .i1⟩
  | 105 => ⟨S17x128x272, .i1⟩
  | 106 => ⟨S_, .i32⟩
  | 107 => ⟨S17x128x272, .i32⟩
  | 108 => ⟨S17x128x272, .i1⟩
  | 109 => ⟨S1x1x272, .i1⟩
  | 110 => ⟨S_, .i1⟩
  | 111 => ⟨S17x128x272, .i1⟩
  | 112 => ⟨S17x128x272, .i1⟩
  | 113 => ⟨S17x128x272, .i1⟩
  | 114 => ⟨S17x128x272, .i1⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S_, .f32⟩
  | 126 => ⟨S8, .f32⟩
  | 127 => ⟨S8, .f32⟩
  | _ => ⟨S2x2176x8x64, .f32⟩

abbrev hbmTy0_1 (i : Nat) : BufTy := match i % 128 with
  | 0 => ⟨S8, .f32⟩
  | 1 => ⟨S2x4, .f32⟩
  | 2 => ⟨S2x17x2x272x128x4, .f32⟩
  | 3 => ⟨S2x17x2x4x128x272, .f32⟩
  | 4 => ⟨S_, .f32⟩
  | 5 => ⟨S2x17x2x4x128x272, .f32⟩
  | 6 => ⟨S2x17x2x4x128x272, .f32⟩
  | 7 => ⟨S1x1x2x4x1x1, .f32⟩
  | 8 => ⟨S17x128x272, .f32⟩
  | 9 => ⟨S1x17x1x1x128x272, .f32⟩
  | 10 => ⟨S1x17x2x4x128x272, .f32⟩
  | 11 => ⟨S1x17x2x4x128x272, .f32⟩
  | 12 => ⟨S1x17x2x4x128x272, .f32⟩
  | 13 => ⟨S2x17x2x4x128x272, .f32⟩
  | 14 => ⟨S2x17x2x4x128x272, .f32⟩
  | 15 => ⟨S1x17x1x1x128x272, .i1⟩
  | 16 => ⟨S_, .f32⟩
  | 17 => ⟨S_, .f32⟩
  | 18 => ⟨S2x17x2x4x128x272, .i1⟩
  | 19 => ⟨S2x17x2x4x128x272, .f32⟩
  | 20 => ⟨S2x17x2x4x128x272, .f32⟩
  | 21 => ⟨S2x1x2x4x128x1, .f32⟩
  | 22 => ⟨S2x17x2x4x128x1, .f32⟩
  | 23 => ⟨S2x17x2x4x128x273, .f32⟩
  | 24 => ⟨S_, .f32⟩
  | 25 => ⟨S2x17x2x4x128, .f32⟩
  | 26 => ⟨S2x17x2x4x128x1, .f32⟩
  | 27 => ⟨S2x17x2x4x128x273, .f32⟩
  | 28 => ⟨S2x17x2x4x128x273, .f32⟩
  | 29 => ⟨S2x17x2x4x128x273, .f32⟩
  | 30 => ⟨S_, .f32⟩
  | 31 => ⟨S2x17x2x4x128, .f32⟩
  | 32 => ⟨S2x17x2x4x128, .f32⟩
  | 33 => ⟨S2x17x2x4x128, .f32⟩
  | 34 => ⟨S2x17x2x4x128, .f32⟩
  | 35 => ⟨S2x17x2x512x1, .f32⟩
  | 36 => ⟨S2x2176x1024, .bf16⟩
  | 37 => ⟨S2x2176x128, .bf16⟩
  | 38 => ⟨S2x2176x128, .bf16⟩
  | 39 => ⟨S2x2176x1024, .bf16⟩
  | 40 => ⟨S2x2176x512, .bf16⟩
  | 41 => ⟨S2x2176x128, .bf16⟩
  | 42 => ⟨S2x2176x128, .bf16⟩
  | 43 => ⟨S2x2x512x1, .f32⟩
  | _ => ⟨S2x2176x8x64, .f32⟩

abbrev hbmTy (i : Nat) : BufTy := match i / 128 with
  | 0 => hbmTy0_0 i
  | 1 => hbmTy0_1 i
  | _ => ⟨S2x2176x8x64, .f32⟩

abbrev bufTy : (tb : Table) → Fin (tcTables nBuf tb) → BufTy
  | .hbm, ⟨i, _⟩ => hbmTy i
  | .local _ .vmem, ⟨0, _⟩ => ⟨S2x128x1024, .bf16⟩
  | .local _ .vmem, ⟨1, _⟩ => ⟨S2x128x1024, .bf16⟩
  | .local _ .vmem, ⟨2, _⟩ => ⟨S2x128x128, .bf16⟩
  | .local _ .vmem, ⟨3, _⟩ => ⟨S2x128x128, .bf16⟩
  | .local _ .vmem, ⟨4, _⟩ => ⟨S2x128x128, .bf16⟩
  | .local _ .vmem, ⟨5, _⟩ => ⟨S2x128x128, .bf16⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S2x128x128, .bf16⟩
  | .local _ .vmem, ⟨11, _⟩ => ⟨S2x128x128, .bf16⟩
  | .local _ .vmem, ⟨12, _⟩ => ⟨S2x128x1024, .bf16⟩
  | .local _ .vmem, ⟨13, _⟩ => ⟨S2x128x1024, .bf16⟩
  | .local _ .vmem, ⟨14, _⟩ => ⟨S2x1x2x512x1, .f32⟩
  | .local _ .vmem, ⟨15, _⟩ => ⟨S2x1x2x512x1, .f32⟩
  | .local _ .vmem, ⟨16, _⟩ => ⟨S2x512x1, .f32⟩
  | .local _ .vmem, ⟨17, _⟩ => ⟨S2x512x1, .f32⟩
  | .local _ .vmem, ⟨18, _⟩ => ⟨S2x128x512, .bf16⟩
  | .local _ .vmem, ⟨19, _⟩ => ⟨S2x128x512, .bf16⟩
  | .local _ .vmem, ⟨20, _⟩ => ⟨S2x2176x128, .bf16⟩
  | .local _ .vmem, ⟨21, _⟩ => ⟨S2x2176x128, .bf16⟩
  | .local _ .vmem, ⟨22, _⟩ => ⟨S2x2x512x1, .f32⟩
  | .local _ .vmem, ⟨23, _⟩ => ⟨S2x2176x128, .f32⟩
  | .local _ .vmem, ⟨24, _⟩ => ⟨S2x2176x128, .f32⟩
  | _, _ => ⟨S2x2176x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c_8 : Ref sig .tc := ⟨.hbm, 87, rfl⟩
abbrev main_v72 : Ref sig .tc := ⟨.hbm, 88, rfl⟩
abbrev main_c_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_c_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_c_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_13 : Ref sig .tc := ⟨.hbm, 110, rfl⟩
abbrev main_call0_v0 : Ref sig .tc := ⟨.hbm, 111, rfl⟩
abbrev main_call0_v1 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_v94 : Ref sig .tc := ⟨.hbm, 118, rfl⟩
abbrev main_cst_15 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_cst_17 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_18 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_19 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_21 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134_0 : Ref sig .tc := ⟨.hbm, 168, rfl⟩
abbrev main_v134_1 : Ref sig .tc := ⟨.hbm, 169, rfl⟩
abbrev main_v134_2 : Ref sig .tc := ⟨.hbm, 170, rfl⟩
abbrev main_v134_3 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![17], ![false]⟩

def k0_mult1 : BitVec 32 :=
  let c0_i32_269 : BitVec 32 := 0#32
  c0_i32_269
def k0_mult2 (i : grid0.Coords) : BitVec 32 :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_267 : BitVec 32 := 128#32
  let v318 : BitVec 32 := Scalar.muli v7 c128_i32_267
  v318
def k0_off1 (i : grid0.Coords) : Fin 3 → Nat :=
  let c0_278 : Index := 0#32
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_267 : BitVec 32 := 128#32
  let v318 : BitVec 32 := Scalar.muli v7 c128_i32_267
  let v339 : BitVec 32 := v318
  let v340 : Index := Scalar.indexCast v339
  let c0_279 : Index := 0#32
  ![0, v340.toNat, 0]
def k0_mult3 (i : grid0.Coords) : BitVec 32 :=
  let arg0 : BitVec 32 := BitVec.ofNat 32 (i 0).val
  let c128_i32_268 : BitVec 32 := 128#32
  let v319 : BitVec 32 := Scalar.muli arg0 c128_i32_268
  v319
def k0_off2 (i : grid0.Coords) : Fin 3 → Nat :=
  let c0_286 : Index := 0#32
  let arg0 : BitVec 32 := BitVec.ofNat 32 (i 0).val
  let c128_i32_268 : BitVec 32 := 128#32
  let v319 : BitVec 32 := Scalar.muli arg0 c128_i32_268
  let v358 : BitVec 32 := v319
  let v359 : Index := Scalar.indexCast v358
  let c0_287 : Index := 0#32
  ![0, v359.toNat, 0]
def k0_mult4 : BitVec 32 :=
  let c0_i32_382 : BitVec 32 := 0#32
  c0_i32_382
def k0_mult5 (i : grid0.Coords) : BitVec 32 :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_380 : BitVec 32 := 128#32
  let v537 : BitVec 32 := Scalar.muli v7 c128_i32_380
  v537
def k0_mult6 (i : grid0.Coords) : BitVec 32 :=
  let arg0 : BitVec 32 := BitVec.ofNat 32 (i 0).val
  let c128_i32_381 : BitVec 32 := 128#32
  let v538 : BitVec 32 := Scalar.muli arg0 c128_i32_381
  v538
def k0_mult7 : BitVec 32 :=
  let c0_i32_504 : BitVec 32 := 0#32
  c0_i32_504
def k0_mult8 (i : grid0.Coords) : BitVec 32 :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_502 : BitVec 32 := 128#32
  let v763 : BitVec 32 := Scalar.muli v7 c128_i32_502
  v763
def k0_off3 (i : grid0.Coords) : Fin 3 → Nat :=
  let c1_513 : Index := 1#32
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_502 : BitVec 32 := 128#32
  let v763 : BitVec 32 := Scalar.muli v7 c128_i32_502
  let v784 : BitVec 32 := v763
  let v785 : Index := Scalar.indexCast v784
  let c0_514 : Index := 0#32
  ![1, v785.toNat, 0]
def k0_mult9 (i : grid0.Coords) : BitVec 32 :=
  let arg0 : BitVec 32 := BitVec.ofNat 32 (i 0).val
  let c128_i32_503 : BitVec 32 := 128#32
  let v764 : BitVec 32 := Scalar.muli arg0 c128_i32_503
  v764
def k0_off4 (i : grid0.Coords) : Fin 3 → Nat :=
  let c1_521 : Index := 1#32
  let arg0 : BitVec 32 := BitVec.ofNat 32 (i 0).val
  let c128_i32_503 : BitVec 32 := 128#32
  let v764 : BitVec 32 := Scalar.muli arg0 c128_i32_503
  let v803 : BitVec 32 := v764
  let v804 : Index := Scalar.indexCast v803
  let c0_522 : Index := 0#32
  ![1, v804.toNat, 0]
def k0_mult10 : BitVec 32 :=
  let c0_i32_617 : BitVec 32 := 0#32
  c0_i32_617
def k0_mult11 (i : grid0.Coords) : BitVec 32 :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_615 : BitVec 32 := 128#32
  let v982 : BitVec 32 := Scalar.muli v7 c128_i32_615
  v982
def k0_mult12 (i : grid0.Coords) : BitVec 32 :=
  let arg0 : BitVec 32 := BitVec.ofNat 32 (i 0).val
  let c128_i32_616 : BitVec 32 := 128#32
  let v983 : BitVec 32 := Scalar.muli arg0 c128_i32_616
  v983
def k0_cond2 (i : grid0.Coords) : BitVec 1 :=
  let arg0 : BitVec 32 := BitVec.ofNat 32 (i 0).val
  let c16_i32 : BitVec 32 := 16#32
  let v1070 : BitVec 1 := Scalar.cmpi .eq arg0 c16_i32
  let v1071 : BitVec 32 := Scalar.extui v1070
  let c0_i32_662 : BitVec 32 := 0#32
  let v1072 : BitVec 1 := Scalar.cmpi .ne v1071 c0_i32_662
  v1072

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x2x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x2176x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2176x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x2x512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== Proj.lean ====
abbrev S4352x1024 : Shape := ⟨2, ![4352, 1024]⟩
abbrev S1024 : Shape := ⟨1, ![1024]⟩
abbrev S1024x4480 : Shape := ⟨2, ![1024, 4480]⟩
abbrev S4352x896 : Shape := ⟨2, ![4352, 896]⟩
abbrev S4352x1536 : Shape := ⟨2, ![4352, 1536]⟩
abbrev S4352x2048 : Shape := ⟨2, ![4352, 2048]⟩
abbrev S1x1024 : Shape := ⟨2, ![1, 1024]⟩
abbrev S4352x128 : Shape := ⟨2, ![4352, 128]⟩
abbrev S4352x512 : Shape := ⟨2, ![4352, 512]⟩
abbrev S272x1024 : Shape := ⟨2, ![272, 1024]⟩
abbrev S272x128 : Shape := ⟨2, ![272, 128]⟩
abbrev S272x512 : Shape := ⟨2, ![272, 512]⟩
abbrev S272 : Shape := ⟨1, ![272]⟩
abbrev S272x1 : Shape := ⟨2, ![272, 1]⟩
abbrev S1024x512 : Shape := ⟨2, ![1024, 512]⟩
abbrev S1024x128 : Shape := ⟨2, ![1024, 128]⟩
abbrev S1024x1024 : Shape := ⟨2, ![1024, 1024]⟩
abbrev S1024x896 : Shape := ⟨2, ![1024, 896]⟩
abbrev S512x896 : Shape := ⟨2, ![512, 896]⟩
abbrev S1024x1536 : Shape := ⟨2, ![1024, 1536]⟩
abbrev S4352x768 : Shape := ⟨2, ![4352, 768]⟩
abbrev S512x768 : Shape := ⟨2, ![512, 768]⟩
abbrev S1024x2048 : Shape := ⟨2, ![1024, 2048]⟩
abbrev S512x1024 : Shape := ⟨2, ![512, 1024]⟩
abbrev S16x1x1024 : Shape := ⟨3, ![16, 1, 1024]⟩
abbrev S272x896 : Shape := ⟨2, ![272, 896]⟩
abbrev S272x1536 : Shape := ⟨2, ![272, 1536]⟩
abbrev S272x2048 : Shape := ⟨2, ![272, 2048]⟩
abbrev S1x1x1024 : Shape := ⟨3, ![1, 1, 1024]⟩
abbrev S_ : Shape := ⟨0, ![]⟩

abbrev nBuf : Space → Nat
  | .hbm => 33
  | .vmem => 57
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4480, .f32⟩
  | .hbm, ⟨3, _⟩ => ⟨S4352x1024, .f32⟩
  | .hbm, ⟨4, _⟩ => ⟨S4352x896, .f32⟩
  | .hbm, ⟨5, _⟩ => ⟨S4352x1536, .f32⟩
  | .hbm, ⟨6, _⟩ => ⟨S4352x2048, .f32⟩
  | .hbm, ⟨7, _⟩ => ⟨S1x1024, .f32⟩
  | .hbm, ⟨8, _⟩ => ⟨S1024x4480, .bf16⟩
  | .hbm, ⟨9, _⟩ => ⟨S4352x896, .bf16⟩
  | .hbm, ⟨10, _⟩ => ⟨S4352x1536, .bf16⟩
  | .hbm, ⟨11, _⟩ => ⟨S4352x2048, .bf16⟩
  | .hbm, ⟨12, _⟩ => ⟨S4352x1024, .bf16⟩
  | .hbm, ⟨13, _⟩ => ⟨S4352x1024, .bf16⟩
  | .hbm, ⟨14, _⟩ => ⟨S4352x128, .bf16⟩
  | .hbm, ⟨15, _⟩ => ⟨S4352x128, .bf16⟩
  | .hbm, ⟨16, _⟩ => ⟨S4352x512, .bf16⟩
  | .hbm, ⟨17, _⟩ => ⟨S4352x1024, .bf16⟩
  | .hbm, ⟨18, _⟩ => ⟨S4352x1024, .bf16⟩
  | .hbm, ⟨19, _⟩ => ⟨S4352x1024, .f32⟩
  | .hbm, ⟨20, _⟩ => ⟨S4352x1024, .f32⟩
  | .hbm, ⟨21, _⟩ => ⟨S4352x128, .f32⟩
  | .hbm, ⟨22, _⟩ => ⟨S1024x896, .f32⟩
  | .hbm, ⟨23, _⟩ => ⟨S1024x1536, .f32⟩
  | .hbm, ⟨24, _⟩ => ⟨S1024x2048, .f32⟩
  | .hbm, ⟨25, _⟩ => ⟨S4352x1024, .f32⟩
  | .hbm, ⟨26, _⟩ => ⟨S16x1x1024, .f32⟩
  | .hbm, ⟨27, _⟩ => ⟨S4352x128, .f32⟩
  | .hbm, ⟨28, _⟩ => ⟨S4352x128, .f32⟩
  | .hbm, ⟨29, _⟩ => ⟨S4352x512, .f32⟩
  | .hbm, ⟨30, _⟩ => ⟨S_, .f32⟩
  | .hbm, ⟨31, _⟩ => ⟨S1x1024, .f32⟩
  | .hbm, ⟨32, _⟩ => ⟨S1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1024x4480, .bf16⟩
  | .local _ .vmem, ⟨4, _⟩ => ⟨S272x1024, .bf16⟩
  | .local _ .vmem, ⟨5, _⟩ => ⟨S272x1024, .bf16⟩
  | .local _ .vmem, ⟨6, _⟩ => ⟨S272x1024, .bf16⟩
  | .local _ .vmem, ⟨7, _⟩ => ⟨S272x1024, .bf16⟩
  | .local _ .vmem, ⟨8, _⟩ => ⟨S272x128, .bf16⟩
  | .local _ .vmem, ⟨9, _⟩ => ⟨S272x128, .bf16⟩
  | .local _ .vmem, ⟨10, _⟩ => ⟨S272x128, .bf16⟩
  | .local _ .vmem, ⟨11, _⟩ => ⟨S272x128, .bf16⟩
  | .local _ .vmem, ⟨12, _⟩ => ⟨S272x512, .bf16⟩
  | .local _ .vmem, ⟨13, _⟩ => ⟨S272x512, .bf16⟩
  | .local _ .vmem, ⟨14, _⟩ => ⟨S272x1024, .bf16⟩
  | .local _ .vmem, ⟨15, _⟩ => ⟨S272x1024, .bf16⟩
  | .local _ .vmem, ⟨16, _⟩ => ⟨S272x1024, .bf16⟩
  | .local _ .vmem, ⟨17, _⟩ => ⟨S272x1024, .bf16⟩
  | .local _ .vmem, ⟨18, _⟩ => ⟨S272x1024, .f32⟩
  | .local _ .vmem, ⟨19, _⟩ => ⟨S272x1024, .f32⟩
  | .local _ .vmem, ⟨20, _⟩ => ⟨S272x1024, .f32⟩
  | .local _ .vmem, ⟨21, _⟩ => ⟨S272x1024, .f32⟩
  | .local _ .vmem, ⟨22, _⟩ => ⟨S272x128, .f32⟩
  | .local _ .vmem, ⟨23, _⟩ => ⟨S272x128, .f32⟩
  | .local _ .vmem, ⟨24, _⟩ => ⟨S4352x512, .bf16⟩
  | .local _ .vmem, ⟨25, _⟩ => ⟨S4352x512, .bf16⟩
  | .local _ .vmem, ⟨26, _⟩ => ⟨S4352x896, .bf16⟩
  | .local _ .vmem, ⟨27, _⟩ => ⟨S512x896, .f32⟩
  | .local _ .vmem, ⟨28, _⟩ => ⟨S512x896, .f32⟩
  | .local _ .vmem, ⟨29, _⟩ => ⟨S4352x512, .bf16⟩
  | .local _ .vmem, ⟨30, _⟩ => ⟨S4352x512, .bf16⟩
  | .local _ .vmem, ⟨31, _⟩ => ⟨S4352x768, .bf16⟩
  | .local _ .vmem, ⟨32, _⟩ => ⟨S4352x768, .bf16⟩
  | .local _ .vmem, ⟨33, _⟩ => ⟨S512x768, .f32⟩
  | .local _ .vmem, ⟨34, _⟩ => ⟨S512x768, .f32⟩
  | .local _ .vmem, ⟨35, _⟩ => ⟨S4352x512, .bf16⟩
  | .local _ .vmem, ⟨36, _⟩ => ⟨S4352x512, .bf16⟩
  | .local _ .vmem, ⟨37, _⟩ => ⟨S4352x1024, .bf16⟩
  | .local _ .vmem, ⟨38, _⟩ => ⟨S4352x1024, .bf16⟩
  | .local _ .vmem, ⟨39, _⟩ => ⟨S512x1024, .f32⟩
  | .local _ .vmem, ⟨40, _⟩ => ⟨S512x1024, .f32⟩
  | .local _ .vmem, ⟨41, _⟩ => ⟨S272x1024, .f32⟩
  | .local _ .vmem, ⟨42, _⟩ => ⟨S272x1024, .f32⟩
  | .local _ .vmem, ⟨43, _⟩ => ⟨S272x1024, .f32⟩
  | .local _ .vmem, ⟨44, _⟩ => ⟨S272x1024, .f32⟩
  | .local _ .vmem, ⟨45, _⟩ => ⟨S1x1024, .f32⟩
  | .local _ .vmem, ⟨46, _⟩ => ⟨S272x896, .bf16⟩
  | .local _ .vmem, ⟨47, _⟩ => ⟨S272x896, .bf16⟩
  | .local _ .vmem, ⟨48, _⟩ => ⟨S272x1536, .bf16⟩
  | .local _ .vmem, ⟨49, _⟩ => ⟨S272x1536, .bf16⟩
  | .local _ .vmem, ⟨50, _⟩ => ⟨S272x2048, .bf16⟩
  | .local _ .vmem, ⟨51, _⟩ => ⟨S272x2048, .bf16⟩
  | .local _ .vmem, ⟨52, _⟩ => ⟨S1024x4480, .bf16⟩
  | .local _ .vmem, ⟨53, _⟩ => ⟨S272x1024, .f32⟩
  | .local _ .vmem, ⟨54, _⟩ => ⟨S272x1024, .f32⟩
  | .local _ .vmem, ⟨55, _⟩ => ⟨S1x1x1024, .f32⟩
  | .local _ .vmem, ⟨56, _⟩ => ⟨S1x1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev main_v5_9 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg2_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc4_stg8_0 : Ref sig .tc := ⟨.vmem, 55, rfl⟩
abbrev cc4_stg8_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem2_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem7_0 : DmaSem sig := 53
abbrev cc4_sem7_1 : DmaSem sig := 54
abbrev cc4_sem8_0 : DmaSem sig := 55
abbrev cc4_sem8_1 : DmaSem sig := 56

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S272x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S272x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4352x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4352x896 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4352x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4352x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4352x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4352x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S272x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S272x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S272x896 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S272x1536 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S272x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1024x4480 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S272x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]
-- ==== ProjReferenceIdeal.lean ====
abbrev S4352x1024 : Shape := ⟨2, ![4352, 1024]⟩
abbrev S1024 : Shape := ⟨1, ![1024]⟩
abbrev S1024x4480 : Shape := ⟨2, ![1024, 4480]⟩
abbrev S4352x896 : Shape := ⟨2, ![4352, 896]⟩
abbrev S4352x1536 : Shape := ⟨2, ![4352, 1536]⟩
abbrev S4352x2048 : Shape := ⟨2, ![4352, 2048]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x4480 : Shape := ⟨2, ![4352, 4480]⟩
abbrev S4480x1024 : Shape := ⟨2, ![4480, 1024]⟩
abbrev S4352x128 : Shape := ⟨2, ![4352, 128]⟩
abbrev S4352x512 : Shape := ⟨2, ![4352, 512]⟩
abbrev S1024x896 : Shape := ⟨2, ![1024, 896]⟩
abbrev S1024x1536 : Shape := ⟨2, ![1024, 1536]⟩
abbrev S1024x2048 : Shape := ⟨2, ![1024, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4480, .f32⟩
  | .hbm, ⟨3, _⟩ => ⟨S4352x1024, .f32⟩
  | .hbm, ⟨4, _⟩ => ⟨S4352x896, .f32⟩
  | .hbm, ⟨5, _⟩ => ⟨S4352x1536, .f32⟩
  | .hbm, ⟨6, _⟩ => ⟨S4352x2048, .f32⟩
  | .hbm, ⟨7, _⟩ => ⟨S4352x1024, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x1024, .f32⟩
  | .hbm, ⟨23, _⟩ => ⟨S4352x1024, .f32⟩
  | .hbm, ⟨24, _⟩ => ⟨S1x1024, .f32⟩
  | .hbm, ⟨25, _⟩ => ⟨S4352x1024, .f32⟩
  | .hbm, ⟨26, _⟩ => ⟨S4352x1024, .f32⟩
  | .hbm, ⟨27, _⟩ => ⟨S4352x4480, .f32⟩
  | .hbm, ⟨28, _⟩ => ⟨S4352x4480, .f32⟩
  | .hbm, ⟨29, _⟩ => ⟨S4480x1024, .f32⟩
  | .hbm, ⟨30, _⟩ => ⟨S1024x4480, .f32⟩
  | .hbm, ⟨31, _⟩ => ⟨S4352x1024, .f32⟩
  | .hbm, ⟨32, _⟩ => ⟨S4352x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S1024, .f32⟩
  | .hbm, ⟨40, _⟩ => ⟨S4352x1024, .f32⟩
  | .hbm, ⟨41, _⟩ => ⟨S_, .f32⟩
  | .hbm, ⟨42, _⟩ => ⟨S4352, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1, .f32⟩
  | .hbm, ⟨48, _⟩ => ⟨S_, .f32⟩
  | .hbm, ⟨49, _⟩ => ⟨S4352x1, .f32⟩
  | .hbm, ⟨50, _⟩ => ⟨S4352x1, .f32⟩
  | .hbm, ⟨51, _⟩ => ⟨S_, .f32⟩
  | .hbm, ⟨52, _⟩ => ⟨S4352, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x128, .f32⟩
  | .hbm, ⟨59, _⟩ => ⟨S4352x128, .f32⟩
  | .hbm, ⟨60, _⟩ => ⟨S4352x128, .f32⟩
  | .hbm, ⟨61, _⟩ => ⟨S4352x512, .f32⟩
  | .hbm, ⟨62, _⟩ => ⟨S4352x1024, .f32⟩
  | .hbm, ⟨63, _⟩ => ⟨S4352x1024, .f32⟩
  | .hbm, ⟨64, _⟩ => ⟨S1024x896, .f32⟩
  | .hbm, ⟨65, _⟩ => ⟨S1024x1536, .f32⟩
  | .hbm, ⟨66, _⟩ => ⟨S1024x2048, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Merge.lean ====
abbrev S4352x1024 : Shape := ⟨2, ![4352, 1024]⟩
abbrev S4352x512 : Shape := ⟨2, ![4352, 512]⟩
abbrev S1024x1024 : Shape := ⟨2, ![1024, 1024]⟩
abbrev S512x1024 : Shape := ⟨2, ![512, 1024]⟩
abbrev S544x1024 : Shape := ⟨2, ![544, 1024]⟩
abbrev S544x512 : Shape := ⟨2, ![544, 512]⟩

abbrev nBuf : Space → Nat
  | .hbm => 14
  | .vmem => 15
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x512, .f32⟩
  | .hbm, ⟨3, _⟩ => ⟨S4352x1024, .f32⟩
  | .hbm, ⟨4, _⟩ => ⟨S4352x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S4352x1024, .bf16⟩
  | .hbm, ⟨9, _⟩ => ⟨S4352x512, .bf16⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S4352x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S544x512, .bf16⟩
  | .local _ .vmem, ⟨5, _⟩ => ⟨S544x512, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S544x1024, .f32⟩
  | .local _ .vmem, ⟨14, _⟩ => ⟨S544x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S4352x1024 : Shape := ⟨2, ![4352, 1024]⟩
abbrev S4352x512 : Shape := ⟨2, ![4352, 512]⟩
abbrev S1024x1024 : Shape := ⟨2, ![1024, 1024]⟩
abbrev S512x1024 : Shape := ⟨2, ![512, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x512, .f32⟩
  | .hbm, ⟨3, _⟩ => ⟨S4352x1024, .f32⟩
  | .hbm, ⟨4, _⟩ => ⟨S4352x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== MergeBwd.lean ====
abbrev S4352x1024 : Shape := ⟨2, ![4352, 1024]⟩
abbrev S4352x512 : Shape := ⟨2, ![4352, 512]⟩
abbrev S1024x1024 : Shape := ⟨2, ![1024, 1024]⟩
abbrev S512x1024 : Shape := ⟨2, ![512, 1024]⟩
abbrev S4352x2048 : Shape := ⟨2, ![4352, 2048]⟩
abbrev S544x1024 : Shape := ⟨2, ![544, 1024]⟩
abbrev S544x512 : Shape := ⟨2, ![544, 512]⟩
abbrev S544x2048 : Shape := ⟨2, ![544, 2048]⟩
abbrev S3 : Shape := ⟨1, ![3]⟩
abbrev S1 : Shape := ⟨1, ![1]⟩
abbrev S_ : Shape := ⟨0, ![]⟩

abbrev nBuf : Space → Nat
  | .hbm => 19
  | .vmem => 22
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x1024, .f32⟩
  | .hbm, ⟨3, _⟩ => ⟨S4352x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S4352x1024, .f32⟩
  | .hbm, ⟨8, _⟩ => ⟨S4352x1024, .bf16⟩
  | .hbm, ⟨9, _⟩ => ⟨S4352x512, .bf16⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S4352x1024, .bf16⟩
  | .hbm, ⟨14, _⟩ => ⟨S4352x512, .bf16⟩
  | .hbm, ⟨15, _⟩ => ⟨S4352x2048, .bf16⟩
  | .hbm, ⟨16, _⟩ => ⟨S1024x1024, .f32⟩
  | .hbm, ⟨17, _⟩ => ⟨S512x1024, .f32⟩
  | .hbm, ⟨18, _⟩ => ⟨S1024x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S544x512, .bf16⟩
  | .local _ .vmem, ⟨5, _⟩ => ⟨S544x512, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S544x1024, .bf16⟩
  | .local _ .vmem, ⟨14, _⟩ => ⟨S544x1024, .bf16⟩
  | .local _ .vmem, ⟨15, _⟩ => ⟨S544x512, .bf16⟩
  | .local _ .vmem, ⟨16, _⟩ => ⟨S544x512, .bf16⟩
  | .local _ .vmem, ⟨17, _⟩ => ⟨S544x2048, .bf16⟩
  | .local _ .vmem, ⟨18, _⟩ => ⟨S544x2048, .bf16⟩
  | .local _ .vmem, ⟨19, _⟩ => ⟨S1024x1024, .f32⟩
  | .local _ .vmem, ⟨20, _⟩ => ⟨S512x1024, .f32⟩
  | .local _ .vmem, ⟨21, _⟩ => ⟨S1024x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdReferenceIdeal.lean ====
abbrev S4352x1024 : Shape := ⟨2, ![4352, 1024]⟩
abbrev S4352x512 : Shape := ⟨2, ![4352, 512]⟩
abbrev S1024x1024 : Shape := ⟨2, ![1024, 1024]⟩
abbrev S512x1024 : Shape := ⟨2, ![512, 1024]⟩
abbrev S_ : Shape := ⟨0, ![]⟩
abbrev S1024x512 : Shape := ⟨2, ![1024, 512]⟩
abbrev S4352x2048 : Shape := ⟨2, ![4352, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x1024, .f32⟩
  | .hbm, ⟨3, _⟩ => ⟨S4352x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S_, .f32⟩
  | .hbm, ⟨25, _⟩ => ⟨S4352x1024, .f32⟩
  | .hbm, ⟨26, _⟩ => ⟨S4352x1024, .f32⟩
  | .hbm, ⟨27, _⟩ => ⟨S_, .f32⟩
  | .hbm, ⟨28, _⟩ => ⟨S4352x1024, .f32⟩
  | .hbm, ⟨29, _⟩ => ⟨S4352x1024, .f32⟩
  | .hbm, ⟨30, _⟩ => ⟨S_, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S1024x1024, .f32⟩
  | .hbm, ⟨39, _⟩ => ⟨S1024x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S1024x512, .f32⟩
  | .hbm, ⟨44, _⟩ => ⟨S512x1024, .f32⟩
  | .hbm, ⟨45, _⟩ => ⟨S4352x512, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S1024x1024, .f32⟩
  | .hbm, ⟨50, _⟩ => ⟨S1024x1024, .f32⟩
  | .hbm, ⟨51, _⟩ => ⟨S4352x1024, .f32⟩
  | .hbm, ⟨52, _⟩ => ⟨S4352x1024, .f32⟩
  | .hbm, ⟨53, _⟩ => ⟨S4352x1024, .bf16⟩
  | .hbm, ⟨54, _⟩ => ⟨S4352x512, .bf16⟩
  | .hbm, ⟨55, _⟩ => ⟨S4352x2048, .f32⟩
  | .hbm, ⟨56, _⟩ => ⟨S4352x2048, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Adamw.lean ====
abbrev S1x1024 : Shape := ⟨2, ![1, 1024]⟩
abbrev S16x256 : Shape := ⟨2, ![16, 256]⟩
abbrev S1x8 : Shape := ⟨2, ![1, 8]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S1x8, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16x256, .f32⟩
  | .hbm, ⟨16, _⟩ => ⟨S16x256, .f32⟩
  | .hbm, ⟨17, _⟩ => ⟨S16x256, .f32⟩
  | .hbm, ⟨18, _⟩ => ⟨S1x8, .f32⟩
  | .hbm, ⟨19, _⟩ => ⟨S1x8, .f32⟩
  | .hbm, ⟨20, _⟩ => ⟨S1x8, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S1x8, .f32⟩
  | .local _ .vmem, ⟨15, _⟩ => ⟨S1x8, .f32⟩
  | .local _ .vmem, ⟨16, _⟩ => ⟨S1x8, .f32⟩
  | .local _ .vmem, ⟨17, _⟩ => ⟨S1x8, .f32⟩
  | .local _ .vmem, ⟨18, _⟩ => ⟨S1x8, .f32⟩
  | .local _ .vmem, ⟨19, _⟩ => ⟨S1x8, .f32⟩
  | .local _ .vmem, ⟨20, _⟩ => ⟨S1x8, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S16x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]
-- ==== AdamwReferenceIdeal.lean ====
abbrev S1x1024 : Shape := ⟨2, ![1, 1024]⟩
abbrev S16x256 : Shape := ⟨2, ![16, 256]⟩
abbrev S1x8 : Shape := ⟨2, ![1, 8]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S1x8, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S16x256, .f32⟩
  | .hbm, ⟨47, _⟩ => ⟨S16x256, .f32⟩
  | .hbm, ⟨48, _⟩ => ⟨S_, .f32⟩
  | .hbm, ⟨49, _⟩ => ⟨S16x256, .f32⟩
  | .hbm, ⟨50, _⟩ => ⟨S16x256, .f32⟩
  | .hbm, ⟨51, _⟩ => ⟨S16x256, .f32⟩
  | .hbm, ⟨52, _⟩ => ⟨S_, .f32⟩
  | .hbm, ⟨53, _⟩ => ⟨S16x256, .f32⟩
  | .hbm, ⟨54, _⟩ => ⟨S16x256, .f32⟩
  | .hbm, ⟨55, _⟩ => ⟨S16x256, .f32⟩
  | .hbm, ⟨56, _⟩ => ⟨S_, .f32⟩
  | .hbm, ⟨57, _⟩ => ⟨S16x256, .f32⟩
  | .hbm, ⟨58, _⟩ => ⟨S16x256, .f32⟩
  | .hbm, ⟨59, _⟩ => ⟨S16x256, .f32⟩
  | .hbm, ⟨60, _⟩ => ⟨S_, .f32⟩
  | .hbm, ⟨61, _⟩ => ⟨S16x256, .f32⟩
  | .hbm, ⟨62, _⟩ => ⟨S16x256, .f32⟩
  | .hbm, ⟨63, _⟩ => ⟨S_, .f32⟩
  | .hbm, ⟨64, _⟩ => ⟨S16x256, .f32⟩
  | .hbm, ⟨65, _⟩ => ⟨S16x256, .f32⟩
  | .hbm, ⟨66, _⟩ => ⟨S16x256, .f32⟩
  | .hbm, ⟨67, _⟩ => ⟨S_, .f32⟩
  | .hbm, ⟨68, _⟩ => ⟨S16x256, .f32⟩
  | .hbm, ⟨69, _⟩ => ⟨S16x256, .f32⟩
  | .hbm, ⟨70, _⟩ => ⟨S16x256, .f32⟩
  | .hbm, ⟨71, _⟩ => ⟨S_, .f32⟩
  | .hbm, ⟨72, _⟩ => ⟨S16x256, .f32⟩
  | .hbm, ⟨73, _⟩ => ⟨S16x256, .f32⟩
  | .hbm, ⟨74, _⟩ => ⟨S16x256, .f32⟩
  | .hbm, ⟨75, _⟩ => ⟨S_, .f32⟩
  | .hbm, ⟨76, _⟩ => ⟨S16x256, .f32⟩
  | .hbm, ⟨77, _⟩ => ⟨S16x256, .f32⟩
  | .hbm, ⟨78, _⟩ => ⟨S_, .f32⟩
  | .hbm, ⟨79, _⟩ => ⟨S1x8, .f32⟩
  | .hbm, ⟨80, _⟩ => ⟨S1x8, .f32⟩
  | .hbm, ⟨81, _⟩ => ⟨S_, .f32⟩
  | .hbm, ⟨82, _⟩ => ⟨S1x8, .f32⟩
  | .hbm, ⟨83, _⟩ => ⟨S1x8, .f32⟩
  | .hbm, ⟨84, _⟩ => ⟨S1x8, .f32⟩
  | .hbm, ⟨85, _⟩ => ⟨S_, .f32⟩
  | .hbm, ⟨86, _⟩ => ⟨S1x8, .f32⟩
  | .hbm, ⟨87, _⟩ => ⟨S1x8, .f32⟩
  | .hbm, ⟨88, _⟩ => ⟨S1x8, .f32⟩
  | .hbm, ⟨89, _⟩ => ⟨S_, .f32⟩
  | .hbm, ⟨90, _⟩ => ⟨S1x8, .f32⟩
  | .hbm, ⟨91, _⟩ => ⟨S1x8, .f32⟩
  | .hbm, ⟨92, _⟩ => ⟨S1x8, .f32⟩
  | .hbm, ⟨93, _⟩ => ⟨S_, .f32⟩
  | .hbm, ⟨94, _⟩ => ⟨S1x8, .f32⟩
  | .hbm, ⟨95, _⟩ => ⟨S1x8, .f32⟩
  | .hbm, ⟨96, _⟩ => ⟨S_, .f32⟩
  | .hbm, ⟨97, _⟩ => ⟨S1x8, .f32⟩
  | .hbm, ⟨98, _⟩ => ⟨S1x8, .f32⟩
  | .hbm, ⟨99, _⟩ => ⟨S1x8, .f32⟩
  | .hbm, ⟨100, _⟩ => ⟨S_, .f32⟩
  | .hbm, ⟨101, _⟩ => ⟨S1x8, .f32⟩
  | .hbm, ⟨102, _⟩ => ⟨S1x8, .f32⟩
  | .hbm, ⟨103, _⟩ => ⟨S1x8, .f32⟩
  | .hbm, ⟨104, _⟩ => ⟨S_, .f32⟩
  | .hbm, ⟨105, _⟩ => ⟨S1x8, .f32⟩
  | .hbm, ⟨106, _⟩ => ⟨S1x8, .f32⟩
  | .hbm, ⟨107, _⟩ => ⟨S1x8, .f32⟩
  | .hbm, ⟨108, _⟩ => ⟨S_, .f32⟩
  | .hbm, ⟨109, _⟩ => ⟨S1x8, .f32⟩
  | .hbm, ⟨110, _⟩ => ⟨S1x8, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Ffn.Spec.lean ====
/-
  One gated feed-forward half, `x + ½·(silu(n·A₁) ⊙ (n·A₂))·B` with `n` the row `x` scaled by the reciprocal of its root
  mean square and by a weight, and its derivatives, written over rows of extended reals. Nothing here mentions a program:
  every array of either program is one of these functions of the arguments, row by row.

  `x`, `t` are a row of the input and of the cotangent; `w` the norm weight; `A` the 1024×5632 input projection whose first
  2816 columns are the gate's and whose last 2816 the linear branch's; `B` the 2816×1024 output projection.
-/
module

public import Idealize.ShloMosaic.Lib.Pointwise

@[expose] public section

noncomputable section

namespace Cert.FfnSpec

open Idealize.ShloMosaic

/-- Column `j` of the first half of the projection. -/
def lo (j : Fin 2816) : Fin 5632 := ⟨j, by omega⟩
/-- Column `j` of the second half of the projection. -/
def hi (j : Fin 2816) : Fin 5632 := ⟨2816 + j, by omega⟩

/-- The mean of the squares of a row, plus the small constant. -/
def meanSq (x : Fin 1024 → EReal) : EReal := Ideal.div (∑ k, x k * x k) (Ideal.ofBits .f32 0x44800000#32) + Ideal.ofBits .f32 0x358637BD#32
/-- The reciprocal root mean square of a row. -/
def scale (x : Fin 1024 → EReal) : EReal := Ideal.rsqrt (meanSq x)
/-- The normalised row. -/
def normed (x w : Fin 1024 → EReal) (k : Fin 1024) : EReal := x k * scale x * w k
/-- One column of the projected row. -/
def proj (x w : Fin 1024 → EReal) (A : Fin 1024 → Fin 5632 → EReal) (c : Fin 5632) : EReal := ∑ k, normed x w k * A k c
/-- The gated activation. -/
def act (g u : EReal) : EReal := g * Ideal.logistic g * u
/-- The row the half adds to its input, and the sum. -/
def out (x : Fin 1024 → EReal) (a : Fin 2816 → EReal) (B : Fin 2816 → Fin 1024 → EReal) (d : Fin 1024) : EReal :=
  x d + Ideal.ofBits .f32 0x3F000000#32 * ∑ j, a j * B j d

/-- The cotangent of the half's second matrix product. -/
def half (t : EReal) : EReal := Ideal.ofBits .f32 0x3F000000#32 * t
/-- The cotangent of the activation. -/
def dact (t : Fin 1024 → EReal) (B : Fin 2816 → Fin 1024 → EReal) (j : Fin 2816) : EReal := ∑ d, half (t d) * B j d
/-- The cotangent of the gate, from the activation's cotangent `a`, the gate `g` and the linear branch `u`. -/
def dgate (a g u : EReal) : EReal := a * u * (Ideal.logistic g * (1 + g * (1 - Ideal.logistic g)))
/-- The cotangent of the linear branch. -/
def dup (a g : EReal) : EReal := a * (g * Ideal.logistic g)
/-- The cotangent of the normalised row, from the two branches' cotangents. -/
def dn (p q : Fin 2816 → EReal) (A : Fin 1024 → Fin 5632 → EReal) (d : Fin 1024) : EReal :=
  ∑ j, p j * A d (lo j) + ∑ j, q j * A d (hi j)
/-- The cotangent of the input row, from the normalised row's cotangent `z`. -/
def dx (x w t z : Fin 1024 → EReal) (d : Fin 1024) : EReal :=
  t d + (scale x * (z d * w d) - x d * (scale x * scale x * scale x * Ideal.div (∑ k, z k * w k * x k) (Ideal.ofBits .f32 0x44800000#32)))

/-! The whole half, over all 4352 rows. -/

variable (X : Fin 4352 → Fin 1024 → EReal) (w : Fin 1024 → EReal) (A : Fin 1024 → Fin 5632 → EReal)
  (B : Fin 2816 → Fin 1024 → EReal) (T : Fin 4352 → Fin 1024 → EReal)

def G (i : Fin 4352) (j : Fin 2816) : EReal := proj (X i) w A (lo j)
def U (i : Fin 4352) (j : Fin 2816) : EReal := proj (X i) w A (hi j)
def Act (i : Fin 4352) (j : Fin 2816) : EReal := act (G X w A i j) (U X w A i j)
def Out (i : Fin 4352) (d : Fin 1024) : EReal := out (X i) (Act X w A i) B d
def DGate (i : Fin 4352) (j : Fin 2816) : EReal := dgate (dact (T i) B j) (G X w A i j) (U X w A i j)
def DUp (i : Fin 4352) (j : Fin 2816) : EReal := dup (dact (T i) B j) (G X w A i j)
def DN (i : Fin 4352) (d : Fin 1024) : EReal := dn (DGate X w A B T i) (DUp X w A B T i) A d
def DX (i : Fin 4352) (d : Fin 1024) : EReal := dx (X i) w (T i) (DN X w A B T i) d
/-- The gradient of the norm weight. -/
def DW (d : Fin 1024) : EReal := ∑ i, DN X w A B T i d * (X i d * scale (X i))
/-- The gradient of the input projection: the gate's half and the linear branch's half. -/
def DA (k : Fin 1024) (c : Fin 5632) : EReal :=
  if h : (c : ℕ) < 2816 then ∑ i, normed (X i) w k * DGate X w A B T i ⟨c, h⟩
  else ∑ i, normed (X i) w k * DUp X w A B T i ⟨c - 2816, by omega⟩
/-- The gradient of the output projection. -/
def DB (j : Fin 2816) (d : Fin 1024) : EReal := ∑ i, Act X w A i j * half (T i d)

end Cert.FfnSpec

end
-- ==== Proof.Ffn.Ref.lean ====
/-
  The reference, stage by stage: each array of the plain program, read at an index, is the row function of `Spec` — except
  the gate's cotangent and the input's, which the reference computes by other formulas (`dgateR`, `dxR` below).
-/
module

public import proofs.«01_k».proof.Proof.Gen.FfnReferenceIdeal.Read
public import proofs.«01_k».proof.Proof.Ffn.Spec
public import Idealize.ShloMosaic.Lib.Pointwise

@[expose] public section

set_option maxRecDepth 16384

noncomputable section

namespace Cert.FfnReferenceIdeal.Spec

open Idealize.ShloMosaic Idealize.ShloMosaic.TcCoe Idealize.SL.Sem
open Cert.FfnReferenceIdeal Cert.FfnReferenceIdeal.Gen Cert.FfnReferenceIdeal.Read Cert.FfnSpec

variable (x0 : FVec Ideal S4352x1024 .f32) (x1 : FVec Ideal S1024 .f32) (x2 : FVec Ideal S1024x5632 .f32)
  (x3 : FVec Ideal S2816x1024 .f32) (x4 : FVec Ideal S4352x1024 .f32)

/-- The arguments as functions of their coordinates. -/
abbrev fX : Fin 4352 → Fin 1024 → EReal := fun i k => x0 (ix2 i k)
abbrev fw : Fin 1024 → EReal := fun k => x1 (ix1 k)
abbrev fA : Fin 1024 → Fin 5632 → EReal := fun k c => x2 (ix2 k c)
abbrev fB : Fin 2816 → Fin 1024 → EReal := fun j d => x3 (ix2 j d)

theorem meanSq_at (i : Fin 4352) : val_main_v6 (F := Ideal) x0 (ix2 i 0) = meanSq (fX x0 i) := by
  pointwise [val_main_v6, val_main_v5, val_main_v4, val_main_v3, val_main_v2, val_main_v1, val_main_v0, val_main_cst, val_main_cst_0,
    val_main_cst_1, meanSq]

theorem scale_at (i : Fin 4352) : val_main_v7 (F := Ideal) x0 (ix2 i 0) = scale (fX x0 i) := by
  pointwise [val_main_v7, scale, meanSq_at]

theorem scaled_at (i : Fin 4352) (k : Fin 1024) : val_main_v12 (F := Ideal) x0 (ix2 i k) = x0 (ix2 i k) * scale (fX x0 i) := by
  pointwise [val_main_v12, val_main_v11, scale_at]

theorem normed_at (i : Fin 4352) (k : Fin 1024) : val_main_v15 (F := Ideal) x0 x1 (ix2 i k) = normed (fX x0 i) (fw x1) k := by
  pointwise [val_main_v15, val_main_v14, val_main_v13, scaled_at, normed]

theorem proj_at (i : Fin 4352) (c : Fin 5632) : val_main_v16 (F := Ideal) x0 x1 x2 (ix2 i c) = proj (fX x0 i) (fw x1) (fA x2) c := by
  pointwise [val_main_v16, normed_at, proj]

theorem gate_at (i : Fin 4352) (j : Fin 2816) : val_main_v17 (F := Ideal) x0 x1 x2 (ix2 i j) = G (fX x0) (fw x1) (fA x2) i j := by
  pointwise [val_main_v17, proj_at, G, lo]

theorem up_at (i : Fin 4352) (j : Fin 2816) : val_main_v18 (F := Ideal) x0 x1 x2 (ix2 i j) = U (fX x0) (fw x1) (fA x2) i j := by
  pointwise [val_main_v18, proj_at, U, hi]

theorem sig_at (i : Fin 4352) (j : Fin 2816) :
    val_main_v19_2 (F := Ideal) x0 x1 x2 (ix2 i j) = Ideal.logistic (G (fX x0) (fw x1) (fA x2) i j) := by
  pointwise [val_main_v19_2, val_main_call0_v4, val_main_call0_cst_0, val_main_call0_v3, val_main_call0_v2, val_main_call0_cst,
    val_main_call0_v1, val_main_call0_v0, gate_at, Ideal.logistic]

theorem silu_at (i : Fin 4352) (j : Fin 2816) : val_main_v19_0 (F := Ideal) x0 x1 x2 (ix2 i j)
    = G (fX x0) (fw x1) (fA x2) i j * Ideal.logistic (G (fX x0) (fw x1) (fA x2) i j) := by
  pointwise [val_main_v19_0, gate_at, sig_at]

theorem dsig_at (i : Fin 4352) (j : Fin 2816) : val_main_v19_1 (F := Ideal) x0 x1 x2 (ix2 i j)
    = Ideal.logistic (G (fX x0) (fw x1) (fA x2) i j) * (1 - Ideal.logistic (G (fX x0) (fw x1) (fA x2) i j)) := by
  pointwise [val_main_v19_1, val_main_call0_v7, val_main_call0_v6, val_main_call0_cst_1, sig_at]

theorem act_at (i : Fin 4352) (j : Fin 2816) : val_main_v20 (F := Ideal) x0 x1 x2 (ix2 i j) = Act (fX x0) (fw x1) (fA x2) i j := by
  pointwise [val_main_v20, silu_at, up_at, Act, act]

theorem out_at (i : Fin 4352) (d : Fin 1024) :
    val_main_v24 (F := Ideal) x0 x1 x2 x3 (ix2 i d) = Out (fX x0) (fw x1) (fA x2) (fB x3) i d := by
  pointwise [val_main_v24, val_main_v23, val_main_v22, val_main_cst_3, val_main_v21, act_at, Out, out]

theorem half_at (i : Fin 4352) (d : Fin 1024) : val_main_v27 (F := Ideal) x4 (ix2 i d) = half (x4 (ix2 i d)) := by
  pointwise [val_main_v27, val_main_v26, val_main_cst_4, val_main_v25, half]

theorem db_at (j : Fin 2816) (d : Fin 1024) :
    val_main_v29 (F := Ideal) x0 x1 x2 x4 (ix2 j d) = DB (fX x0) (fw x1) (fA x2) (fX x4) j d := by
  pointwise [val_main_v29, val_main_v28, half_at, act_at, DB]
  exact Finset.sum_congr rfl fun i _ => mul_comm _ _

theorem dact_at (i : Fin 4352) (j : Fin 2816) : val_main_v30 (F := Ideal) x3 x4 (ix2 i j) = dact (fX x4 i) (fB x3) j := by
  pointwise [val_main_v30, half_at, dact]

theorem dup_at (i : Fin 4352) (j : Fin 2816) :
    val_main_v31 (F := Ideal) x0 x1 x2 x3 x4 (ix2 i j) = DUp (fX x0) (fw x1) (fA x2) (fB x3) (fX x4) i j := by
  pointwise [val_main_v31, silu_at, dact_at, DUp, dup]
  exact mul_comm _ _

/-- The gate's cotangent as the reference computes it: the product rule on `g · logistic g`. -/
def dgateR (a g u : EReal) : EReal :=
  a * u * Ideal.logistic g + g * (a * u) * (Ideal.logistic g * (1 - Ideal.logistic g))

theorem dgate_at (i : Fin 4352) (j : Fin 2816) : val_main_v33 (F := Ideal) x0 x1 x2 x3 x4 (ix2 i j)
    = dgateR (dact (fX x4 i) (fB x3) j) (G (fX x0) (fw x1) (fA x2) i j) (U (fX x0) (fw x1) (fA x2) i j) := by
  pointwise [val_main_v33, val_main_call1_v2, val_main_call1_v1, val_main_call1_v0, val_main_v32, dact_at, up_at, gate_at, sig_at, dsig_at, dgateR]

/-- From here on the gate's cotangent is assumed to be the one of `Spec` (it is, for finite arguments: `Algebra`). -/
abbrev GateAgrees : Prop := ∀ (i : Fin 4352) (j : Fin 2816),
  val_main_v33 (F := Ideal) x0 x1 x2 x3 x4 (ix2 i j) = DGate (fX x0) (fw x1) (fA x2) (fB x3) (fX x4) i j

variable {x0 x1 x2 x3 x4} (hg : GateAgrees x0 x1 x2 x3 x4)
include hg

theorem dn_at (i : Fin 4352) (d : Fin 1024) :
    val_main_v37 (F := Ideal) x0 x1 x2 x3 x4 (ix2 i d) = DN (fX x0) (fw x1) (fA x2) (fB x3) (fX x4) i d := by
  pointwise [val_main_v37, val_main_v34, hg, dup_at, DN, dn, lo, hi]

theorem da_at (k : Fin 1024) (c : Fin 5632) :
    val_main_v36 (F := Ideal) x0 x1 x2 x3 x4 (ix2 k c) = DA (fX x0) (fw x1) (fA x2) (fB x3) (fX x4) k c := by
  pointwise [val_main_v36, val_main_v35, val_main_v34, hg, dup_at, normed_at, DA]
  by_cases h : (c : ℕ) < 2816
  · simp only [dif_pos h]
    exact Finset.sum_congr rfl fun i _ => mul_comm _ _
  · simp only [dif_neg h]
    exact Finset.sum_congr rfl fun i _ => mul_comm _ _

theorem dw_at (d : Fin 1024) :
    val_main_v43 (F := Ideal) x0 x1 x2 x3 x4 (ix1 d) = DW (fX x0) (fw x1) (fA x2) (fB x3) (fX x4) d := by
  pointwise [val_main_v43, val_main_cst_6, val_main_v40, val_main_v39, val_main_cst_5, val_main_v38, scaled_at, dn_at hg, DW]
  rw [Fin.sum_univ_one]
  exact Finset.sum_congr rfl fun i _ => mul_comm _ _

/-- The input's cotangent as the reference computes it: the derivative of the reciprocal root is `-½ · scale / meanSq`, and
    the derivative of a square is taken once per factor. -/
def rootTerm (x w z : Fin 1024 → EReal) : EReal :=
  Ideal.div ((∑ k, x k * (z k * w k)) * (Ideal.ofBits .f32 0xBF000000#32 * Ideal.div (scale x) (meanSq x))) (Ideal.ofBits .f32 0x44800000#32)
def dxR (x w t z : Fin 1024 → EReal) (d : Fin 1024) : EReal :=
  t d + z d * w d * scale x + x d * rootTerm x w z + rootTerm x w z * x d

theorem dx_at (i : Fin 4352) (d : Fin 1024) : val_main_v58 (F := Ideal) x0 x1 x2 x3 x4 (ix2 i d)
    = dxR (fX x0 i) (fw x1) (fX x4 i) (DN (fX x0) (fw x1) (fA x2) (fB x3) (fX x4) i) d := by
  pointwise [val_main_v58, val_main_v57, val_main_v56, val_main_v55, val_main_v54, val_main_v53, val_main_cst_9, val_main_v52, val_main_v51,
    val_main_cst_8, val_main_v50, val_main_v49, val_main_v48, val_main_v47, val_main_v46, val_main_v45, val_main_cst_7, val_main_v44,
    val_main_v42, val_main_v41, val_main_v13, val_main_v10, val_main_v9, val_main_cst_2, val_main_v8, meanSq_at, scale_at, dn_at hg, dxR, rootTerm]
  rw [Fin.sum_univ_one, scale_at, meanSq_at]

end Cert.FfnReferenceIdeal.Spec

end
-- ==== Proof.Ffn.Algebra.lean ====
/-
  The two formulas the reference writes otherwise than the kernel, compared in the real numbers: for rows of real numbers
  every intermediate is a real number, and the two sides are equal there.
-/
module

public import proofs.«01_k».proof.Proof.Ffn.Ref
public import Idealize.ShloMosaic.Lib.IdealHost

@[expose] public section

set_option maxRecDepth 16384

noncomputable section

namespace Cert.FfnSpec

open Idealize.ShloMosaic

/-- The extended real is a real number. -/
def IsReal (e : EReal) : Prop := ∃ r : ℝ, e = (r : EReal)

theorem IsReal.add {a b : EReal} : IsReal a → IsReal b → IsReal (a + b)
  | ⟨x, hx⟩, ⟨y, hy⟩ => ⟨x + y, by rw [hx, hy, EReal.coe_add]⟩
theorem IsReal.mul {a b : EReal} : IsReal a → IsReal b → IsReal (a * b)
  | ⟨x, hx⟩, ⟨y, hy⟩ => ⟨x * y, by rw [hx, hy, EReal.coe_mul]⟩
theorem IsReal.sum {n : ℕ} {f : Fin n → EReal} (h : ∀ k, IsReal (f k)) : IsReal (∑ k, f k) :=
  Finset.sum_induction _ IsReal (fun _ _ => IsReal.add) ⟨0, EReal.coe_zero.symm⟩ fun k _ => h k
theorem IsReal.logistic {a : EReal} : IsReal a → IsReal (Ideal.logistic a)
  | ⟨x, hx⟩ => ⟨_, by rw [hx, Ideal.logistic_coe]⟩

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_1024 : Ideal.ofBits .f32 0x44800000#32 = ((1024 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A sum of squares of reals is a nonnegative real. -/
theorem sum_sq_real {n : ℕ} {x : Fin n → EReal} (hx : ∀ k, IsReal (x k)) : ∃ q : ℝ, 0 ≤ q ∧ ∑ k, x k * x k = (q : EReal) :=
  Finset.sum_induction (fun k => x k * x k) (fun e => ∃ q : ℝ, 0 ≤ q ∧ e = (q : EReal))
    (fun _ _ ⟨p, hp, ep⟩ ⟨q, hq, eq⟩ => ⟨p + q, add_nonneg hp hq, by rw [ep, eq, EReal.coe_add]⟩) ⟨0, le_refl _, EReal.coe_zero.symm⟩
    fun k _ => let ⟨r, hr⟩ := hx k; ⟨r * r, mul_self_nonneg r, by rw [hr, EReal.coe_mul]⟩

/-- The mean square of a real row, plus the constant, is a positive real `q`, and the scale is `1/√q`. -/
theorem meanSq_real {x : Fin 1024 → EReal} (hx : ∀ k, IsReal (x k)) :
    ∃ q : ℝ, 0 < q ∧ meanSq x = (q : EReal) ∧ scale x = (((Real.sqrt q)⁻¹ : ℝ) : EReal) := by
  obtain ⟨s, hs, es⟩ := sum_sq_real hx
  obtain ⟨e, he, ee⟩ := ofBits_eps
  have h : meanSq x = ((s * (1 / 1024) + e : ℝ) : EReal) := by
    rw [meanSq, es, ofBits_1024, Ideal.div_coe (by norm_num), ee, EReal.coe_add, EReal.coe_mul]
  have hq : 0 < s * (1 / 1024) + e := by positivity
  refine ⟨_, hq, h, ?_⟩
  rw [scale, h]
  show (if _ < (0 : ℝ) then (⊥ : EReal) else if _ = (0 : ℝ) then ⊤ else _) = _
  rw [if_neg (not_lt.mpr hq.le), if_neg hq.ne']

theorem normed_real {x w : Fin 1024 → EReal} (hx : ∀ k, IsReal (x k)) (hw : ∀ k, IsReal (w k)) (k : Fin 1024) : IsReal (normed x w k) := by
  obtain ⟨q, _, _, e⟩ := meanSq_real hx
  exact ((hx k).mul ⟨_, e⟩).mul (hw k)

theorem proj_real {x w : Fin 1024 → EReal} {A : Fin 1024 → Fin 5632 → EReal} (hx : ∀ k, IsReal (x k)) (hw : ∀ k, IsReal (w k))
    (hA : ∀ k c, IsReal (A k c)) (c : Fin 5632) : IsReal (proj x w A c) :=
  IsReal.sum fun k => (normed_real hx hw k).mul (hA k c)

theorem dact_real {t : Fin 1024 → EReal} {B : Fin 2816 → Fin 1024 → EReal} (ht : ∀ k, IsReal (t k)) (hB : ∀ j d, IsReal (B j d))
    (j : Fin 2816) : IsReal (dact t B j) :=
  IsReal.sum fun d => (IsReal.mul ⟨_, ofBits_half⟩ (ht d)).mul (hB j d)

open Cert.FfnReferenceIdeal.Spec (dgateR dxR rootTerm)

/-- The product rule, collected. -/
theorem dgateR_eq {a g u : EReal} (ha : IsReal a) (hg : IsReal g) (hu : IsReal u) : dgateR a g u = dgate a g u := by
  obtain ⟨a, rfl⟩ := ha; obtain ⟨g, rfl⟩ := hg; obtain ⟨u, rfl⟩ := hu
  rw [dgateR, dgate, Ideal.logistic_coe]
  generalize (1 + Real.exp (-g))⁻¹ = s
  norm_cast
  ring_nf

theorem dgate_real {a g u : EReal} (ha : IsReal a) (hg : IsReal g) (hu : IsReal u) : IsReal (dgate a g u) := by
  obtain ⟨a, rfl⟩ := ha; obtain ⟨g, rfl⟩ := hg; obtain ⟨u, rfl⟩ := hu
  rw [dgate, Ideal.logistic_coe]
  generalize (1 + Real.exp (-g))⁻¹ = s
  exact ⟨a * u * (s * (1 + g * (1 - s))), by norm_cast⟩

/-- The derivative of the normalisation, collected. -/
theorem dxR_eq {x w t z : Fin 1024 → EReal} (hx : ∀ k, IsReal (x k)) (hw : ∀ k, IsReal (w k)) (ht : ∀ k, IsReal (t k))
    (hz : ∀ k, IsReal (z k)) (d : Fin 1024) : dxR x w t z d = dx x w t z d := by
  obtain ⟨q, hq, em, es⟩ := meanSq_real hx
  have hS : ∑ k, x k * (z k * w k) = ∑ k, z k * w k * x k := Finset.sum_congr rfl fun k _ => mul_comm _ _
  obtain ⟨S, eS⟩ : IsReal (∑ k, z k * w k * x k) := IsReal.sum fun k => ((hz k).mul (hw k)).mul (hx k)
  obtain ⟨x', ex⟩ := hx d; obtain ⟨w', ew⟩ := hw d; obtain ⟨t', et⟩ := ht d; obtain ⟨z', ez⟩ := hz d
  have hne : Real.sqrt q ≠ 0 := (Real.sqrt_pos.mpr hq).ne'
  have hqq : (Real.sqrt q)⁻¹ * (Real.sqrt q)⁻¹ = 1 / q := by
    rw [← mul_inv, Real.mul_self_sqrt hq.le, one_div]
  rw [dxR, dx, rootTerm, hS, eS, es, em, ex, ew, et, ez, ofBits_neg_half, ofBits_1024, Ideal.div_coe hq.ne', Ideal.div_coe (by norm_num),
    Ideal.div_coe (by norm_num)]
  generalize (Real.sqrt q)⁻¹ = r at hqq
  norm_cast
  rw [← hqq]
  ring_nf

/-- The normalised row's cotangent is real. -/
theorem DN_real {X : Fin 4352 → Fin 1024 → EReal} {w : Fin 1024 → EReal} {A : Fin 1024 → Fin 5632 → EReal}
    {B : Fin 2816 → Fin 1024 → EReal} {T : Fin 4352 → Fin 1024 → EReal} (hX : ∀ i k, IsReal (X i k)) (hw : ∀ k, IsReal (w k))
    (hA : ∀ k c, IsReal (A k c)) (hB : ∀ j d, IsReal (B j d)) (hT : ∀ i k, IsReal (T i k)) (i : Fin 4352) (d : Fin 1024) :
    IsReal (DN X w A B T i d) :=
  IsReal.add
    (IsReal.sum fun j => (dgate_real (dact_real (hT i) hB j) (proj_real (hX i) hw hA _) (proj_real (hX i) hw hA _)).mul (hA d _))
    (IsReal.sum fun j => ((dact_real (hT i) hB j).mul ((proj_real (hX i) hw hA _).mul (proj_real (hX i) hw hA _).logistic)).mul (hA d _))

end Cert.FfnSpec

end
-- ==== Proof.Ffn.Region0.lean ====
module

public import proofs.«01_k».proof.Proof.Gen.FfnIdeal.Frame
public import proofs.«01_k».proof.Proof.Ffn.Spec
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- Which block of its array each window of the forward region holds at grid point `t`. -/
theorem idx0 : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- The staged normalised rows. -/
theorem pay2_at (x0 : Vec Ideal S272x1024 .f32) (x1 : Vec Ideal S1x1024 .f32) (a : Fin 272) (k : Fin 1024) :
    k0_pay2 x0 x1 (ix2 a k) = normed (fun k => x0 (ix2 a k)) (fun k => x1 (ix2 0 k)) k := by
  pointwise [k0_pay2, normed, scale, meanSq]

/-- The gate array: the first half of the projection of every normalised row. -/
theorem final0_5 (c : Dev nD) : (dat0 V c).arrAt 5 cfg0.N = fun i =>
    proj (fun k => V c main_arg0 (ix2 (i 0) k)) (fun k => V c main_v0 (ix2 0 k)) (fun k c' => V c main_v1 (ix2 k c')) (lo (i 1)) := by
  refine (dat0 V c).arrAt_eq_of_covers 5 _ (by decide +kernel) fun t hf y => ?_
  blk_simp
  rw [after0_5]
  unfold outsAt0
  frame_out
  have e0 : ∀ k, V c main_arg0 (ix2 (((View.whole main_v3_1).slice (win0_5.rect t)).emb y 0) k) = iblk0 V c 0 t (ix2 (y 0) k) := fun k => by
    blk_ext [iblk0, idx0 t]
  have e1 : ∀ k, V c main_v0 (ix2 0 k) = iblk0 V c 1 t (ix2 0 k) := fun k => by
    blk_ext [iblk0, idx0 t]
  have e2 : ∀ k, V c main_v1 (ix2 k (lo (((View.whole main_v3_1).slice (win0_5.rect t)).emb y 1))) = iblk0 V c 2 t (ix2 k (lo (y 1))) := fun k => by
    blk_ext [iblk0, idx0 t, lo]
  simp only [proj, e0, e1, e2]
  clear e0 e1 e2
  generalize iblk0 V c 0 t = X0, iblk0 V c 1 t = X1, iblk0 V c 2 t = X2
  canon_tiles x h
  all_goals
    pointwise [k0_pay3, k0_pay6, k0_pay9, k0_pay12, k0_pay15, k0_pay18, k0_pay21, k0_pay24, k0_pay27, k0_pay30, k0_pay33, pay2_at, lo]
    blk_point

/-- The linear branch's array: the second half of the projection. -/
theorem final0_6 (c : Dev nD) : (dat0 V c).arrAt 6 cfg0.N = fun i =>
    proj (fun k => V c main_arg0 (ix2 (i 0) k)) (fun k => V c main_v0 (ix2 0 k)) (fun k c' => V c main_v1 (ix2 k c')) (hi (i 1)) := by
  refine (dat0 V c).arrAt_eq_of_covers 6 _ (by decide +kernel) fun t hf y => ?_
  blk_simp
  rw [after0_6]
  unfold outsAt0
  frame_out
  have e0 : ∀ k, V c main_arg0 (ix2 (((View.whole main_v3_2).slice (win0_6.rect t)).emb y 0) k) = iblk0 V c 0 t (ix2 (y 0) k) := fun k => by
    blk_ext [iblk0, idx0 t]
  have e1 : ∀ k, V c main_v0 (ix2 0 k) = iblk0 V c 1 t (ix2 0 k) := fun k => by
    blk_ext [iblk0, idx0 t]
  have e2 : ∀ k, V c main_v1 (ix2 k (hi (((View.whole main_v3_2).slice (win0_6.rect t)).emb y 1))) = iblk0 V c 2 t (ix2 k (hi (y 1))) := fun k => by
    blk_ext [iblk0, idx0 t, hi]
  simp only [proj, e0, e1, e2]
  clear e0 e1 e2
  generalize iblk0 V c 0 t = X0, iblk0 V c 1 t = X1, iblk0 V c 2 t = X2
  canon_tiles x h
  all_goals
    pointwise [k0_pay4, k0_pay7, k0_pay10, k0_pay13, k0_pay16, k0_pay19, k0_pay22, k0_pay25, k0_pay28, k0_pay31, k0_pay34, pay2_at, hi]
    blk_point

end Cert.FfnIdeal.Value

end
-- ==== Proof.Ffn.Region0Out.lean ====
module

public import proofs.«01_k».proof.Proof.Gen.FfnIdeal.Frame
public import proofs.«01_k».proof.Proof.Ffn.Region0
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- What the body stores of its output block: the block plus half the activations' product. -/
theorem pay1_at (x0 : Vec Ideal S272x1024 .f32) (a : Vec Ideal S272x2816 .bf16) (wo : Vec Ideal S2816x1024 .bf16) (y : S272x1024.Idx) :
    k0_pay1 x0 a wo y = out (fun k => x0 (ix2 (y 0) k)) (fun j => a (ix2 (y 0) j)) (fun j d => wo (ix2 j d)) (y 1) := by
  pointwise [k0_pay1, out]

/-- The half's output. -/
theorem final0_4 (c : Dev nD) : (dat0 V c).arrAt 4 cfg0.N = fun i =>
    out (fun k => V c main_arg0 (ix2 (i 0) k))
      (fun j => act (proj (fun k => V c main_arg0 (ix2 (i 0) k)) (fun k => V c main_v0 (ix2 0 k)) (fun k c' => V c main_v1 (ix2 k c')) (lo j))
        (proj (fun k => V c main_arg0 (ix2 (i 0) k)) (fun k => V c main_v0 (ix2 0 k)) (fun k c' => V c main_v1 (ix2 k c')) (hi j)))
      (fun j d => V c main_v2 (ix2 j d)) (i 1) := by
  refine (dat0 V c).arrAt_eq_of_covers 4 _ (by decide +kernel) fun t hf y => ?_
  blk_simp
  rw [after0_4]
  unfold outsAt0
  frame_out
  have e0 : ∀ k, V c main_arg0 (ix2 (((View.whole main_v3_0).slice (win0_4.rect t)).emb y 0) k) = iblk0 V c 0 t (ix2 (y 0) k) := fun k => by
    blk_ext [iblk0, idx0 t]
  have e1 : ∀ k, V c main_v0 (ix2 0 k) = iblk0 V c 1 t (ix2 0 k) := fun k => by
    blk_ext [iblk0, idx0 t]
  have e2 : ∀ k c', V c main_v1 (ix2 k c') = iblk0 V c 2 t (ix2 k c') := fun k c' => by
    blk_ext [iblk0, idx0 t]
  have e3 : ∀ j d, V c main_v2 (ix2 j d) = iblk0 V c 3 t (ix2 j d) := fun j d => by
    blk_ext [iblk0, idx0 t]
  have e4 : (((View.whole main_v3_0).slice (win0_4.rect t)).emb y 1 : Fin 1024) = y 1 := Fin.ext (by
    blk_simp [idx0 t])
  simp only [e0, e1, e2, e3, e4]
  clear e0 e1 e2 e3 e4
  generalize iblk0 V c 0 t = X0, iblk0 V c 1 t = X1, iblk0 V c 2 t = X2, iblk0 V c 3 t = X3
  refine (pay1_at _ _ _ y).trans (congrArg (fun a => out _ a _ _) (funext fun j => ?_))
  rw [View.readCov_eq_canon']
  canon_tiles x h
  all_goals
    change 0 + 1 * (y 0 : ℕ) = _ at h0
    change 0 + 1 * (j : ℕ) = _ at h1
    rw [Nat.zero_add, Nat.one_mul] at h0 h1
    pointwise [k0_pay5, k0_pay8, k0_pay11, k0_pay14, k0_pay17, k0_pay20, k0_pay23, k0_pay26, k0_pay29, k0_pay32, k0_pay35,
      k0_pay3, k0_pay6, k0_pay9, k0_pay12, k0_pay15, k0_pay18, k0_pay21, k0_pay24, k0_pay27, k0_pay30, k0_pay33,
      k0_pay4, k0_pay7, k0_pay10, k0_pay13, k0_pay16, k0_pay19, k0_pay22, k0_pay25, k0_pay28, k0_pay31, k0_pay34,
      pay2_at, act, proj, lo, hi]
    blk_point

end Cert.FfnIdeal.Value

end
-- ==== Proof.Ffn.Region1.lean ====
module

public import proofs.«01_k».proof.Proof.Gen.FfnIdeal.Frame
public import proofs.«01_k».proof.Proof.Ffn.Spec
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- Which block of its array each window of the backward region holds at grid point `t`. -/
theorem idx1 : ∀ t : Fin cfg1.N, win1_0.index t = ![t.val, 0] ∧ win1_1.index t = ![t.val, 0] ∧ win1_2.index t = ![0, 0] ∧ win1_3.index t = ![t.val, 0]
    ∧ win1_4.index t = ![t.val, 0] ∧ win1_5.index t = ![0, 0] ∧ win1_6.index t = ![0, 0] ∧ win1_7.index t = ![t.val, 0] ∧ win1_8.index t = ![t.val, 0]
    ∧ win1_9.index t = ![t.val, 0] ∧ win1_10.index t = ![0, t.val, 0] ∧ win1_11.index t = ![t.val, 0] ∧ win1_12.index t = ![t.val, 0, 0] :=
  (by decide +kernel : ∀ t : Fin grid1.N, _)

/-- The staged half of the cotangent. -/
theorem pay7_at (x : Vec Ideal S272x1024 .f32) (a : Fin 272) (d : Fin 1024) : k1_pay7 x (ix2 a d) = half (x (ix2 a d)) := by
  pointwise [k1_pay7, half]

/-- The normalised rows, kept for the weight's gradient. -/
theorem final1_8 (c : Dev nD) : (dat1 V c).arrAt 8 cfg1.N = fun i =>
    normed (fun k => V c main_arg0 (ix2 (i 0) k)) (fun k => V c main_v0 (ix2 0 k)) (i 1) := by
  refine (dat1 V c).arrAt_eq_of_covers 8 _ (by decide +kernel) fun t hf y => ?_
  blk_simp
  rw [after1_8]
  unfold outsAt1
  frame_out
  pointwise [k1_pay6, normed, scale, meanSq]
  blk_point [iblk1, idx1 t]

/-- Half the cotangent, kept for the weight's gradient. -/
theorem final1_11 (c : Dev nD) : (dat1 V c).arrAt 11 cfg1.N = fun i => half (V c main_arg4 (ix2 (i 0) (i 1))) := by
  refine (dat1 V c).arrAt_eq_of_covers 11 _ (by decide +kernel) fun t hf y => ?_
  blk_simp
  rw [after1_11]
  unfold outsAt1
  frame_out
  pointwise [k1_pay7, half]
  blk_point [iblk1, idx1 t]

/-- The activations, kept for the weight's gradient. -/
theorem final1_9 (c : Dev nD) : (dat1 V c).arrAt 9 cfg1.N = fun i =>
    act (V c main_v3_1 (ix2 (i 0) (i 1))) (V c main_v3_2 (ix2 (i 0) (i 1))) := by
  refine (dat1 V c).arrAt_eq_of_covers 9 _ (by decide +kernel) fun t hf y => ?_
  blk_simp
  rw [after1_9]
  unfold outsAt1
  frame_out
  have e0 : V c main_v3_1 (ix2 (((View.whole main_v4_2).slice (win1_9.rect t)).emb y 0) (((View.whole main_v4_2).slice (win1_9.rect t)).emb y 1))
      = iblk1 V c 3 t (ix2 (y 0) (y 1)) := by
    blk_ext [iblk1, idx1 t]
  have e1 : V c main_v3_2 (ix2 (((View.whole main_v4_2).slice (win1_9.rect t)).emb y 0) (((View.whole main_v4_2).slice (win1_9.rect t)).emb y 1))
      = iblk1 V c 4 t (ix2 (y 0) (y 1)) := by
    blk_ext [iblk1, idx1 t]
  simp only [e0, e1]
  clear e0 e1
  generalize iblk1 V c 3 t = X3, iblk1 V c 4 t = X4
  canon_tiles x h
  all_goals
    pointwise [k1_pay8, k1_pay9, k1_pay10, k1_pay11, k1_pay12, k1_pay13, k1_pay14, k1_pay15, k1_pay16, k1_pay17, k1_pay18, k1_pay19, k1_pay20,
      k1_pay21, k1_pay22, k1_pay23, k1_pay24, k1_pay25, k1_pay26, k1_pay27, k1_pay28, k1_pay29, k1_pay30, k1_pay31, k1_pay32, k1_pay33,
      k1_pay34, k1_pay35, k1_pay36, k1_pay37, k1_pay38, k1_pay39, k1_pay40, k1_pay41, k1_pay42, k1_pay43, k1_pay44, k1_pay45, k1_pay46,
      k1_pay47, k1_pay48, k1_pay49, k1_pay50, k1_pay51, k1_pay52, k1_pay53, k1_pay54, k1_pay55, k1_pay56, k1_pay57, k1_pay58, k1_pay59,
      k1_pay60, k1_pay61, k1_pay62, k1_pay63, k1_pay64, k1_pay65, k1_pay66, k1_pay67, k1_pay68, k1_pay69, k1_pay70, k1_pay71, k1_pay72,
      k1_pay73, k1_pay74, k1_pay75, k1_pay76, k1_pay77, k1_pay78, k1_pay79, k1_pay80, k1_pay81, k1_pay82, k1_pay83, k1_pay84, k1_pay85,
      k1_pay86, k1_pay87, k1_pay88, k1_pay89, k1_pay90, k1_pay91, k1_pay92, k1_pay93, k1_pay94, k1_pay95, k1_pay96, k1_pay97, k1_pay98,
      k1_pay99, k1_pay100, k1_pay101,
      act]
    blk_point

end Cert.FfnIdeal.Value

end
-- ==== Proof.Ffn.Region1Gates.lean ====
module

public import proofs.«01_k».proof.Proof.Gen.FfnIdeal.Frame
public import proofs.«01_k».proof.Proof.Ffn.Region1
public import Idealize.ShloMosaic.Lib.Pipeline.ValueKit

@[expose] public section

set_option maxRecDepth 16384
set_option maxHeartbeats 2000000

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- The two branches' cotangents as one array: the gate's at 0, the linear branch's at 1. -/
def dgu (p : ℕ) (a g u : EReal) : EReal := if p = 0 then dgate a g u else dup a g

/-- The two branches' cotangents, kept for the weight's gradient. -/
theorem final1_10 (c : Dev nD) : (dat1 V c).arrAt 10 cfg1.N = fun i =>
    dgu (i 0) (dact (fun d => V c main_arg4 (ix2 (i 1) d)) (fun j d => V c main_v2 (ix2 j d)) (i 2))
      (V c main_v3_1 (ix2 (i 1) (i 2))) (V c main_v3_2 (ix2 (i 1) (i 2))) := by
  refine (dat1 V c).arrAt_eq_of_covers 10 _ (by decide +kernel) fun t hf y => ?_
  blk_simp
  rw [after1_10]
  unfold outsAt1
  frame_out
  have e0 : win1_10.index t 0 = 0 := by simp [idx1 t]
  have e1 : ∀ d, V c main_arg4 (ix2 (((View.whole main_v4_3).slice (win1_10.rect t)).emb y 1) d) = iblk1 V c 0 t (ix2 (y 1) d) := fun d => by
    blk_ext [iblk1, idx1 t]
  have e2 : (((View.whole main_v4_3).slice (win1_10.rect t)).emb y 2 : Fin 2816) = y 2 := Fin.ext (by
    blk_simp [idx1 t])
  have e3 : V c main_v3_1 (ix2 (((View.whole main_v4_3).slice (win1_10.rect t)).emb y 1) (y 2)) = iblk1 V c 3 t (ix2 (y 1) (y 2)) := by
    blk_ext [iblk1, idx1 t]
  have e4 : V c main_v3_2 (ix2 (((View.whole main_v4_3).slice (win1_10.rect t)).emb y 1) (y 2)) = iblk1 V c 4 t (ix2 (y 1) (y 2)) := by
    blk_ext [iblk1, idx1 t]
  have e5 : ∀ j d, V c main_v2 (ix2 j d) = iblk1 V c 6 t (ix2 j d) := fun j d => by
    blk_ext [iblk1, idx1 t]
  simp only [e0, e1, e2, e3, e4, e5, Nat.zero_mul, Nat.zero_add]
  clear e0 e1 e2 e3 e4 e5
  generalize iblk1 V c 0 t = X0, iblk1 V c 3 t = X3, iblk1 V c 4 t = X4, iblk1 V c 6 t = X6
  canon_tiles x h
  all_goals
    unfold dgu
    first
    | refine Eq.trans ?_ (if_pos (show (y 0 : ℕ) = 0 by omega)).symm
    | refine Eq.trans ?_ (if_neg (show ¬(y 0 : ℕ) = 0 by omega)).symm
    pointwise [k1_pay8, k1_pay9, k1_pay10, k1_pay11, k1_pay12, k1_pay13, k1_pay14, k1_pay15, k1_pay16, k1_pay17, k1_pay18, k1_pay19, k1_pay20,
      k1_pay21, k1_pay22, k1_pay23, k1_pay24, k1_pay25, k1_pay26, k1_pay27, k1_pay28, k1_pay29, k1_pay30, k1_pay31, k1_pay32, k1_pay33,
      k1_pay34, k1_pay35, k1_pay36, k1_pay37, k1_pay38, k1_pay39, k1_pay40, k1_pay41, k1_pay42, k1_pay43, k1_pay44, k1_pay45, k1_pay46,
      k1_pay47, k1_pay48, k1_pay49, k1_pay50, k1_pay51, k1_pay52, k1_pay53, k1_pay54, k1_pay55, k1_pay56, k1_pay57, k1_pay58, k1_pay59,
      k1_pay60, k1_pay61, k1_pay62, k1_pay63, k1_pay64, k1_pay65, k1_pay66, k1_pay67, k1_pay68, k1_pay69, k1_pay70, k1_pay71, k1_pay72,
      k1_pay73, k1_pay74, k1_pay75, k1_pay76, k1_pay77, k1_pay78, k1_pay79, k1_pay80, k1_pay81, k1_pay82, k1_pay83, k1_pay84, k1_pay85,
      k1_pay86, k1_pay87, k1_pay88, k1_pay89, k1_pay90, k1_pay91, k1_pay92, k1_pay93, k1_pay94, k1_pay95, k1_pay96, k1_pay97, k1_pay98,
      k1_pay99, k1_pay100, k1_pay101,
      pay7_at, dgate, dup, dact]
    blk_point

end Cert.FfnIdeal.Value

end
-- ==== Proof.Ffn.Region1Out.lean ====
module

public import proofs.«01_k».proof.Proof.Gen.FfnIdeal.Frame
public import proofs.«01_k».proof.Proof.Ffn.Region1
public import Idealize.ShloMosaic.Lib.Pipeline.ValueKit

@[expose] public section

set_option maxRecDepth 16384
set_option maxHeartbeats 2000000

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- The normalised row's cotangent from the row's cotangent `t`, its gate `g` and its linear branch `u`. -/
def dnOf (t : Fin 1024 → EReal) (B : Fin 2816 → Fin 1024 → EReal) (g u : Fin 2816 → EReal) (A : Fin 1024 → Fin 5632 → EReal) :
    Fin 1024 → EReal :=
  dn (fun j => dgate (dact t B j) (g j) (u j)) (fun j => dup (dact t B j) (g j)) A

/-- One product of the normalised row's cotangent: the gate's. -/
theorem pay102_at (D : Vec Ideal S1x272x2816 .bf16) (W : Vec Ideal S1024x2816 .bf16) (a : Fin 272) (b : Fin 1024) :
    k1_pay102 D W (ix2 a b) = ∑ j : Fin 2816, D (ix3 0 a j) * W (ix2 b j) := by
  pointwise [k1_pay102]

/-- The other product: the linear branch's. -/
theorem pay103_at (D : Vec Ideal S1x272x2816 .bf16) (W : Vec Ideal S1024x2816 .bf16) (a : Fin 272) (b : Fin 1024) :
    k1_pay103 D W (ix2 a b) = ∑ j : Fin 2816, D (ix3 0 a j) * W (ix2 b j) := by
  pointwise [k1_pay103]

/-- The stored gradient of the input block, from the two products `p` and `q`. -/
theorem pay3_at (x : Vec Ideal S272x1024 .f32) (nw : Vec Ideal S1x1024 .f32) (t : Vec Ideal S272x1024 .f32) (p q : FVec Ideal S272x1024 .f32)
    (y : S272x1024.Idx) :
    k1_pay3 x (k1_pay5 nw) t p q y = dx (fun k => x (ix2 (y 0) k)) (fun k => nw (ix2 0 k)) (fun k => t (ix2 (y 0) k))
      (fun k => p (ix2 (y 0) k) + q (ix2 (y 0) k)) (y 1) := by
  pointwise [k1_pay3, k1_pay1, k1_pay2, k1_pay5, dx, scale, meanSq]

/-- The gradient of the input rows. -/
theorem final1_7 (c : Dev nD) : (dat1 V c).arrAt 7 cfg1.N = fun i =>
    dx (fun k => V c main_arg0 (ix2 (i 0) k)) (fun k => V c main_v0 (ix2 0 k)) (fun k => V c main_arg4 (ix2 (i 0) k))
      (dnOf (fun d => V c main_arg4 (ix2 (i 0) d)) (fun j d => V c main_v2 (ix2 j d)) (fun j => V c main_v3_1 (ix2 (i 0) j))
        (fun j => V c main_v3_2 (ix2 (i 0) j)) (fun k c' => V c main_v1 (ix2 k c'))) (i 1) := by
  refine (dat1 V c).arrAt_eq_of_covers 7 _ (by decide +kernel) fun t hf y => ?_
  blk_simp
  rw [after1_7]
  unfold outsAt1
  frame_out
  have e0 : ∀ k, V c main_arg0 (ix2 (((View.whole main_v4_0).slice (win1_7.rect t)).emb y 0) k) = iblk1 V c 1 t (ix2 (y 0) k) := fun k => by
    blk_ext [iblk1, idx1 t]
  have e1 : ∀ k, V c main_v0 (ix2 0 k) = iblk1 V c 2 t (ix2 0 k) := fun k => by
    blk_ext [iblk1, idx1 t]
  have e2 : ∀ k, V c main_arg4 (ix2 (((View.whole main_v4_0).slice (win1_7.rect t)).emb y 0) k) = iblk1 V c 0 t (ix2 (y 0) k) := fun k => by
    blk_ext [iblk1, idx1 t]
  have e3 : ∀ k, V c main_v3_1 (ix2 (((View.whole main_v4_0).slice (win1_7.rect t)).emb y 0) k) = iblk1 V c 3 t (ix2 (y 0) k) := fun k => by
    blk_ext [iblk1, idx1 t]
  have e4 : ∀ k, V c main_v3_2 (ix2 (((View.whole main_v4_0).slice (win1_7.rect t)).emb y 0) k) = iblk1 V c 4 t (ix2 (y 0) k) := fun k => by
    blk_ext [iblk1, idx1 t]
  have e5 : ∀ k c', V c main_v1 (ix2 k c') = iblk1 V c 5 t (ix2 k c') := fun k c' => by
    blk_ext [iblk1, idx1 t]
  have e6 : ∀ j d, V c main_v2 (ix2 j d) = iblk1 V c 6 t (ix2 j d) := fun j d => by
    blk_ext [iblk1, idx1 t]
  have e7 : (((View.whole main_v4_0).slice (win1_7.rect t)).emb y 1 : Fin 1024) = y 1 := Fin.ext (by
    blk_simp [idx1 t])
  simp only [e0, e1, e2, e3, e4, e5, e6, e7]
  clear e0 e1 e2 e3 e4 e5 e6 e7
  generalize iblk1 V c 0 t = X0, iblk1 V c 1 t = X1, iblk1 V c 2 t = X2, iblk1 V c 3 t = X3, iblk1 V c 4 t = X4, iblk1 V c 5 t = X5,
    iblk1 V c 6 t = X6
  refine (pay3_at _ _ _ _ _ y).trans (congrArg (fun z => dx _ _ _ z _) (funext fun k => ?_))
  unfold dnOf dn
  refine congrArg₂ (· + ·) ((pay102_at _ _ _ _).trans (Finset.sum_congr rfl fun j _ => congrArg₂ (· * ·) ?_ ?_))
    ((pay103_at _ _ _ _).trans (Finset.sum_congr rfl fun j _ => congrArg₂ (· * ·) ?_ ?_))
  case refine_2 => pointwise [lo]
  case refine_4 => pointwise [hi]
  case refine_1 =>
    rw [View.readCov_eq_canon']
    canon_tiles x h
    all_goals
      change 0 + 1 * 0 = _ at h0
      change 0 + 1 * (y 0 : ℕ) = _ at h1
      change 0 + 1 * (j : ℕ) = _ at h2
      first
      | exact absurd h0 (by omega)
      | rw [Nat.zero_add, Nat.one_mul] at h1 h2
        pointwise [k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33,
        k1_pay34, k1_pay35, k1_pay36, k1_pay37, k1_pay38, k1_pay39, k1_pay40, k1_pay41, k1_pay42, k1_pay43, k1_pay44, k1_pay45, k1_pay46,
        k1_pay47, k1_pay48, k1_pay49, k1_pay50, k1_pay51, k1_pay52, k1_pay53, k1_pay54, k1_pay55, k1_pay56, k1_pay57, k1_pay58, k1_pay59,
        k1_pay60, k1_pay61, k1_pay62, k1_pay63, k1_pay64, k1_pay65, k1_pay66, k1_pay67, k1_pay68, k1_pay69, k1_pay70, k1_pay71, k1_pay72,
        k1_pay73, k1_pay74, k1_pay75, k1_pay76, k1_pay77, k1_pay78, k1_pay79, k1_pay80, k1_pay81, k1_pay82, k1_pay83, k1_pay84, k1_pay85,
        k1_pay86, k1_pay87, k1_pay88, k1_pay89, k1_pay90, k1_pay91, k1_pay92, k1_pay93, k1_pay94, k1_pay95, k1_pay96, k1_pay97, k1_pay98,
        k1_pay99, k1_pay100, k1_pay101,
          pay7_at, dgate, dup, dact]
        blk_point
  case refine_3 =>
    rw [View.readCov_eq_canon']
    canon_tiles x h
    all_goals
      change 1 + 1 * 0 = _ at h0
      change 0 + 1 * (y 0 : ℕ) = _ at h1
      change 0 + 1 * (j : ℕ) = _ at h2
      first
      | exact absurd h0 (by omega)
      | rw [Nat.zero_add, Nat.one_mul] at h1 h2
        pointwise [k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33,
        k1_pay34, k1_pay35, k1_pay36, k1_pay37, k1_pay38, k1_pay39, k1_pay40, k1_pay41, k1_pay42, k1_pay43, k1_pay44, k1_pay45, k1_pay46,
        k1_pay47, k1_pay48, k1_pay49, k1_pay50, k1_pay51, k1_pay52, k1_pay53, k1_pay54, k1_pay55, k1_pay56, k1_pay57, k1_pay58, k1_pay59,
        k1_pay60, k1_pay61, k1_pay62, k1_pay63, k1_pay64, k1_pay65, k1_pay66, k1_pay67, k1_pay68, k1_pay69, k1_pay70, k1_pay71, k1_pay72,
        k1_pay73, k1_pay74, k1_pay75, k1_pay76, k1_pay77, k1_pay78, k1_pay79, k1_pay80, k1_pay81, k1_pay82, k1_pay83, k1_pay84, k1_pay85,
        k1_pay86, k1_pay87, k1_pay88, k1_pay89, k1_pay90, k1_pay91, k1_pay92, k1_pay93, k1_pay94, k1_pay95, k1_pay96, k1_pay97, k1_pay98,
        k1_pay99, k1_pay100, k1_pay101,
          pay7_at, dgate, dup, dact]
        blk_point

end Cert.FfnIdeal.Value

end
-- ==== Proof.Ffn.Region1Norm.lean ====
module

public import proofs.«01_k».proof.Proof.Gen.FfnIdeal.Frame
public import proofs.«01_k».proof.Proof.Ffn.Region1Out
public import Idealize.ShloMosaic.Lib.Pipeline.ValueKit

@[expose] public section

set_option maxRecDepth 16384
set_option maxHeartbeats 2000000

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- Row `r` of the 272 rows of grid point `b`. -/
def rowOf (b : Fin 16) (r : Fin 272) : Fin 4352 := ⟨272 * b + r, by omega⟩

/-- A sum over one grid point's rows. -/
def rowSum (f : Fin 272 → EReal) : EReal := ∑ r, f r

/-- One row's part of the norm weight's gradient, from the normalised row's cotangent `z` and the row `x`. -/
def dwTerm (z x : Fin 1024 → EReal) (d : Fin 1024) : EReal := z d * (x d * scale x)

/-- The stored part of the norm weight's gradient, from the two products `p` and `q`. -/
theorem pay4_at (x : Vec Ideal S272x1024 .f32) (p q : FVec Ideal S272x1024 .f32) (y : S1x1x1024.Idx) :
    k1_pay4 x p q y = rowSum fun r => dwTerm (fun d => p (ix2 r d) + q (ix2 r d)) (fun k => x (ix2 r k)) (y 2) := by
  pointwise [k1_pay4, k1_pay1, k1_pay2, rowSum, dwTerm, scale, meanSq]

/-- The parts of the norm weight's gradient, one for each grid point's rows. -/
theorem final1_12 (c : Dev nD) : (dat1 V c).arrAt 12 cfg1.N = fun i =>
    rowSum fun r => dwTerm
      (dnOf (fun d => V c main_arg4 (ix2 (rowOf (i 0) r) d)) (fun j d => V c main_v2 (ix2 j d))
        (fun j => V c main_v3_1 (ix2 (rowOf (i 0) r) j)) (fun j => V c main_v3_2 (ix2 (rowOf (i 0) r) j))
        (fun k c' => V c main_v1 (ix2 k c')))
      (fun k => V c main_arg0 (ix2 (rowOf (i 0) r) k)) (i 2) := by
  refine (dat1 V c).arrAt_eq_of_covers 12 _ (by decide +kernel) fun t hf y => ?_
  blk_simp
  rw [after1_12]
  unfold outsAt1
  frame_out
  have e0 : ∀ r k, V c main_arg0 (ix2 (rowOf (((View.whole main_v4_5).slice (win1_12.rect t)).emb y 0) r) k) = iblk1 V c 1 t (ix2 r k) := fun r k => by
    blk_ext [iblk1, idx1 t, rowOf]
  have e2 : ∀ r k, V c main_arg4 (ix2 (rowOf (((View.whole main_v4_5).slice (win1_12.rect t)).emb y 0) r) k) = iblk1 V c 0 t (ix2 r k) := fun r k => by
    blk_ext [iblk1, idx1 t, rowOf]
  have e3 : ∀ r k, V c main_v3_1 (ix2 (rowOf (((View.whole main_v4_5).slice (win1_12.rect t)).emb y 0) r) k) = iblk1 V c 3 t (ix2 r k) := fun r k => by
    blk_ext [iblk1, idx1 t, rowOf]
  have e4 : ∀ r k, V c main_v3_2 (ix2 (rowOf (((View.whole main_v4_5).slice (win1_12.rect t)).emb y 0) r) k) = iblk1 V c 4 t (ix2 r k) := fun r k => by
    blk_ext [iblk1, idx1 t, rowOf]
  have e5 : ∀ k c', V c main_v1 (ix2 k c') = iblk1 V c 5 t (ix2 k c') := fun k c' => by
    blk_ext [iblk1, idx1 t]
  have e6 : ∀ j d, V c main_v2 (ix2 j d) = iblk1 V c 6 t (ix2 j d) := fun j d => by
    blk_ext [iblk1, idx1 t]
  have e7 : (((View.whole main_v4_5).slice (win1_12.rect t)).emb y 2 : Fin 1024) = y 2 := Fin.ext (by
    blk_simp [idx1 t])
  simp only [e0, e2, e3, e4, e5, e6, e7]
  clear e0 e2 e3 e4 e5 e6 e7
  generalize iblk1 V c 0 t = X0, iblk1 V c 1 t = X1, iblk1 V c 2 t = X2, iblk1 V c 3 t = X3, iblk1 V c 4 t = X4, iblk1 V c 5 t = X5,
    iblk1 V c 6 t = X6
  refine (pay4_at _ _ _ y).trans (congrArg rowSum (funext fun r => congrArg (fun z => dwTerm z _ _) (funext fun k => ?_)))
  unfold dnOf dn
  refine congrArg₂ (· + ·) ((pay102_at _ _ _ _).trans (Finset.sum_congr rfl fun j _ => congrArg₂ (· * ·) ?_ ?_))
    ((pay103_at _ _ _ _).trans (Finset.sum_congr rfl fun j _ => congrArg₂ (· * ·) ?_ ?_))
  case refine_2 => pointwise [lo]
  case refine_4 => pointwise [hi]
  case refine_1 =>
    rw [View.readCov_eq_canon']
    canon_tiles x h
    all_goals
      change 0 + 1 * 0 = _ at h0
      change 0 + 1 * (r : ℕ) = _ at h1
      change 0 + 1 * (j : ℕ) = _ at h2
      first
      | exact absurd h0 (by omega)
      | rw [Nat.zero_add, Nat.one_mul] at h1 h2
        pointwise [k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33,
        k1_pay34, k1_pay35, k1_pay36, k1_pay37, k1_pay38, k1_pay39, k1_pay40, k1_pay41, k1_pay42, k1_pay43, k1_pay44, k1_pay45, k1_pay46,
        k1_pay47, k1_pay48, k1_pay49, k1_pay50, k1_pay51, k1_pay52, k1_pay53, k1_pay54, k1_pay55, k1_pay56, k1_pay57, k1_pay58, k1_pay59,
        k1_pay60, k1_pay61, k1_pay62, k1_pay63, k1_pay64, k1_pay65, k1_pay66, k1_pay67, k1_pay68, k1_pay69, k1_pay70, k1_pay71, k1_pay72,
        k1_pay73, k1_pay74, k1_pay75, k1_pay76, k1_pay77, k1_pay78, k1_pay79, k1_pay80, k1_pay81, k1_pay82, k1_pay83, k1_pay84, k1_pay85,
        k1_pay86, k1_pay87, k1_pay88, k1_pay89, k1_pay90, k1_pay91, k1_pay92, k1_pay93, k1_pay94, k1_pay95, k1_pay96, k1_pay97, k1_pay98,
        k1_pay99, k1_pay100, k1_pay101,
          pay7_at, dgate, dup, dact]
        blk_point
  case refine_3 =>
    rw [View.readCov_eq_canon']
    canon_tiles x h
    all_goals
      change 1 + 1 * 0 = _ at h0
      change 0 + 1 * (r : ℕ) = _ at h1
      change 0 + 1 * (j : ℕ) = _ at h2
      first
      | exact absurd h0 (by omega)
      | rw [Nat.zero_add, Nat.one_mul] at h1 h2
        pointwise [k1_pay8, k1_pay9, k1_pay10, k1_pay11, k1_pay12, k1_pay13, k1_pay14, k1_pay15, k1_pay16, k1_pay17, k1_pay18, k1_pay19, k1_pay20,
        k1_pay21, k1_pay22, k1_pay23, k1_pay24, k1_pay25, k1_pay26, k1_pay27, k1_pay28, k1_pay29, k1_pay30, k1_pay31, k1_pay32, k1_pay33,
        k1_pay34, k1_pay35, k1_pay36, k1_pay37, k1_pay38, k1_pay39, k1_pay40, k1_pay41, k1_pay42, k1_pay43, k1_pay44, k1_pay45, k1_pay46,
        k1_pay47, k1_pay48, k1_pay49, k1_pay50, k1_pay51, k1_pay52, k1_pay53, k1_pay54, k1_pay55, k1_pay56, k1_pay57, k1_pay58, k1_pay59,
        k1_pay60, k1_pay61, k1_pay62, k1_pay63, k1_pay64, k1_pay65, k1_pay66, k1_pay67, k1_pay68, k1_pay69, k1_pay70, k1_pay71, k1_pay72,
        k1_pay73, k1_pay74, k1_pay75, k1_pay76, k1_pay77, k1_pay78, k1_pay79, k1_pay80, k1_pay81, k1_pay82, k1_pay83, k1_pay84, k1_pay85,
        k1_pay86, k1_pay87, k1_pay88, k1_pay89, k1_pay90, k1_pay91, k1_pay92, k1_pay93, k1_pay94, k1_pay95, k1_pay96, k1_pay97, k1_pay98,
        k1_pay99, k1_pay100, k1_pay101,
          pay7_at, dgate, dup, dact]
        blk_point

end Cert.FfnIdeal.Value

end
-- ==== Proof.Ffn.Fold.lean ====
/-
  The arrays of the forward and the backward region over the program's arguments: the contents each host operation and
  each region leaves, composed.
-/
module

public import proofs.«01_k».proof.Proof.Ffn.Region0Out
public import proofs.«01_k».proof.Proof.Ffn.Region1Gates
public import proofs.«01_k».proof.Proof.Ffn.Region1Norm
public import Idealize.ShloMosaic.Lib.StableHlo.Run

@[expose] public section

set_option maxRecDepth 16384

noncomputable section

namespace Cert.FfnIdeal.Value

open Idealize.ShloMosaic Idealize.ShloMosaic.TcCoe Idealize.SL.Sem
open Cert.FfnIdeal Cert.FfnIdeal.Gen Cert.FfnSpec

variable (m : (ℓ : Loc nD τ sig) → Buf (Elt Ideal) ℓ) (ρ : Dev nD → PrngReg) (c : Dev nD)

/-- The arguments as functions of their coordinates. -/
abbrev aX : Fin 4352 → Fin 1024 → EReal := fun i k => m ((c : Thread nD τ).loc main_arg0) (ix2 i k)
abbrev aw : Fin 1024 → EReal := fun k => m ((c : Thread nD τ).loc main_arg1) (ix1 k)
abbrev aA : Fin 1024 → Fin 5632 → EReal := fun k j => m ((c : Thread nD τ).loc main_arg2) (ix2 k j)
abbrev aB : Fin 2816 → Fin 1024 → EReal := fun j d => m ((c : Thread nD τ).loc main_arg3) (ix2 j d)
abbrev aT : Fin 4352 → Fin 1024 → EReal := fun i k => m ((c : Thread nD τ).loc main_arg4) (ix2 i k)

/-! The forward region's entry. -/

theorem V1_x (i : Fin 4352) : (fun k => V1 m ρ c main_arg0 (ix2 i k)) = aX m c i :=
  funext fun k => congrFun (W1_args m ρ c main_arg0 (by decide)) _

theorem V1_w : (fun k => V1 m ρ c main_v0 (ix2 0 k)) = aw m c := funext fun k => by
  show StableHlo.after hostOps0 (W0 m ρ c) _ _ = _
  after_results
  pointwise [aw]

theorem V1_A : (fun k j => V1 m ρ c main_v1 (ix2 k j)) = aA m c := funext fun k => funext fun j => by
  show StableHlo.after hostOps0 (W0 m ρ c) _ _ = _
  after_results
  rfl

theorem V1_B : (fun j d => V1 m ρ c main_v2 (ix2 j d)) = aB m c := funext fun j => funext fun d => by
  show StableHlo.after hostOps0 (W0 m ρ c) _ _ = _
  after_results
  rfl

/-! The forward region's arrays. -/

theorem W2_out (i : Fin 4352) (d : Fin 1024) : W2 m ρ c main_v3_0 (ix2 i d) = Out (aX m c) (aw m c) (aA m c) (aB m c) i d := by
  refine (congrFun ((W2_arr m ρ c 4).trans (final0_4 (V1 m ρ) c)) (ix2 i d)).trans ?_
  show out (fun k => V1 m ρ c main_arg0 (ix2 i k)) (fun j => act
    (proj (fun k => V1 m ρ c main_arg0 (ix2 i k)) (fun k => V1 m ρ c main_v0 (ix2 0 k)) (fun k c' => V1 m ρ c main_v1 (ix2 k c')) (lo j))
    (proj (fun k => V1 m ρ c main_arg0 (ix2 i k)) (fun k => V1 m ρ c main_v0 (ix2 0 k)) (fun k c' => V1 m ρ c main_v1 (ix2 k c')) (hi j)))
    (fun j d => V1 m ρ c main_v2 (ix2 j d)) d = _
  rw [V1_x, V1_w, V1_A, V1_B]
  rfl

theorem W2_g (i : Fin 4352) (j : Fin 2816) : W2 m ρ c main_v3_1 (ix2 i j) = G (aX m c) (aw m c) (aA m c) i j := by
  refine (congrFun ((W2_arr m ρ c 5).trans (final0_5 (V1 m ρ) c)) (ix2 i j)).trans ?_
  show proj (fun k => V1 m ρ c main_arg0 (ix2 i k)) (fun k => V1 m ρ c main_v0 (ix2 0 k)) (fun k c' => V1 m ρ c main_v1 (ix2 k c')) (lo j) = _
  rw [V1_x, V1_w, V1_A]
  rfl

theorem W2_u (i : Fin 4352) (j : Fin 2816) : W2 m ρ c main_v3_2 (ix2 i j) = U (aX m c) (aw m c) (aA m c) i j := by
  refine (congrFun ((W2_arr m ρ c 6).trans (final0_6 (V1 m ρ) c)) (ix2 i j)).trans ?_
  show proj (fun k => V1 m ρ c main_arg0 (ix2 i k)) (fun k => V1 m ρ c main_v0 (ix2 0 k)) (fun k c' => V1 m ρ c main_v1 (ix2 k c')) (hi j) = _
  rw [V1_x, V1_w, V1_A]
  rfl

/-! The backward region's entry. -/

theorem V2_x (i : Fin 4352) : (fun k => V2 m ρ c main_arg0 (ix2 i k)) = aX m c i :=
  funext fun k => congrFun (W2_args m ρ c main_arg0 (by decide)) _
theorem V2_t (i : Fin 4352) : (fun k => V2 m ρ c main_arg4 (ix2 i k)) = aT m c i :=
  funext fun k => congrFun (W2_args m ρ c main_arg4 (by decide)) _
theorem V2_w : (fun k => V2 m ρ c main_v0 (ix2 0 k)) = aw m c :=
  (funext fun k => congrFun (W2_of m ρ c main_v0 (by decide +kernel)) _).trans (V1_w m ρ c)
theorem V2_A : (fun k j => V2 m ρ c main_v1 (ix2 k j)) = aA m c :=
  (funext fun k => funext fun j => congrFun (W2_of m ρ c main_v1 (by decide +kernel)) _).trans (V1_A m ρ c)
theorem V2_B : (fun j d => V2 m ρ c main_v2 (ix2 j d)) = aB m c :=
  (funext fun j => funext fun d => congrFun (W2_of m ρ c main_v2 (by decide +kernel)) _).trans (V1_B m ρ c)
theorem V2_g (i : Fin 4352) (j : Fin 2816) : V2 m ρ c main_v3_1 (ix2 i j) = G (aX m c) (aw m c) (aA m c) i j :=
  W2_g m ρ c i j
theorem V2_u (i : Fin 4352) (j : Fin 2816) : V2 m ρ c main_v3_2 (ix2 i j) = U (aX m c) (aw m c) (aA m c) i j :=
  W2_u m ρ c i j

/-- One row's cotangent through the projections, over the arguments. -/
theorem V2_dn (i : Fin 4352) : dnOf (fun d => V2 m ρ c main_arg4 (ix2 i d)) (fun j d => V2 m ρ c main_v2 (ix2 j d))
    (fun j => V2 m ρ c main_v3_1 (ix2 i j)) (fun j => V2 m ρ c main_v3_2 (ix2 i j)) (fun k c' => V2 m ρ c main_v1 (ix2 k c'))
    = DN (aX m c) (aw m c) (aA m c) (aB m c) (aT m c) i := by
  rw [V2_t, V2_B, V2_A, funext (V2_g m ρ c i), funext (V2_u m ρ c i)]
  rfl

/-! The backward region's arrays. -/

theorem W3_dx (i : Fin 4352) (d : Fin 1024) : W3 m ρ c main_v4_0 (ix2 i d) = DX (aX m c) (aw m c) (aA m c) (aB m c) (aT m c) i d := by
  refine (congrFun ((W3_arr m ρ c 7).trans (final1_7 (V2 m ρ) c)) (ix2 i d)).trans ?_
  show dx (fun k => V2 m ρ c main_arg0 (ix2 i k)) (fun k => V2 m ρ c main_v0 (ix2 0 k)) (fun k => V2 m ρ c main_arg4 (ix2 i k))
    (dnOf (fun d => V2 m ρ c main_arg4 (ix2 i d)) (fun j d => V2 m ρ c main_v2 (ix2 j d)) (fun j => V2 m ρ c main_v3_1 (ix2 i j))
      (fun j => V2 m ρ c main_v3_2 (ix2 i j)) (fun k c' => V2 m ρ c main_v1 (ix2 k c'))) d = _
  rw [V2_dn, V2_x, V2_w, V2_t]
  rfl

theorem W3_n (i : Fin 4352) (k : Fin 1024) : W3 m ρ c main_v4_1 (ix2 i k) = normed (aX m c i) (aw m c) k := by
  refine (congrFun ((W3_arr m ρ c 8).trans (final1_8 (V2 m ρ) c)) (ix2 i k)).trans ?_
  show normed (fun k => V2 m ρ c main_arg0 (ix2 i k)) (fun k => V2 m ρ c main_v0 (ix2 0 k)) k = _
  rw [V2_x, V2_w]

theorem W3_a (i : Fin 4352) (j : Fin 2816) : W3 m ρ c main_v4_2 (ix2 i j) = Act (aX m c) (aw m c) (aA m c) i j := by
  refine (congrFun ((W3_arr m ρ c 9).trans (final1_9 (V2 m ρ) c)) (ix2 i j)).trans ?_
  show act (V2 m ρ c main_v3_1 (ix2 i j)) (V2 m ρ c main_v3_2 (ix2 i j)) = _
  exact congrArg₂ act (V2_g m ρ c i j) (V2_u m ρ c i j)

theorem W3_gates (p : Fin 2) (i : Fin 4352) (j : Fin 2816) : W3 m ρ c main_v4_3 (ix3 p i j)
    = dgu p (dact (aT m c i) (aB m c) j) (G (aX m c) (aw m c) (aA m c) i j) (U (aX m c) (aw m c) (aA m c) i j) := by
  refine (congrFun ((W3_arr m ρ c 10).trans (final1_10 (V2 m ρ) c)) (ix3 p i j)).trans ?_
  show dgu p (dact (fun d => V2 m ρ c main_arg4 (ix2 i d)) (fun j d => V2 m ρ c main_v2 (ix2 j d)) j) (V2 m ρ c main_v3_1 (ix2 i j))
    (V2 m ρ c main_v3_2 (ix2 i j)) = _
  rw [V2_t, V2_B]
  exact congrArg₂ (dgu p _) (V2_g m ρ c i j) (V2_u m ρ c i j)

theorem W3_half (i : Fin 4352) (d : Fin 1024) : W3 m ρ c main_v4_4 (ix2 i d) = half (aT m c i d) := by
  refine (congrFun ((W3_arr m ρ c 11).trans (final1_11 (V2 m ρ) c)) (ix2 i d)).trans ?_
  exact congrArg half (congrFun (V2_t m ρ c i) d)

theorem W3_norm (p : Fin 16) (d : Fin 1024) : W3 m ρ c main_v4_5 (ix3 p 0 d) = rowSum fun r =>
    dwTerm (DN (aX m c) (aw m c) (aA m c) (aB m c) (aT m c) (rowOf p r)) (aX m c (rowOf p r)) d := by
  refine (congrFun ((W3_arr m ρ c 12).trans (final1_12 (V2 m ρ) c)) (ix3 p 0 d)).trans (congrArg rowSum (funext fun r => ?_))
  show dwTerm (dnOf (fun d => V2 m ρ c main_arg4 (ix2 (rowOf p r) d)) (fun j d => V2 m ρ c main_v2 (ix2 j d))
    (fun j => V2 m ρ c main_v3_1 (ix2 (rowOf p r) j)) (fun j => V2 m ρ c main_v3_2 (ix2 (rowOf p r) j)) (fun k c' => V2 m ρ c main_v1 (ix2 k c')))
    (fun k => V2 m ρ c main_arg0 (ix2 (rowOf p r) k)) d = _
  rw [V2_dn, V2_x]

end Cert.FfnIdeal.Value

end
-- ==== Proof.Ffn.Region3.lean ====
module

public import proofs.«01_k».proof.Proof.Gen.FfnIdeal.Frame
public import proofs.«01_k».proof.Proof.Ffn.Spec
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- Which block of its array each window of the second weight gradient's region holds at grid point `t`. -/
theorem idx3 : ∀ t : Fin cfg3.N, win3_0.index t = ![0, t.val] ∧ win3_1.index t = ![0, 0] ∧ win3_2.index t = ![t.val, 0] :=
  (by decide +kernel : ∀ t : Fin grid3.N, _)

/-- One element of a product of one matrix, transposed, with another: the sum over the rows. -/
def tdot (p q : Fin 4352 → EReal) : EReal := ∑ r, p r * q r

/-- The gradient of the output projection: the activations transposed times half the cotangent. -/
theorem final3_2 (c : Dev nD) : (dat3 V c).arrAt 2 cfg3.N = fun i =>
    tdot (fun r => V c main_v4_2 (ix2 r (i 0))) (fun r => V c main_v4_4 (ix2 r (i 1))) := by
  refine (dat3 V c).arrAt_eq_of_covers 2 _ (by decide +kernel) fun t hf y => ?_
  blk_simp
  rw [after3_2]
  unfold out3_2
  frame_out
  pointwise [k3_pay1, tdot]
  blk_point [iblk3, idx3 t]

end Cert.FfnIdeal.Value

end
-- ==== Proof.Ffn.Region2.lean ====
module

public import proofs.«01_k».proof.Proof.Gen.FfnIdeal.Frame
public import proofs.«01_k».proof.Proof.Ffn.Region3
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnSpec

variable (V : (c : Dev nD) → (b : Ref sig .tc) → Buf (Elt Ideal) ((c : Thread nD τ).loc b))

/-- Which block of its array each window of the first weight gradient's region holds at grid point `t`. -/
theorem idx2 : ∀ t : Fin cfg2.N, win2_0.index t = ![0, t.val / 4] ∧ win2_1.index t = ![t.val % 4 / 2, 0, t.val % 2]
    ∧ win2_2.index t = ![t.val / 4, t.val % 4] :=
  (by decide +kernel : ∀ t : Fin grid2.N, _)

/-- The gradient of the input projection: the normalised rows transposed times the two branches' cotangents, the gate's in
    the first half of the columns and the linear branch's in the second. -/
theorem final2_2 (c : Dev nD) : (dat2 V c).arrAt 2 cfg2.N = fun i =>
    tdot (fun r => V c main_v4_1 (ix2 r (i 0))) (fun r => V c main_v4_3
      (ix3 (⟨(i 1 : ℕ) / 2816, Nat.div_lt_of_lt_mul (i 1).isLt⟩ : Fin 2) r (⟨(i 1 : ℕ) % 2816, Nat.mod_lt _ (by decide)⟩ : Fin 2816))) := by
  refine (dat2 V c).arrAt_eq_of_covers 2 _ (by decide +kernel) fun t hf y => ?_
  blk_simp
  rw [after2_2]
  unfold out2_2
  frame_out
  pointwise [k2_pay1, tdot]
  blk_point [iblk2, idx2 t]

end Cert.FfnIdeal.Value

end
-- ==== Proof.Ffn.Results.lean ====
/-
  The program's five results over its arguments.
-/
module

public import proofs.«01_k».proof.Proof.Ffn.Fold
public import proofs.«01_k».proof.Proof.Ffn.Region2
public import Idealize.ShloMosaic.Lib.StableHlo.Run

@[expose] public section

set_option maxRecDepth 16384

noncomputable section

namespace Cert.FfnIdeal.Value

open Idealize.ShloMosaic Idealize.ShloMosaic.TcCoe Idealize.SL.Sem
open Cert.FfnIdeal Cert.FfnIdeal.Gen Cert.FfnSpec

variable (m : (ℓ : Loc nD τ sig) → Buf (Elt Ideal) ℓ) (ρ : Dev nD → PrngReg) (c : Dev nD)

theorem W6_out (i : Fin 4352) (d : Fin 1024) : W6 m ρ c main_v3_0 (ix2 i d) = Out (aX m c) (aw m c) (aA m c) (aB m c) i d :=
  (congrFun (W6_of m ρ c main_v3_0 (by decide +kernel)) _).trans <| (congrFun (W5_of m ρ c main_v3_0 (by decide +kernel)) _).trans <|
    (congrFun (W4_of m ρ c main_v3_0 (by decide)) _).trans <| (congrFun (W3_of m ρ c main_v3_0 (by decide +kernel)) _).trans (W2_out m ρ c i d)

theorem W6_dx (i : Fin 4352) (d : Fin 1024) : W6 m ρ c main_v4_0 (ix2 i d) = DX (aX m c) (aw m c) (aA m c) (aB m c) (aT m c) i d :=
  (congrFun (W6_of m ρ c main_v4_0 (by decide +kernel)) _).trans <| (congrFun (W5_of m ρ c main_v4_0 (by decide +kernel)) _).trans <|
    (congrFun (W4_of m ρ c main_v4_0 (by decide)) _).trans (W3_dx m ρ c i d)

/-- The sum of sixteen terms. -/
def sum16 (f : Fin 16 → EReal) : EReal := ∑ p, f p

/-- The host's sum of the sixteen parts of an array. -/
theorem parts_at (x : (⟨S16x1x1024, .f32⟩ : BufTy).Contents (Elt Ideal)) (d : Fin 1024) :
    shapeCast S1024 (Host.reduceAdd (F := Ideal) x (constant S_ .f32 0x00000000#32) reducesTo_S16x1x1024_S1x1024_d0 h_S_) shapeCasts_S1x1024_S1024 (ix1 d)
      = sum16 fun p => x (ix3 p 0 d) := by
  pointwise [sum16]

/-- The last host stretch leaves that sum of the parts. -/
theorem W4_parts (d : Fin 1024) : W4 m ρ c main_v6 (ix1 d) = sum16 fun p => W3 m ρ c main_v4_5 (ix3 p 0 d) := by
  refine Eq.trans ?_ (parts_at (W3 m ρ c main_v4_5) d)
  show StableHlo.after hostOps2 (W3 m ρ c) _ _ = _
  generalize W3 m ρ c = E
  after_results
  rfl

/-- Summing the parts, each over its own rows, is summing over all rows. -/
theorem sum_parts (f : Fin 4352 → EReal) : (sum16 fun p => rowSum fun r => f (rowOf p r)) = ∑ i, f i := by
  rw [Fin.sum_univ_tiles 16 272 rfl]
  exact Finset.sum_congr rfl fun p _ => Finset.sum_congr rfl fun r _ => congrArg f (Fin.ext (by show 272 * (p : ℕ) + r = p * 272 + r; omega))

theorem W6_dw (d : Fin 1024) : W6 m ρ c main_v6 (ix1 d) = DW (aX m c) (aw m c) (aA m c) (aB m c) (aT m c) d :=
  (congrFun (W6_of m ρ c main_v6 (by decide +kernel)) _).trans <| (congrFun (W5_of m ρ c main_v6 (by decide +kernel)) _).trans <|
    (W4_parts m ρ c d).trans <| (congrArg sum16 (funext fun p => W3_norm m ρ c p d)).trans <|
      sum_parts fun i => dwTerm (DN (aX m c) (aw m c) (aA m c) (aB m c) (aT m c) i) (aX m c i) d

/-- Column `j` of the input projection's gradient, as column `j % 2816` of part `j / 2816`. -/
theorem tdot_gates (X : Fin 4352 → Fin 1024 → EReal) (w : Fin 1024 → EReal) (A : Fin 1024 → Fin 5632 → EReal)
    (B : Fin 2816 → Fin 1024 → EReal) (T : Fin 4352 → Fin 1024 → EReal) (k : Fin 1024) (j : Fin 5632) :
    (tdot (fun r => normed (X r) w k) fun r => dgu ((j : ℕ) / 2816) (dact (T r) B ⟨(j : ℕ) % 2816, by omega⟩)
      (G X w A r ⟨(j : ℕ) % 2816, by omega⟩) (U X w A r ⟨(j : ℕ) % 2816, by omega⟩)) = DA X w A B T k j := by
  have hj : (j : ℕ) < 5632 := j.isLt
  unfold tdot DA dgu
  by_cases h : (j : ℕ) < 2816
  · rw [dif_pos h]
    refine Finset.sum_congr rfl fun r _ => ?_
    simp only [if_pos (Nat.div_eq_of_lt h), Nat.mod_eq_of_lt h, DGate]
  · rw [dif_neg h]
    have e : (j : ℕ) % 2816 = (j : ℕ) - 2816 := by omega
    have e' : ¬ (j : ℕ) / 2816 = 0 := by omega
    refine Finset.sum_congr rfl fun r _ => ?_
    simp only [if_neg e', e, DUp]

theorem W6_da (k : Fin 1024) (j : Fin 5632) : W6 m ρ c main_v7 (ix2 k j) = DA (aX m c) (aw m c) (aA m c) (aB m c) (aT m c) k j := by
  refine (congrFun ((W6_of m ρ c main_v7 (by decide +kernel)).trans ((W5_arr m ρ c 2).trans (final2_2 (V4 m ρ) c))) (ix2 k j)).trans ?_
  refine Eq.trans ?_ (tdot_gates _ _ _ _ _ k j)
  refine congrArg₂ tdot (funext fun r => ?_) (funext fun r => ?_)
  · exact (congrFun (W4_of m ρ c main_v4_1 (by decide)) (ix2 r k)).trans (W3_n m ρ c r k)
  · exact (congrFun (W4_of m ρ c main_v4_3 (by decide)) (ix3 ⟨(j : ℕ) / 2816, by omega⟩ r ⟨(j : ℕ) % 2816, by omega⟩)).trans (W3_gates m ρ c _ r _)

theorem W6_db (j : Fin 2816) (d : Fin 1024) : W6 m ρ c main_v8 (ix2 j d) = DB (aX m c) (aw m c) (aA m c) (aT m c) j d := by
  refine (congrFun ((W6_arr m ρ c 2).trans (final3_2 (V5 m ρ) c)) (ix2 j d)).trans ?_
  show tdot (fun r => V5 m ρ c main_v4_2 (ix2 r j)) (fun r => V5 m ρ c main_v4_4 (ix2 r d)) = tdot (fun r => Act (aX m c) (aw m c) (aA m c) r j) fun r => half (aT m c r d)
  refine congrArg₂ tdot (funext fun r => ?_) (funext fun r => ?_)
  · exact (congrFun (W5_of m ρ c main_v4_2 (by decide +kernel)) (ix2 r j)).trans ((congrFun (W4_of m ρ c main_v4_2 (by decide)) (ix2 r j)).trans (W3_a m ρ c r j))
  · exact (congrFun (W5_of m ρ c main_v4_4 (by decide +kernel)) (ix2 r d)).trans ((congrFun (W4_of m ρ c main_v4_4 (by decide)) (ix2 r d)).trans (W3_half m ρ c r d))

end Cert.FfnIdeal.Value

end
-- ==== Proof.Ffn.Run.lean ====
/-
  Every run of the half's program, forward and backward, ends with each result at the contents the chain of its host
  operations and regions leaves, and with its arguments unchanged.
-/
module

public import proofs.«01_k».proof.Proof.Gen.FfnIdeal.Frame

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with the five results at the last buffer's contents `W6`, the arguments unchanged. -/
theorem run_main : θ_run defs (onTc (τ := τ) (main (F := F))) ⟨m, fun _ => 0, ρ⟩ (fun r => ∀ c : Dev nD,
      r.2.mem ((c.tc : Thread nD τ).loc main_v3_0) = W6 m ρ c main_v3_0 ∧
      r.2.mem ((c.tc : Thread nD τ).loc main_v4_0) = W6 m ρ c main_v4_0 ∧
      r.2.mem ((c.tc : Thread nD τ).loc main_v6) = W6 m ρ c main_v6 ∧
      r.2.mem ((c.tc : Thread nD τ).loc main_v7) = W6 m ρ c main_v7 ∧
      r.2.mem ((c.tc : Thread nD τ).loc main_v8) = W6 m ρ c main_v8 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v3_0 (by decide)),
       h c _ (mem_uc main_v4_0 (by decide)),
       h c _ (mem_uc main_v6 (by decide)),
       h c _ (mem_uc main_v7 (by decide)),
       h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.FfnIdeal.Value

end
-- ==== Proof.Ffn.Value.lean ====
/-
  The value claim of the feed-forward half: from finite arguments, the program and the plain reference end with the same
  five arrays, each the function of `Spec` over the arguments.
-/
module

public import proofs.«01_k».proof.Defs
public import proofs.«01_k».proof.Proof.Ffn.Algebra
public import proofs.«01_k».proof.Proof.Ffn.Results
public import proofs.«01_k».proof.Proof.Ffn.Run
public import proofs.«01_k».proof.Proof.Gen.FfnIdeal
public import proofs.«01_k».proof.Proof.Gen.FfnReferenceIdeal
public import proofs.«01_k».proof.Proof.Gen.FfnReferenceIdeal.Run

@[expose] public section

set_option maxRecDepth 16384

noncomputable section

namespace Cert.FfnValue

open Idealize.ShloMosaic Idealize.ShloMosaic.TcCoe Idealize.SL.Sem
open Cert.FfnSpec
open Cert.FfnIdeal.Gen (W6)
open Cert.FfnIdeal.Value (aX aw aA aB aT)

/-! The precondition: every element of every argument is a real number. -/

/-- The predicate's shapes broadcast a scalar. -/
theorem preFacts : Cert.Pre_finite_ffn.Facts := by constructor <;> decide

/-- An extended real below infinity with its negation is a real number. -/
theorem isReal_of_max_lt (e : EReal) (h : max e (-e) < ⊤) : IsReal e := by
  induction e with
  | bot => simp at h
  | top => simp at h
  | coe r => exact ⟨r, rfl⟩

/-- An array whose absolute values are below infinity holds real numbers. -/
theorem isReal_of_abs_lt {S : Shape} {b : (⟨0, ![]⟩ : Shape).BroadcastsInDim S ![]} {x : FVec Ideal S .f32}
    (h : cmpf .olt (Host.absf x) (broadcastInDim S ![] b (constant ⟨0, ![]⟩ .f32 0x7F800000#32)) = fun _ => 1#1) (i : S.Idx) : IsReal (x i) := by
  have hi : Ideal.cmp .olt (max (x i) (-(x i))) (Ideal.ofBits .f32 0x7F800000#32) = 1#1 := congrFun h i
  have hT : Ideal.ofBits .f32 0x7F800000#32 = ⊤ := by simp [Ideal.ofBits, Ideal.ieee]
  rw [hT] at hi
  have hlt : max (x i) (-(x i)) < (⊤ : EReal) := by
    by_contra hn
    simp [Ideal.cmp, hn] at hi
  exact isReal_of_max_lt _ hlt

variable (m : (ℓ : Loc Cert.FfnIdeal.nD Cert.FfnIdeal.τ Cert.FfnIdeal.sig) → Buf (Elt Ideal) ℓ)

/-- Every element of every argument is a real number. -/
structure RealArgs (c : Dev Cert.FfnIdeal.nD) : Prop where
  x : ∀ i k, IsReal (aX m c i k)
  w : ∀ k, IsReal (aw m c k)
  A : ∀ k j, IsReal (aA m c k j)
  B : ∀ j d, IsReal (aB m c j d)
  t : ∀ i k, IsReal (aT m c i k)

theorem realArgs (h : Cert.Pre_FfnIdeal_finite_ffn (hPre_finite_ffn := preFacts) m) (c : Dev Cert.FfnIdeal.nD) : RealArgs m c where
  x i k := isReal_of_abs_lt (h c).1 (ix2 i k)
  w k := isReal_of_abs_lt (h c).2.1 (ix1 k)
  A k j := isReal_of_abs_lt (h c).2.2.1 (ix2 k j)
  B j d := isReal_of_abs_lt (h c).2.2.2.1 (ix2 j d)
  t i k := isReal_of_abs_lt (h c).2.2.2.2 (ix2 i k)

/-! The reference's arrays over real arguments. -/

section Reference
open Cert.FfnReferenceIdeal Cert.FfnReferenceIdeal.Read Cert.FfnReferenceIdeal.Spec

variable (c : Dev Cert.FfnIdeal.nD)

/-- The arguments, at the reference's types. -/
abbrev y0 : FVec Ideal S4352x1024 .f32 := m ((c.tc : Thread Cert.FfnIdeal.nD Cert.FfnIdeal.τ).loc Cert.FfnIdeal.main_arg0)
abbrev y1 : FVec Ideal S1024 .f32 := m ((c.tc : Thread Cert.FfnIdeal.nD Cert.FfnIdeal.τ).loc Cert.FfnIdeal.main_arg1)
abbrev y2 : FVec Ideal S1024x5632 .f32 := m ((c.tc : Thread Cert.FfnIdeal.nD Cert.FfnIdeal.τ).loc Cert.FfnIdeal.main_arg2)
abbrev y3 : FVec Ideal S2816x1024 .f32 := m ((c.tc : Thread Cert.FfnIdeal.nD Cert.FfnIdeal.τ).loc Cert.FfnIdeal.main_arg3)
abbrev y4 : FVec Ideal S4352x1024 .f32 := m ((c.tc : Thread Cert.FfnIdeal.nD Cert.FfnIdeal.τ).loc Cert.FfnIdeal.main_arg4)

variable {m} {c} (H : RealArgs m c)
include H

theorem gateAgrees : GateAgrees (y0 m c) (y1 m c) (y2 m c) (y3 m c) (y4 m c) := fun i j =>
  (dgate_at (y0 m c) (y1 m c) (y2 m c) (y3 m c) (y4 m c) i j).trans (dgateR_eq (dact_real (H.t i) H.B j) (proj_real (H.x i) H.w H.A _) (proj_real (H.x i) H.w H.A _))

theorem ref_dx (i : Fin 4352) (d : Fin 1024) : val_main_v58 (F := Ideal) (y0 m c) (y1 m c) (y2 m c) (y3 m c) (y4 m c) (ix2 i d)
    = DX (aX m c) (aw m c) (aA m c) (aB m c) (aT m c) i d :=
  (dx_at (gateAgrees H) i d).trans (dxR_eq (H.x i) H.w (H.t i) (DN_real H.x H.w H.A H.B H.t i) d)

end Reference

/-! The claim. -/

open Cert.FfnReferenceIdeal.Read Cert.FfnReferenceIdeal.Spec Cert.FfnIdeal.Value

/-- The program and the reference end with equal results, from finite arguments. -/
theorem algebraic : Cert.algebraic_FfnIdeal_FfnReferenceIdeal_pre_finite_ffn (hFfnIdeal := Cert.FfnIdeal.Gen.facts)
    (hFfnReferenceIdeal := Cert.FfnReferenceIdeal.Gen.facts) (hPre_finite_ffn := preFacts) := by
  intro m g m' g' hpre hm
  refine ⟨fun c => W6 m g c Cert.FfnIdeal.main_v3_0, fun c => W6 m g c Cert.FfnIdeal.main_v4_0, fun c => W6 m g c Cert.FfnIdeal.main_v6,
    fun c => W6 m g c Cert.FfnIdeal.main_v7, fun c => W6 m g c Cert.FfnIdeal.main_v8, run_main m g, ?_⟩
  refine (θ_run Cert.FfnReferenceIdeal.defs _ _).mono (fun r h c => ?_) (Cert.FfnReferenceIdeal.Value.run (F := Ideal) m' g')
  obtain ⟨h0, h1, h2, h3, h4, ha⟩ := h c
  obtain ⟨e0, e1, e2, e3, e4⟩ := hm c
  have H := realArgs m hpre c
  have hg := gateAgrees H
  refine ⟨(h0.trans (val_main_v24_eq _ _ _ _)).trans ?_, (h1.trans (val_main_v58_eq m' c)).trans ?_, (h2.trans (val_main_v43_eq m' c)).trans ?_,
    (h3.trans (val_main_v36_eq m' c)).trans ?_, (h4.trans (val_main_v29_eq _ _ _ _)).trans ?_, ha⟩
  · rw [e0, e1, e2, e3]
    funext i
    idx_vars i
    exact (out_at _ _ _ _ _ _).trans (W6_out m g c _ _).symm
  · rw [e0, e1, e2, e3, e4]
    funext i
    idx_vars i
    exact (ref_dx H _ _).trans (W6_dx m g c _ _).symm
  · rw [e0, e1, e2, e3, e4]
    funext i
    idx_vars i
    exact (dw_at hg _).trans (W6_dw m g c _).symm
  · rw [e0, e1, e2, e3, e4]
    funext i
    idx_vars i
    exact (da_at hg _ _).trans (W6_da m g c _ _).symm
  · rw [e0, e1, e2, e4]
    funext i
    idx_vars i
    exact (db_at _ _ _ _ _ _).trans (W6_db m g c _ _).symm

end Cert.FfnValue

end
-- ==== Proof.Proj.Spec.lean ====
/-
  The mixer's input projection, `p = n·A` with `n` the row `x` scaled by the reciprocal of its root mean square and by a
  weight, and its derivatives, written over rows of extended reals. Nothing here mentions a program.

  `A` is the 1024×4480 projection; the cotangent of `p` comes in three pieces of columns, `a` (896), `b` (1536) and `g` (2048).
-/
module

public import proofs.«01_k».proof.Proof.Ffn.Spec

@[expose] public section

noncomputable section

namespace Cert.ProjSpec

open Idealize.ShloMosaic
open Cert.FfnSpec (scale normed dx)

/-- Column `j` of the `n` columns from column `o` on. -/
def colAt (o n : ℕ) (h : o + n ≤ 4480) (j : Fin n) : Fin 4480 := ⟨o + j, by omega⟩
/-- The columns of the three pieces. -/
def cA (j : Fin 896) : Fin 4480 := ⟨j, by omega⟩
def cB (j : Fin 1536) : Fin 4480 := ⟨896 + j, by omega⟩
def cG (j : Fin 2048) : Fin 4480 := ⟨2432 + j, by omega⟩

/-- One column of the projected row. -/
def proj (x w : Fin 1024 → EReal) (A : Fin 1024 → Fin 4480 → EReal) (c : Fin 4480) : EReal := ∑ k, normed x w k * A k c
/-- The normalised row's cotangent, from the three pieces. -/
def dn (a : Fin 896 → EReal) (b : Fin 1536 → EReal) (g : Fin 2048 → EReal) (A : Fin 1024 → Fin 4480 → EReal) (d : Fin 1024) : EReal :=
  ∑ j, a j * A d (cA j) + ∑ j, b j * A d (cB j) + ∑ j, g j * A d (cG j)
/-- One row's part of the norm weight's gradient, from the normalised row's cotangent `z` and the row `x`. -/
def dwTerm (z x : Fin 1024 → EReal) (d : Fin 1024) : EReal := z d * (x d * scale x)
/-- One element of a product of one matrix, transposed, with another: the sum over the rows. -/
def tdot (p q : Fin 4352 → EReal) : EReal := ∑ r, p r * q r

/-! The whole projection, over all 4352 rows. -/

variable (X : Fin 4352 → Fin 1024 → EReal) (w : Fin 1024 → EReal) (A : Fin 1024 → Fin 4480 → EReal) (T : Fin 4352 → Fin 1024 → EReal)
  (Da : Fin 4352 → Fin 896 → EReal) (Db : Fin 4352 → Fin 1536 → EReal) (Dg : Fin 4352 → Fin 2048 → EReal)

def DN (i : Fin 4352) (d : Fin 1024) : EReal := dn (Da i) (Db i) (Dg i) A d
def DX (i : Fin 4352) (d : Fin 1024) : EReal := dx (X i) w (T i) (DN A Da Db Dg i) d
/-- The gradient of the norm weight. -/
def DW (d : Fin 1024) : EReal := ∑ i, dwTerm (DN A Da Db Dg i) (X i) d
/-- One element of the projection's gradient, from its column's cotangents. -/
def DA (k : Fin 1024) (z : Fin 4352 → EReal) : EReal := tdot (fun i => normed (X i) w k) z

end Cert.ProjSpec

end
-- ==== Proof.Proj.Ref.lean ====
/-
  The reference, stage by stage: each array of the plain program, read at an index, is the row function of `Spec` — except
  the input's cotangent, which the reference computes by another formula (`dxR`).
-/
module

public import proofs.«01_k».proof.Proof.Gen.ProjReferenceIdeal.Read
public import proofs.«01_k».proof.Proof.Proj.Spec
public import proofs.«01_k».proof.Proof.Ffn.Ref
public import Idealize.ShloMosaic.Lib.Pointwise

@[expose] public section

set_option maxRecDepth 16384
set_option maxHeartbeats 1000000

noncomputable section

namespace Cert.ProjReferenceIdeal.Spec

open Idealize.ShloMosaic Idealize.ShloMosaic.TcCoe Idealize.SL.Sem
open Cert.ProjReferenceIdeal Cert.ProjReferenceIdeal.Gen Cert.ProjReferenceIdeal.Read Cert.ProjSpec
open Cert.FfnSpec (meanSq scale normed dx)
open Cert.FfnReferenceIdeal.Spec (dxR rootTerm)

variable (x0 : FVec Ideal S4352x1024 .f32) (x1 : FVec Ideal S1024 .f32) (x2 : FVec Ideal S1024x4480 .f32) (x3 : FVec Ideal S4352x1024 .f32)
  (x4 : FVec Ideal S4352x896 .f32) (x5 : FVec Ideal S4352x1536 .f32) (x6 : FVec Ideal S4352x2048 .f32)

/-- The arguments as functions of their coordinates. -/
abbrev fX : Fin 4352 → Fin 1024 → EReal := fun i k => x0 (ix2 i k)
abbrev fw : Fin 1024 → EReal := fun k => x1 (ix1 k)
abbrev fP : Fin 1024 → Fin 4480 → EReal := fun k c => x2 (ix2 k c)
abbrev fa : Fin 4352 → Fin 896 → EReal := fun i j => x4 (ix2 i j)
abbrev fb : Fin 4352 → Fin 1536 → EReal := fun i j => x5 (ix2 i j)
abbrev fg : Fin 4352 → Fin 2048 → EReal := fun i j => x6 (ix2 i j)

theorem meanSq_at (i : Fin 4352) : val_main_v6 (F := Ideal) x0 (ix2 i 0) = meanSq (fX x0 i) := by
  pointwise [val_main_v6, val_main_v5, val_main_v4, val_main_v3, val_main_v2, val_main_v1, val_main_v0, val_main_cst, val_main_cst_0,
    val_main_cst_1, meanSq]

theorem scale_at (i : Fin 4352) : val_main_v7 (F := Ideal) x0 (ix2 i 0) = scale (fX x0 i) := by
  pointwise [val_main_v7, scale, meanSq_at]

theorem scaled_at (i : Fin 4352) (k : Fin 1024) : val_main_v12 (F := Ideal) x0 (ix2 i k) = x0 (ix2 i k) * scale (fX x0 i) := by
  pointwise [val_main_v12, val_main_v11, scale_at]

theorem normed_at (i : Fin 4352) (k : Fin 1024) : val_main_v15 (F := Ideal) x0 x1 (ix2 i k) = normed (fX x0 i) (fw x1) k := by
  pointwise [val_main_v15, val_main_v14, val_main_v13, scaled_at, normed]

theorem proj_at (i : Fin 4352) (c : Fin 4480) : val_main_v16 (F := Ideal) x0 x1 x2 (ix2 i c) = proj (fX x0 i) (fw x1) (fP x2) c := by
  pointwise [val_main_v16, normed_at, proj]

theorem ka_at (i : Fin 4352) (j : Fin 128) : val_main_v42 (F := Ideal) x0 x1 x2 (ix2 i j)
    = proj (fX x0 i) (fw x1) (fP x2) (colAt 512 128 (by decide) j) := by
  pointwise [val_main_v42, proj_at, colAt]

theorem va_at (i : Fin 4352) (j : Fin 128) : val_main_v43 (F := Ideal) x0 x1 x2 (ix2 i j)
    = proj (fX x0 i) (fw x1) (fP x2) (colAt 640 128 (by decide) j) := by
  pointwise [val_main_v43, proj_at, colAt]

theorem f_at (i : Fin 4352) (j : Fin 128) : val_main_v44 (F := Ideal) x0 x1 x2 (ix2 i j)
    = proj (fX x0 i) (fw x1) (fP x2) (colAt 768 128 (by decide) j) := by
  pointwise [val_main_v44, proj_at, colAt]

theorem qb_at (i : Fin 4352) (j : Fin 512) : val_main_v45 (F := Ideal) x0 x1 x2 (ix2 i j)
    = proj (fX x0 i) (fw x1) (fP x2) (colAt 896 512 (by decide) j) := by
  pointwise [val_main_v45, proj_at, colAt]

theorem ga_at (i : Fin 4352) (j : Fin 1024) : val_main_v46 (F := Ideal) x0 x1 x2 (ix2 i j)
    = proj (fX x0 i) (fw x1) (fP x2) (colAt 2432 1024 (by decide) j) := by
  pointwise [val_main_v46, proj_at, colAt]

theorem gb_at (i : Fin 4352) (j : Fin 1024) : val_main_v47 (F := Ideal) x0 x1 x2 (ix2 i j)
    = proj (fX x0 i) (fw x1) (fP x2) (colAt 3456 1024 (by decide) j) := by
  pointwise [val_main_v47, proj_at, colAt]

/-- A sum over all columns, piece by piece. -/
theorem sum_pieces (f : Fin 4480 → EReal) : ∑ x, f x = ∑ j, f (cA j) + ∑ j, f (cB j) + ∑ j, f (cG j) :=
  (Fin.sum_univ_add (a := 2432) (b := 2048) f).trans <|
    congrArg (· + ∑ j, f (cG j)) (Fin.sum_univ_add (a := 896) (b := 1536) fun j => f (Fin.castAdd 2048 j))

theorem dn_at (i : Fin 4352) (d : Fin 1024) :
    val_main_v20 (F := Ideal) x2 x4 x5 x6 (ix2 i d) = DN (fP x2) (fa x4) (fb x5) (fg x6) i d := by
  pointwise [val_main_v20, val_main_v17, DN, dn]
  rw [sum_pieces]
  refine congrArg₂ (· + ·) (congrArg₂ (· + ·) (Finset.sum_congr rfl fun j _ => ?_) (Finset.sum_congr rfl fun j _ => ?_))
    (Finset.sum_congr rfl fun j _ => ?_)
  · rw [dif_pos (show ((cA j : Fin 4480) : ℕ) < 896 from j.isLt)]
    rfl
  · have e : ((cB j : Fin 4480) : ℕ) = 896 + j := rfl
    have e' : (⟨((cB j : Fin 4480) : ℕ) - 896, by omega⟩ : Fin 1536) = j := Fin.ext (by show ((cB j : Fin 4480) : ℕ) - 896 = j; omega)
    rw [dif_neg (by omega), dif_pos (by omega), e']
  · have e : ((cG j : Fin 4480) : ℕ) = 2432 + j := rfl
    have e' : (⟨((cG j : Fin 4480) : ℕ) - 896 - 1536, by omega⟩ : Fin 2048) = j :=
      Fin.ext (by show ((cG j : Fin 4480) : ℕ) - 896 - 1536 = j; omega)
    rw [dif_neg (by omega), dif_neg (by omega), e']

theorem dA_at (k : Fin 1024) (j : Fin 896) :
    val_main_v48 (F := Ideal) x0 x1 x4 x5 x6 (ix2 k j) = DA (fX x0) (fw x1) k fun i => fa x4 i j := by
  pointwise [val_main_v48, val_main_v19, val_main_v18, val_main_v17, normed_at, DA, tdot]
  exact Finset.sum_congr rfl fun i _ => mul_comm _ _

theorem dB_at (k : Fin 1024) (j : Fin 1536) :
    val_main_v49 (F := Ideal) x0 x1 x4 x5 x6 (ix2 k j) = DA (fX x0) (fw x1) k fun i => fb x5 i j := by
  pointwise [val_main_v49, val_main_v19, val_main_v18, val_main_v17, normed_at, DA, tdot]
  exact Finset.sum_congr rfl fun i _ => mul_comm _ _

theorem dG_at (k : Fin 1024) (j : Fin 2048) :
    val_main_v50 (F := Ideal) x0 x1 x4 x5 x6 (ix2 k j) = DA (fX x0) (fw x1) k fun i => fg x6 i j := by
  pointwise [val_main_v50, val_main_v19, val_main_v18, val_main_v17, normed_at, DA, tdot]
  have e : (⟨2432 + (j : ℕ) - 896 - 1536, by omega⟩ : Fin 2048) = j := Fin.ext (by show 2432 + (j : ℕ) - 896 - 1536 = j; omega)
  refine Finset.sum_congr rfl fun i _ => ?_
  rw [dif_neg (by omega), dif_neg (by omega), e]
  exact mul_comm _ _

theorem dw_at (d : Fin 1024) :
    val_main_v26 (F := Ideal) x0 x2 x4 x5 x6 (ix1 d) = DW (fX x0) (fP x2) (fa x4) (fb x5) (fg x6) d := by
  pointwise [val_main_v26, val_main_cst_4, val_main_v23, val_main_v22, val_main_cst_3, val_main_v21, scaled_at, dn_at, DW, dwTerm]
  rw [Fin.sum_univ_one]
  exact Finset.sum_congr rfl fun i _ => mul_comm _ _

theorem dx_at (i : Fin 4352) (d : Fin 1024) : val_main_v41 (F := Ideal) x0 x1 x2 x3 x4 x5 x6 (ix2 i d)
    = dxR (fX x0 i) (fw x1) (fX x3 i) (DN (fP x2) (fa x4) (fb x5) (fg x6) i) d := by
  pointwise [val_main_v41, val_main_v40, val_main_v39, val_main_v38, val_main_v37, val_main_v36, val_main_cst_7, val_main_v35, val_main_v34,
    val_main_cst_6, val_main_v33, val_main_v32, val_main_v31, val_main_v30, val_main_v29, val_main_v28, val_main_cst_5, val_main_v27,
    val_main_v25, val_main_v24, val_main_v13, val_main_v10, val_main_v9, val_main_cst_2, val_main_v8, meanSq_at, scale_at, dn_at, dxR, rootTerm]
  rw [Fin.sum_univ_one, scale_at, meanSq_at]

end Cert.ProjReferenceIdeal.Spec

end
-- ==== Proof.Proj.Region0.lean ====
/-
  The projection's forward region: the normalised rows and six of its column groups.
-/
module

public import proofs.«01_k».proof.Proof.Gen.ProjIdeal.Frame
public import proofs.«01_k».proof.Proof.Proj.Spec
public import Idealize.ShloMosaic.Lib.Pipeline.ValueKit

@[expose] public section

set_option maxRecDepth 16384
set_option maxHeartbeats 1000000

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjSpec
open Cert.FfnSpec (meanSq scale normed)

variable (V : (c : Dev nD) → (b : Ref sig .tc) → Buf (Elt Ideal) ((c : Thread nD τ).loc b))

/-- Which block of its array each window used here holds at grid point `t`. -/
theorem idx0 : ∀ t : Fin cfg0.N, win0_0.index t = ![t.val, 0] ∧ win0_1.index t = ![0, 0] ∧ win0_2.index t = ![0, 0] ∧
    win0_3.index t = ![t.val, 0] ∧ win0_5.index t = ![t.val, 0] ∧ win0_6.index t = ![t.val, 0] ∧ win0_7.index t = ![t.val, 0] ∧
    win0_10.index t = ![t.val, 0] ∧ win0_11.index t = ![t.val, 0] ∧ win0_12.index t = ![t.val, 0] :=
  (by decide +kernel : ∀ t : Fin grid0.N, _)

/-- The normalised rows. -/
theorem final0_3 (c : Dev nD) : (dat0 V c).arrAt 3 cfg0.N = fun i =>
    normed (fun k => V c main_arg0 (ix2 (i 0) k)) (fun k => V c main_v0 (ix2 0 k)) (i 1) := by
  refine (dat0 V c).arrAt_eq_of_covers 3 _ (by decide +kernel) fun t hf y => ?_
  blk_simp
  rw [after0_3]
  unfold_out out0_3
  frame_out
  pointwise [k0_pay3, normed, scale, meanSq]
  blk_point [iblk0, idx0 t]

/-- The first mixer's keys. -/
theorem final0_5 (c : Dev nD) : (dat0 V c).arrAt 5 cfg0.N = fun i =>
    proj (fun k => V c main_arg0 (ix2 (i 0) k)) (fun k => V c main_v0 (ix2 0 k)) (fun k j => V c main_v1 (ix2 k j))
      (colAt 512 128 (by decide) (i 1)) := by
  refine (dat0 V c).arrAt_eq_of_covers 5 _ (by decide +kernel) fun t hf y => ?_
  blk_simp
  rw [after0_5]
  unfold_out out0_5
  frame_out
  pointwise [k0_pay27, k0_pay3, proj, normed, scale, meanSq, colAt]
  blk_point [iblk0, idx0 t]

/-- The first mixer's values. -/
theorem final0_6 (c : Dev nD) : (dat0 V c).arrAt 6 cfg0.N = fun i =>
    proj (fun k => V c main_arg0 (ix2 (i 0) k)) (fun k => V c main_v0 (ix2 0 k)) (fun k j => V c main_v1 (ix2 k j))
      (colAt 640 128 (by decide) (i 1)) := by
  refine (dat0 V c).arrAt_eq_of_covers 6 _ (by decide +kernel) fun t hf y => ?_
  blk_simp
  rw [after0_6]
  unfold_out out0_6
  frame_out
  pointwise [k0_pay28, k0_pay3, proj, normed, scale, meanSq, colAt]
  blk_point [iblk0, idx0 t]

/-- The second mixer's queries. -/
theorem final0_7 (c : Dev nD) : (dat0 V c).arrAt 7 cfg0.N = fun i =>
    proj (fun k => V c main_arg0 (ix2 (i 0) k)) (fun k => V c main_v0 (ix2 0 k)) (fun k j => V c main_v1 (ix2 k j))
      (colAt 896 512 (by decide) (i 1)) := by
  refine (dat0 V c).arrAt_eq_of_covers 7 _ (by decide +kernel) fun t hf y => ?_
  blk_simp
  rw [after0_7]
  unfold_out out0_7
  frame_out
  pointwise [k0_pay29, k0_pay3, proj, normed, scale, meanSq, colAt]
  blk_point [iblk0, idx0 t]

/-- The first gate. -/
theorem final0_10 (c : Dev nD) : (dat0 V c).arrAt 10 cfg0.N = fun i =>
    proj (fun k => V c main_arg0 (ix2 (i 0) k)) (fun k => V c main_v0 (ix2 0 k)) (fun k j => V c main_v1 (ix2 k j))
      (colAt 2432 1024 (by decide) (i 1)) := by
  refine (dat0 V c).arrAt_eq_of_covers 10 _ (by decide +kernel) fun t hf y => ?_
  blk_simp
  rw [after0_10]
  unfold_out out0_10
  frame_out
  pointwise [k0_pay72, k0_pay3, proj, normed, scale, meanSq, colAt]
  blk_point [iblk0, idx0 t]

/-- The second gate. -/
theorem final0_11 (c : Dev nD) : (dat0 V c).arrAt 11 cfg0.N = fun i =>
    proj (fun k => V c main_arg0 (ix2 (i 0) k)) (fun k => V c main_v0 (ix2 0 k)) (fun k j => V c main_v1 (ix2 k j))
      (colAt 3456 1024 (by decide) (i 1)) := by
  refine (dat0 V c).arrAt_eq_of_covers 11 _ (by decide +kernel) fun t hf y => ?_
  blk_simp
  rw [after0_11]
  unfold_out out0_11
  frame_out
  pointwise [k0_pay1, k0_pay3, proj, normed, scale, meanSq, colAt]
  blk_point [iblk0, idx0 t]

/-- The forget gate's logits. -/
theorem final0_12 (c : Dev nD) : (dat0 V c).arrAt 12 cfg0.N = fun i =>
    proj (fun k => V c main_arg0 (ix2 (i 0) k)) (fun k => V c main_v0 (ix2 0 k)) (fun k j => V c main_v1 (ix2 k j))
      (colAt 768 128 (by decide) (i 1)) := by
  refine (dat0 V c).arrAt_eq_of_covers 12 _ (by decide +kernel) fun t hf y => ?_
  blk_simp
  rw [after0_12]
  unfold_out out0_12
  frame_out
  pointwise [k0_pay2, k0_pay3, proj, normed, scale, meanSq, colAt]
  blk_point [iblk0, idx0 t]

end Cert.ProjIdeal.Value

end
-- ==== Proof.Proj.Grads.lean ====
/-
  The three regions of the projection's gradient: the normalised rows, transposed, times each piece of the cotangent.
-/
module

public import proofs.«01_k».proof.Proof.Gen.ProjIdeal.Frame
public import proofs.«01_k».proof.Proof.Proj.Spec
public import Idealize.ShloMosaic.Lib.Pipeline.ValueKit

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjSpec

variable (V : (c : Dev nD) → (b : Ref sig .tc) → Buf (Elt Ideal) ((c : Thread nD τ).loc b))

theorem idx1 : ∀ t : Fin cfg1.N, win1_0.index t = ![0, t.val] ∧ win1_1.index t = ![0, 0] ∧ win1_2.index t = ![t.val, 0] :=
  (by decide +kernel : ∀ t : Fin grid1.N, _)

theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

theorem idx3 : ∀ t : Fin cfg3.N, win3_0.index t = ![0, t.val / 2] ∧ win3_1.index t = ![0, t.val % 2] ∧ win3_2.index t = ![t.val / 2, t.val % 2] :=
  (by decide +kernel : ∀ t : Fin grid3.N, _)

/-- The gradient of the first piece's columns. -/
theorem final1_2 (c : Dev nD) : (dat1 V c).arrAt 2 cfg1.N = fun i =>
    tdot (fun r => V c main_v5_0 (ix2 r (i 0))) (fun r => V c main_v2 (ix2 r (i 1))) := by
  refine (dat1 V c).arrAt_eq_of_covers 2 _ (by decide +kernel) fun t hf y => ?_
  blk_simp
  rw [after1_2]
  unfold out1_2
  frame_out
  pointwise [k1_pay1, tdot]
  blk_point [iblk1, idx1 t]

/-- The gradient of the second piece's columns. -/
theorem final2_2 (c : Dev nD) : (dat2 V c).arrAt 2 cfg2.N = fun i =>
    tdot (fun r => V c main_v5_0 (ix2 r (i 0))) (fun r => V c main_v3 (ix2 r (i 1))) := by
  refine (dat2 V c).arrAt_eq_of_covers 2 _ (by decide +kernel) fun t hf y => ?_
  blk_simp
  rw [after2_2]
  unfold out2_2
  frame_out
  pointwise [k2_pay1, tdot]
  blk_point [iblk2, idx2 t]

/-- The gradient of the third piece's columns. -/
theorem final3_2 (c : Dev nD) : (dat3 V c).arrAt 2 cfg3.N = fun i =>
    tdot (fun r => V c main_v5_0 (ix2 r (i 0))) (fun r => V c main_v4 (ix2 r (i 1))) := by
  refine (dat3 V c).arrAt_eq_of_covers 2 _ (by decide +kernel) fun t hf y => ?_
  blk_simp
  rw [after3_2]
  unfold out3_2
  frame_out
  pointwise [k3_pay1, tdot]
  blk_point [iblk3, idx3 t]

end Cert.ProjIdeal.Value

end
-- ==== Proof.Proj.Region4.lean ====
/-
  The projection's backward region: the input rows' gradient and the parts of the norm weight's.
-/
module

public import proofs.«01_k».proof.Proof.Gen.ProjIdeal.Frame
public import proofs.«01_k».proof.Proof.Proj.Spec
public import Idealize.ShloMosaic.Lib.Pipeline.ValueKit

@[expose] public section

set_option maxRecDepth 16384
set_option maxHeartbeats 1000000

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjSpec
open Cert.FfnSpec (meanSq scale dx)

variable (V : (c : Dev nD) → (b : Ref sig .tc) → Buf (Elt Ideal) ((c : Thread nD τ).loc b))

/-- Which block of its array each window holds at grid point `t`. -/
theorem idx4 : ∀ t : Fin cfg4.N, win4_0.index t = ![t.val, 0] ∧ win4_1.index t = ![t.val, 0] ∧ win4_2.index t = ![0, 0] ∧
    win4_3.index t = ![t.val, 0] ∧ win4_4.index t = ![t.val, 0] ∧ win4_5.index t = ![t.val, 0] ∧ win4_6.index t = ![0, 0] ∧
    win4_7.index t = ![t.val, 0] ∧ win4_8.index t = ![t.val, 0, 0] :=
  (by decide +kernel : ∀ t : Fin grid4.N, _)

/-- The gradient of the input rows. -/
theorem final4_7 (c : Dev nD) : (dat4 V c).arrAt 7 cfg4.N = fun i =>
    dx (fun k => V c main_arg0 (ix2 (i 0) k)) (fun k => V c main_v0 (ix2 0 k)) (fun k => V c main_arg3 (ix2 (i 0) k))
      (dn (fun j => V c main_v2 (ix2 (i 0) j)) (fun j => V c main_v3 (ix2 (i 0) j)) (fun j => V c main_v4 (ix2 (i 0) j))
        (fun k j => V c main_v1 (ix2 k j))) (i 1) := by
  refine (dat4 V c).arrAt_eq_of_covers 7 _ (by decide +kernel) fun t hf y => ?_
  blk_simp
  rw [after4_7]
  unfold out4_7
  frame_out
  pointwise [k4_pay1, k4_pay4, k4_pay6, k4_pay3, k4_pay7, dx, dn, scale, meanSq, cA, cB, cG]
  blk_point [iblk4, idx4 t]

/-- Row `r` of the 272 rows of grid point `b`. -/
def rowOf (b : Fin 16) (r : Fin 272) : Fin 4352 := ⟨272 * b + r, by omega⟩

/-- A sum over one grid point's rows. -/
def rowSum (f : Fin 272 → EReal) : EReal := ∑ r, f r

/-- The parts of the norm weight's gradient, one for each grid point's rows. -/
theorem final4_8 (c : Dev nD) : (dat4 V c).arrAt 8 cfg4.N = fun i =>
    rowSum fun r => dwTerm
      (dn (fun j => V c main_v2 (ix2 (rowOf (i 0) r) j)) (fun j => V c main_v3 (ix2 (rowOf (i 0) r) j))
        (fun j => V c main_v4 (ix2 (rowOf (i 0) r) j)) (fun k j => V c main_v1 (ix2 k j)))
      (fun k => V c main_arg0 (ix2 (rowOf (i 0) r) k)) (i 2) := by
  refine (dat4 V c).arrAt_eq_of_covers 8 _ (by decide +kernel) fun t hf y => ?_
  blk_simp
  rw [after4_8]
  unfold out4_8
  frame_out
  pointwise [k4_pay2, k4_pay5, k4_pay3, k4_pay4, rowSum, dwTerm, dn, scale, meanSq, cA, cB, cG]
  blk_point [iblk4, idx4 t, rowOf]

end Cert.ProjIdeal.Value

end
-- ==== Proof.Proj.Results.lean ====
/-
  The projection program's eleven results over its arguments: the contents each host operation and each region leaves,
  composed.
-/
module

public import proofs.«01_k».proof.Proof.Proj.Region0
public import proofs.«01_k».proof.Proof.Proj.Grads
public import proofs.«01_k».proof.Proof.Proj.Region4
public import Idealize.ShloMosaic.Lib.StableHlo.Run

@[expose] public section

set_option maxRecDepth 16384

noncomputable section

namespace Cert.ProjIdeal.Value

open Idealize.ShloMosaic Idealize.ShloMosaic.TcCoe Idealize.SL.Sem
open Cert.ProjIdeal Cert.ProjIdeal.Gen Cert.ProjSpec
open Cert.FfnSpec (normed dx)

variable (m : (ℓ : Loc nD τ sig) → Buf (Elt Ideal) ℓ) (ρ : Dev nD → PrngReg) (c : Dev nD)

/-- The arguments as functions of their coordinates. -/
abbrev aX : Fin 4352 → Fin 1024 → EReal := fun i k => m ((c : Thread nD τ).loc main_arg0) (ix2 i k)
abbrev aw : Fin 1024 → EReal := fun k => m ((c : Thread nD τ).loc main_arg1) (ix1 k)
abbrev aP : Fin 1024 → Fin 4480 → EReal := fun k j => m ((c : Thread nD τ).loc main_arg2) (ix2 k j)
abbrev aT : Fin 4352 → Fin 1024 → EReal := fun i k => m ((c : Thread nD τ).loc main_arg3) (ix2 i k)
abbrev aDa : Fin 4352 → Fin 896 → EReal := fun i j => m ((c : Thread nD τ).loc main_arg4) (ix2 i j)
abbrev aDb : Fin 4352 → Fin 1536 → EReal := fun i j => m ((c : Thread nD τ).loc main_arg5) (ix2 i j)
abbrev aDg : Fin 4352 → Fin 2048 → EReal := fun i j => m ((c : Thread nD τ).loc main_arg6) (ix2 i j)

/-! The first host stretch: the weight as a row, the other arrays rounded, which keeps their values. -/

theorem W1_w (k : Fin 1024) : W1 m ρ c main_v0 (ix2 0 k) = aw m c k := by
  show StableHlo.after hostOps0 (W0 m ρ c) _ _ = _
  after_results
  pointwise [aw]

theorem W1_P (i : Fin 1024) (j : Fin 4480) : W1 m ρ c main_v1 (ix2 i j) = aP m c i j := by
  show StableHlo.after hostOps0 (W0 m ρ c) _ _ = _
  after_results
  rfl

theorem W1_Da (i : Fin 4352) (j : Fin 896) : W1 m ρ c main_v2 (ix2 i j) = aDa m c i j := by
  show StableHlo.after hostOps0 (W0 m ρ c) _ _ = _
  after_results
  rfl

theorem W1_Db (i : Fin 4352) (j : Fin 1536) : W1 m ρ c main_v3 (ix2 i j) = aDb m c i j := by
  show StableHlo.after hostOps0 (W0 m ρ c) _ _ = _
  after_results
  rfl

theorem W1_Dg (i : Fin 4352) (j : Fin 2048) : W1 m ρ c main_v4 (ix2 i j) = aDg m c i j := by
  show StableHlo.after hostOps0 (W0 m ρ c) _ _ = _
  after_results
  rfl

/-! The forward region. -/

theorem V1_x (i : Fin 4352) : (fun k => V1 m ρ c main_arg0 (ix2 i k)) = aX m c i :=
  funext fun k => congrFun (W1_args m ρ c main_arg0 (by decide)) _

theorem V1_w : (fun k => V1 m ρ c main_v0 (ix2 0 k)) = aw m c := funext fun k => W1_w m ρ c k

theorem V1_P : (fun k j => V1 m ρ c main_v1 (ix2 k j)) = aP m c := funext fun k => funext fun j => W1_P m ρ c k j

theorem W2_n (i : Fin 4352) (k : Fin 1024) : W2 m ρ c main_v5_0 (ix2 i k) = normed (aX m c i) (aw m c) k := by
  refine (congrFun ((W2_arr m ρ c 3).trans (final0_3 (V1 m ρ) c)) (ix2 i k)).trans ?_
  show normed (fun k => V1 m ρ c main_arg0 (ix2 i k)) (fun k => V1 m ρ c main_v0 (ix2 0 k)) k = _
  rw [V1_x, V1_w]

theorem W2_ka (i : Fin 4352) (j : Fin 128) :
    W2 m ρ c main_v5_2 (ix2 i j) = proj (aX m c i) (aw m c) (aP m c) (colAt 512 128 (by decide) j) := by
  refine (congrFun ((W2_arr m ρ c 5).trans (final0_5 (V1 m ρ) c)) (ix2 i j)).trans ?_
  show proj (fun k => V1 m ρ c main_arg0 (ix2 i k)) (fun k => V1 m ρ c main_v0 (ix2 0 k)) (fun k j => V1 m ρ c main_v1 (ix2 k j))
    (colAt 512 128 (by decide) j) = _
  rw [V1_x, V1_w, V1_P]

theorem W2_va (i : Fin 4352) (j : Fin 128) :
    W2 m ρ c main_v5_3 (ix2 i j) = proj (aX m c i) (aw m c) (aP m c) (colAt 640 128 (by decide) j) := by
  refine (congrFun ((W2_arr m ρ c 6).trans (final0_6 (V1 m ρ) c)) (ix2 i j)).trans ?_
  show proj (fun k => V1 m ρ c main_arg0 (ix2 i k)) (fun k => V1 m ρ c main_v0 (ix2 0 k)) (fun k j => V1 m ρ c main_v1 (ix2 k j))
    (colAt 640 128 (by decide) j) = _
  rw [V1_x, V1_w, V1_P]

theorem W2_qb (i : Fin 4352) (j : Fin 512) :
    W2 m ρ c main_v5_4 (ix2 i j) = proj (aX m c i) (aw m c) (aP m c) (colAt 896 512 (by decide) j) := by
  refine (congrFun ((W2_arr m ρ c 7).trans (final0_7 (V1 m ρ) c)) (ix2 i j)).trans ?_
  show proj (fun k => V1 m ρ c main_arg0 (ix2 i k)) (fun k => V1 m ρ c main_v0 (ix2 0 k)) (fun k j => V1 m ρ c main_v1 (ix2 k j))
    (colAt 896 512 (by decide) j) = _
  rw [V1_x, V1_w, V1_P]

theorem W2_ga (i : Fin 4352) (j : Fin 1024) :
    W2 m ρ c main_v5_7 (ix2 i j) = proj (aX m c i) (aw m c) (aP m c) (colAt 2432 1024 (by decide) j) := by
  refine (congrFun ((W2_arr m ρ c 10).trans (final0_10 (V1 m ρ) c)) (ix2 i j)).trans ?_
  show proj (fun k => V1 m ρ c main_arg0 (ix2 i k)) (fun k => V1 m ρ c main_v0 (ix2 0 k)) (fun k j => V1 m ρ c main_v1 (ix2 k j))
    (colAt 2432 1024 (by decide) j) = _
  rw [V1_x, V1_w, V1_P]

theorem W2_gb (i : Fin 4352) (j : Fin 1024) :
    W2 m ρ c main_v5_8 (ix2 i j) = proj (aX m c i) (aw m c) (aP m c) (colAt 3456 1024 (by decide) j) := by
  refine (congrFun ((W2_arr m ρ c 11).trans (final0_11 (V1 m ρ) c)) (ix2 i j)).trans ?_
  show proj (fun k => V1 m ρ c main_arg0 (ix2 i k)) (fun k => V1 m ρ c main_v0 (ix2 0 k)) (fun k j => V1 m ρ c main_v1 (ix2 k j))
    (colAt 3456 1024 (by decide) j) = _
  rw [V1_x, V1_w, V1_P]

theorem W2_f (i : Fin 4352) (j : Fin 128) :
    W2 m ρ c main_v5_9 (ix2 i j) = proj (aX m c i) (aw m c) (aP m c) (colAt 768 128 (by decide) j) := by
  refine (congrFun ((W2_arr m ρ c 12).trans (final0_12 (V1 m ρ) c)) (ix2 i j)).trans ?_
  show proj (fun k => V1 m ρ c main_arg0 (ix2 i k)) (fun k => V1 m ρ c main_v0 (ix2 0 k)) (fun k j => V1 m ρ c main_v1 (ix2 k j))
    (colAt 768 128 (by decide) j) = _
  rw [V1_x, V1_w, V1_P]

/-! The forward region's arrays at the end. -/

theorem W7_ka (i : Fin 4352) (j : Fin 128) :
    W7 m ρ c main_v10 (ix2 i j) = proj (aX m c i) (aw m c) (aP m c) (colAt 512 128 (by decide) j) := by
  refine Eq.trans (b := W6 m ρ c main_v5_2 (ix2 i j)) ?_ ?_
  · show StableHlo.after hostOps5 (W6 m ρ c) _ _ = _
    generalize W6 m ρ c = E
    after_results
    rfl
  · exact (congrFun (W6_of m ρ c main_v5_2 (by decide +kernel)) _).trans <| (congrFun (W5_of m ρ c main_v5_2 (by decide +kernel)) _).trans <| (congrFun (W4_of m ρ c main_v5_2 (by decide +kernel)) _).trans <| (congrFun (W3_of m ρ c main_v5_2 (by decide +kernel)) _).trans <| W2_ka m ρ c i j

theorem W7_va (i : Fin 4352) (j : Fin 128) :
    W7 m ρ c main_v11 (ix2 i j) = proj (aX m c i) (aw m c) (aP m c) (colAt 640 128 (by decide) j) := by
  refine Eq.trans (b := W6 m ρ c main_v5_3 (ix2 i j)) ?_ ?_
  · show StableHlo.after hostOps5 (W6 m ρ c) _ _ = _
    generalize W6 m ρ c = E
    after_results
    rfl
  · exact (congrFun (W6_of m ρ c main_v5_3 (by decide +kernel)) _).trans <| (congrFun (W5_of m ρ c main_v5_3 (by decide +kernel)) _).trans <| (congrFun (W4_of m ρ c main_v5_3 (by decide +kernel)) _).trans <| (congrFun (W3_of m ρ c main_v5_3 (by decide +kernel)) _).trans <| W2_va m ρ c i j

theorem W7_qb (i : Fin 4352) (j : Fin 512) :
    W7 m ρ c main_v12 (ix2 i j) = proj (aX m c i) (aw m c) (aP m c) (colAt 896 512 (by decide) j) := by
  refine Eq.trans (b := W6 m ρ c main_v5_4 (ix2 i j)) ?_ ?_
  · show StableHlo.after hostOps5 (W6 m ρ c) _ _ = _
    generalize W6 m ρ c = E
    after_results
    rfl
  · exact (congrFun (W6_of m ρ c main_v5_4 (by decide +kernel)) _).trans <| (congrFun (W5_of m ρ c main_v5_4 (by decide +kernel)) _).trans <| (congrFun (W4_of m ρ c main_v5_4 (by decide +kernel)) _).trans <| (congrFun (W3_of m ρ c main_v5_4 (by decide +kernel)) _).trans <| W2_qb m ρ c i j

theorem W7_ga (i : Fin 4352) (j : Fin 1024) :
    W7 m ρ c main_v5_7 (ix2 i j) = proj (aX m c i) (aw m c) (aP m c) (colAt 2432 1024 (by decide) j) :=
  (congrFun (W7_of m ρ c main_v5_7 (by decide)) _).trans <| (congrFun (W6_of m ρ c main_v5_7 (by decide +kernel)) _).trans <| (congrFun (W5_of m ρ c main_v5_7 (by decide +kernel)) _).trans <| (congrFun (W4_of m ρ c main_v5_7 (by decide +kernel)) _).trans <| (congrFun (W3_of m ρ c main_v5_7 (by decide +kernel)) _).trans <| W2_ga m ρ c i j

theorem W7_gb (i : Fin 4352) (j : Fin 1024) :
    W7 m ρ c main_v5_8 (ix2 i j) = proj (aX m c i) (aw m c) (aP m c) (colAt 3456 1024 (by decide) j) :=
  (congrFun (W7_of m ρ c main_v5_8 (by decide)) _).trans <| (congrFun (W6_of m ρ c main_v5_8 (by decide +kernel)) _).trans <| (congrFun (W5_of m ρ c main_v5_8 (by decide +kernel)) _).trans <| (congrFun (W4_of m ρ c main_v5_8 (by decide +kernel)) _).trans <| (congrFun (W3_of m ρ c main_v5_8 (by decide +kernel)) _).trans <| W2_gb m ρ c i j

theorem W7_f (i : Fin 4352) (j : Fin 128) :
    W7 m ρ c main_v5_9 (ix2 i j) = proj (aX m c i) (aw m c) (aP m c) (colAt 768 128 (by decide) j) :=
  (congrFun (W7_of m ρ c main_v5_9 (by decide)) _).trans <| (congrFun (W6_of m ρ c main_v5_9 (by decide +kernel)) _).trans <| (congrFun (W5_of m ρ c main_v5_9 (by decide +kernel)) _).trans <| (congrFun (W4_of m ρ c main_v5_9 (by decide +kernel)) _).trans <| (congrFun (W3_of m ρ c main_v5_9 (by decide +kernel)) _).trans <| W2_f m ρ c i j

/-! The three gradients of the projection. -/

theorem W3_dA (k : Fin 1024) (j : Fin 896) :
    W3 m ρ c main_v6 (ix2 k j) = DA (aX m c) (aw m c) k fun i => aDa m c i j := by
  refine (congrFun ((W3_arr m ρ c 2).trans (final1_2 (V2 m ρ) c)) (ix2 k j)).trans ?_
  show tdot (fun r => V2 m ρ c main_v5_0 (ix2 r k)) (fun r => V2 m ρ c main_v2 (ix2 r j)) = tdot (fun r => normed (aX m c r) (aw m c) k) fun r => aDa m c r j
  refine congrArg₂ tdot (funext fun r => ?_) (funext fun r => ?_)
  · exact W2_n m ρ c r k
  · exact (congrFun (W2_of m ρ c main_v2 (by decide +kernel)) _).trans <| W1_Da m ρ c r j

theorem W7_dA (k : Fin 1024) (j : Fin 896) :
    W7 m ρ c main_v6 (ix2 k j) = DA (aX m c) (aw m c) k fun i => aDa m c i j :=
  (congrFun (W7_of m ρ c main_v6 (by decide)) _).trans <| (congrFun (W6_of m ρ c main_v6 (by decide +kernel)) _).trans <| (congrFun (W5_of m ρ c main_v6 (by decide +kernel)) _).trans <| (congrFun (W4_of m ρ c main_v6 (by decide +kernel)) _).trans <| W3_dA m ρ c k j

theorem W4_dB (k : Fin 1024) (j : Fin 1536) :
    W4 m ρ c main_v7 (ix2 k j) = DA (aX m c) (aw m c) k fun i => aDb m c i j := by
  refine (congrFun ((W4_arr m ρ c 2).trans (final2_2 (V3 m ρ) c)) (ix2 k j)).trans ?_
  show tdot (fun r => V3 m ρ c main_v5_0 (ix2 r k)) (fun r => V3 m ρ c main_v3 (ix2 r j)) = tdot (fun r => normed (aX m c r) (aw m c) k) fun r => aDb m c r j
  refine congrArg₂ tdot (funext fun r => ?_) (funext fun r => ?_)
  · exact (congrFun (W3_of m ρ c main_v5_0 (by decide +kernel)) _).trans <| W2_n m ρ c r k
  · exact (congrFun (W3_of m ρ c main_v3 (by decide +kernel)) _).trans <| (congrFun (W2_of m ρ c main_v3 (by decide +kernel)) _).trans <| W1_Db m ρ c r j

theorem W7_dB (k : Fin 1024) (j : Fin 1536) :
    W7 m ρ c main_v7 (ix2 k j) = DA (aX m c) (aw m c) k fun i => aDb m c i j :=
  (congrFun (W7_of m ρ c main_v7 (by decide)) _).trans <| (congrFun (W6_of m ρ c main_v7 (by decide +kernel)) _).trans <| (congrFun (W5_of m ρ c main_v7 (by decide +kernel)) _).trans <| W4_dB m ρ c k j

theorem W5_dG (k : Fin 1024) (j : Fin 2048) :
    W5 m ρ c main_v8 (ix2 k j) = DA (aX m c) (aw m c) k fun i => aDg m c i j := by
  refine (congrFun ((W5_arr m ρ c 2).trans (final3_2 (V4 m ρ) c)) (ix2 k j)).trans ?_
  show tdot (fun r => V4 m ρ c main_v5_0 (ix2 r k)) (fun r => V4 m ρ c main_v4 (ix2 r j)) = tdot (fun r => normed (aX m c r) (aw m c) k) fun r => aDg m c r j
  refine congrArg₂ tdot (funext fun r => ?_) (funext fun r => ?_)
  · exact (congrFun (W4_of m ρ c main_v5_0 (by decide +kernel)) _).trans <| (congrFun (W3_of m ρ c main_v5_0 (by decide +kernel)) _).trans <| W2_n m ρ c r k
  · exact (congrFun (W4_of m ρ c main_v4 (by decide +kernel)) _).trans <| (congrFun (W3_of m ρ c main_v4 (by decide +kernel)) _).trans <| (congrFun (W2_of m ρ c main_v4 (by decide +kernel)) _).trans <| W1_Dg m ρ c r j

theorem W7_dG (k : Fin 1024) (j : Fin 2048) :
    W7 m ρ c main_v8 (ix2 k j) = DA (aX m c) (aw m c) k fun i => aDg m c i j :=
  (congrFun (W7_of m ρ c main_v8 (by decide)) _).trans <| (congrFun (W6_of m ρ c main_v8 (by decide +kernel)) _).trans <| W5_dG m ρ c k j

/-! The backward region. -/

theorem V5_x (i : Fin 4352) : (fun k => V5 m ρ c main_arg0 (ix2 i k)) = aX m c i :=
  funext fun k => congrFun (W5_args m ρ c main_arg0 (by decide)) _

theorem V5_t (i : Fin 4352) : (fun k => V5 m ρ c main_arg3 (ix2 i k)) = aT m c i :=
  funext fun k => congrFun (W5_args m ρ c main_arg3 (by decide)) _

theorem V5_w : (fun k => V5 m ρ c main_v0 (ix2 0 k)) = aw m c := funext fun k =>
  (congrFun (W5_of m ρ c main_v0 (by decide +kernel)) _).trans <| (congrFun (W4_of m ρ c main_v0 (by decide +kernel)) _).trans <| (congrFun (W3_of m ρ c main_v0 (by decide +kernel)) _).trans <| (congrFun (W2_of m ρ c main_v0 (by decide +kernel)) _).trans <| W1_w m ρ c k

theorem V5_P : (fun k j => V5 m ρ c main_v1 (ix2 k j)) = aP m c := funext fun k => funext fun j =>
  (congrFun (W5_of m ρ c main_v1 (by decide +kernel)) _).trans <| (congrFun (W4_of m ρ c main_v1 (by decide +kernel)) _).trans <| (congrFun (W3_of m ρ c main_v1 (by decide +kernel)) _).trans <| (congrFun (W2_of m ρ c main_v1 (by decide +kernel)) _).trans <| W1_P m ρ c k j

theorem V5_Da (i : Fin 4352) : (fun j => V5 m ρ c main_v2 (ix2 i j)) = aDa m c i := funext fun j =>
  (congrFun (W5_of m ρ c main_v2 (by decide +kernel)) _).trans <| (congrFun (W4_of m ρ c main_v2 (by decide +kernel)) _).trans <| (congrFun (W3_of m ρ c main_v2 (by decide +kernel)) _).trans <| (congrFun (W2_of m ρ c main_v2 (by decide +kernel)) _).trans <| W1_Da m ρ c i j

theorem V5_Db (i : Fin 4352) : (fun j => V5 m ρ c main_v3 (ix2 i j)) = aDb m c i := funext fun j =>
  (congrFun (W5_of m ρ c main_v3 (by decide +kernel)) _).trans <| (congrFun (W4_of m ρ c main_v3 (by decide +kernel)) _).trans <| (congrFun (W3_of m ρ c main_v3 (by decide +kernel)) _).trans <| (congrFun (W2_of m ρ c main_v3 (by decide +kernel)) _).trans <| W1_Db m ρ c i j

theorem V5_Dg (i : Fin 4352) : (fun j => V5 m ρ c main_v4 (ix2 i j)) = aDg m c i := funext fun j =>
  (congrFun (W5_of m ρ c main_v4 (by decide +kernel)) _).trans <| (congrFun (W4_of m ρ c main_v4 (by decide +kernel)) _).trans <| (congrFun (W3_of m ρ c main_v4 (by decide +kernel)) _).trans <| (congrFun (W2_of m ρ c main_v4 (by decide +kernel)) _).trans <| W1_Dg m ρ c i j

theorem W6_dx (i : Fin 4352) (d : Fin 1024) :
    W6 m ρ c main_v9_0 (ix2 i d) = DX (aX m c) (aw m c) (aP m c) (aT m c) (aDa m c) (aDb m c) (aDg m c) i d := by
  refine (congrFun ((W6_arr m ρ c 7).trans (final4_7 (V5 m ρ) c)) (ix2 i d)).trans ?_
  show dx (fun k => V5 m ρ c main_arg0 (ix2 i k)) (fun k => V5 m ρ c main_v0 (ix2 0 k)) (fun k => V5 m ρ c main_arg3 (ix2 i k))
    (dn (fun j => V5 m ρ c main_v2 (ix2 i j)) (fun j => V5 m ρ c main_v3 (ix2 i j)) (fun j => V5 m ρ c main_v4 (ix2 i j))
      (fun k j => V5 m ρ c main_v1 (ix2 k j))) d = _
  rw [V5_x, V5_w, V5_t, V5_Da, V5_Db, V5_Dg, V5_P]
  rfl

theorem W7_dx (i : Fin 4352) (d : Fin 1024) :
    W7 m ρ c main_v9_0 (ix2 i d) = DX (aX m c) (aw m c) (aP m c) (aT m c) (aDa m c) (aDb m c) (aDg m c) i d :=
  (congrFun (W7_of m ρ c main_v9_0 (by decide)) _).trans (W6_dx m ρ c i d)

theorem W6_norm (p : Fin 16) (d : Fin 1024) : W6 m ρ c main_v9_1 (ix3 p 0 d)
    = rowSum fun r => dwTerm (DN (aP m c) (aDa m c) (aDb m c) (aDg m c) (rowOf p r)) (aX m c (rowOf p r)) d := by
  refine (congrFun ((W6_arr m ρ c 8).trans (final4_8 (V5 m ρ) c)) (ix3 p 0 d)).trans ?_
  show (rowSum fun r => dwTerm
    (dn (fun j => V5 m ρ c main_v2 (ix2 (rowOf p r) j)) (fun j => V5 m ρ c main_v3 (ix2 (rowOf p r) j))
      (fun j => V5 m ρ c main_v4 (ix2 (rowOf p r) j)) (fun k j => V5 m ρ c main_v1 (ix2 k j)))
    (fun k => V5 m ρ c main_arg0 (ix2 (rowOf p r) k)) d) = _
  simp only [V5_x, V5_Da, V5_Db, V5_Dg, V5_P]
  rfl

/-- The sum of sixteen terms. -/
def sum16 (f : Fin 16 → EReal) : EReal := ∑ p, f p

/-- The host's sum of the sixteen parts of an array. -/
theorem parts_at (x : (⟨S16x1x1024, .f32⟩ : BufTy).Contents (Elt Ideal)) (d : Fin 1024) :
    shapeCast S1024 (Host.reduceAdd (F := Ideal) x (constant S_ .f32 0x00000000#32) reducesTo_S16x1x1024_S1x1024_d0 h_S_) shapeCasts_S1x1024_S1024 (ix1 d)
      = sum16 fun p => x (ix3 p 0 d) := by
  pointwise [sum16]

/-- The last host stretch leaves that sum of the parts. -/
theorem W7_parts (d : Fin 1024) : W7 m ρ c main_v14 (ix1 d) = sum16 fun p => W6 m ρ c main_v9_1 (ix3 p 0 d) := by
  refine Eq.trans ?_ (parts_at (W6 m ρ c main_v9_1) d)
  show StableHlo.after hostOps5 (W6 m ρ c) _ _ = _
  generalize W6 m ρ c = E
  after_results
  rfl

/-- Summing the parts, each over its own rows, is summing over all rows. -/
theorem sum_parts (f : Fin 4352 → EReal) : (sum16 fun p => rowSum fun r => f (rowOf p r)) = ∑ i, f i := by
  rw [Fin.sum_univ_tiles 16 272 rfl]
  exact Finset.sum_congr rfl fun p _ => Finset.sum_congr rfl fun r _ => congrArg f (Fin.ext (by show 272 * (p : ℕ) + r = p * 272 + r; omega))

theorem W7_dw (d : Fin 1024) : W7 m ρ c main_v14 (ix1 d) = DW (aX m c) (aP m c) (aDa m c) (aDb m c) (aDg m c) d :=
  (W7_parts m ρ c d).trans <| (congrArg sum16 (funext fun p => W6_norm m ρ c p d)).trans <|
    sum_parts fun i => dwTerm (DN (aP m c) (aDa m c) (aDb m c) (aDg m c) i) (aX m c i) d

end Cert.ProjIdeal.Value

end
-- ==== Proof.Proj.Run.lean ====
/-
  Every run of the projection's program, forward and backward, ends with each result at the contents the chain of its host
  operations and regions leaves, and with its arguments unchanged.
-/
module

public import proofs.«01_k».proof.Proof.Gen.ProjIdeal.Frame

@[expose] public section

set_option maxRecDepth 16384

noncomputable section

namespace Cert.ProjIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with the eleven results at the last buffer's contents `W7`, the arguments unchanged. -/
theorem run_main : θ_run defs (onTc (τ := τ) (main (F := F))) ⟨m, fun _ => 0, ρ⟩ (fun r => ∀ c : Dev nD,
      r.2.mem ((c.tc : Thread nD τ).loc main_v10) = W7 m ρ c main_v10 ∧
      r.2.mem ((c.tc : Thread nD τ).loc main_v11) = W7 m ρ c main_v11 ∧
      r.2.mem ((c.tc : Thread nD τ).loc main_v5_9) = W7 m ρ c main_v5_9 ∧
      r.2.mem ((c.tc : Thread nD τ).loc main_v12) = W7 m ρ c main_v12 ∧
      r.2.mem ((c.tc : Thread nD τ).loc main_v5_7) = W7 m ρ c main_v5_7 ∧
      r.2.mem ((c.tc : Thread nD τ).loc main_v5_8) = W7 m ρ c main_v5_8 ∧
      r.2.mem ((c.tc : Thread nD τ).loc main_v9_0) = W7 m ρ c main_v9_0 ∧
      r.2.mem ((c.tc : Thread nD τ).loc main_v14) = W7 m ρ c main_v14 ∧
      r.2.mem ((c.tc : Thread nD τ).loc main_v6) = W7 m ρ c main_v6 ∧
      r.2.mem ((c.tc : Thread nD τ).loc main_v7) = W7 m ρ c main_v7 ∧
      r.2.mem ((c.tc : Thread nD τ).loc main_v8) = W7 m ρ c main_v8 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hheld, Hreg, Howed⟩
      isplitl [Hheld Hreg]
      · isplitl [Hheld]; · iexact Hheld
        iexact Hreg
      iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v10 (by decide)),
       h c _ (mem_uc main_v11 (by decide)),
       h c _ (mem_uc main_v5_9 (by decide)),
       h c _ (mem_uc main_v12 (by decide)),
       h c _ (mem_uc main_v5_7 (by decide)),
       h c _ (mem_uc main_v5_8 (by decide)),
       h c _ (mem_uc main_v9_0 (by decide)),
       h c _ (mem_uc main_v14 (by decide)),
       h c _ (mem_uc main_v6 (by decide)),
       h c _ (mem_uc main_v7 (by decide)),
       h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.ProjIdeal.Value

end
-- ==== Proof.Proj.Value.lean ====
/-
  The value claim of the mixer's input projection: from finite arguments, the program and the plain reference end with the
  same eleven arrays, each the function of `Spec` over the arguments.
-/
module

public import proofs.«01_k».proof.Defs
public import proofs.«01_k».proof.Proof.Ffn.Value
public import proofs.«01_k».proof.Proof.Proj.Ref
public import proofs.«01_k».proof.Proof.Proj.Results
public import proofs.«01_k».proof.Proof.Proj.Run
public import proofs.«01_k».proof.Proof.Gen.ProjIdeal
public import proofs.«01_k».proof.Proof.Gen.ProjReferenceIdeal
public import proofs.«01_k».proof.Proof.Gen.ProjReferenceIdeal.Run

@[expose] public section

set_option maxRecDepth 16384

noncomputable section

namespace Cert.ProjValue

open Idealize.ShloMosaic Idealize.ShloMosaic.TcCoe Idealize.SL.Sem
open Cert.ProjSpec
open Cert.FfnSpec (IsReal dxR_eq)
open Cert.FfnValue (isReal_of_abs_lt)
open Cert.ProjIdeal.Gen (W7)
open Cert.ProjIdeal.Value (aX aw aP aT aDa aDb aDg)

/-! The precondition: every element of every argument is a real number. -/

/-- The predicate's shapes broadcast a scalar. -/
theorem preFacts : Cert.Pre_finite_proj.Facts := by constructor <;> decide

variable (m : (ℓ : Loc Cert.ProjIdeal.nD Cert.ProjIdeal.τ Cert.ProjIdeal.sig) → Buf (Elt Ideal) ℓ)

/-- Every element of every argument is a real number. -/
structure RealArgs (c : Dev Cert.ProjIdeal.nD) : Prop where
  x : ∀ i k, IsReal (aX m c i k)
  w : ∀ k, IsReal (aw m c k)
  A : ∀ k j, IsReal (aP m c k j)
  t : ∀ i k, IsReal (aT m c i k)
  a : ∀ i j, IsReal (aDa m c i j)
  b : ∀ i j, IsReal (aDb m c i j)
  g : ∀ i j, IsReal (aDg m c i j)

theorem realArgs (h : Cert.Pre_ProjIdeal_finite_proj (hPre_finite_proj := preFacts) m) (c : Dev Cert.ProjIdeal.nD) : RealArgs m c where
  x i k := isReal_of_abs_lt (h c).1 (ix2 i k)
  w k := isReal_of_abs_lt (h c).2.1 (ix1 k)
  A k j := isReal_of_abs_lt (h c).2.2.1 (ix2 k j)
  t i k := isReal_of_abs_lt (h c).2.2.2.1 (ix2 i k)
  a i j := isReal_of_abs_lt (h c).2.2.2.2.1 (ix2 i j)
  b i j := isReal_of_abs_lt (h c).2.2.2.2.2.1 (ix2 i j)
  g i j := isReal_of_abs_lt (h c).2.2.2.2.2.2 (ix2 i j)

variable {m} in
/-- The normalised row's cotangent is real. -/
theorem DN_real {c : Dev Cert.ProjIdeal.nD} (H : RealArgs m c) (i : Fin 4352) (d : Fin 1024) :
    IsReal (DN (aP m c) (aDa m c) (aDb m c) (aDg m c) i d) :=
  ((IsReal.sum fun j => (H.a i j).mul (H.A d _)).add (IsReal.sum fun j => (H.b i j).mul (H.A d _))).add
    (IsReal.sum fun j => (H.g i j).mul (H.A d _))

/-! The claim. -/

open Cert.ProjReferenceIdeal.Read Cert.ProjReferenceIdeal.Spec Cert.ProjIdeal.Value

/-- The program and the reference end with equal results, from finite arguments. -/
theorem algebraic : Cert.algebraic_ProjIdeal_ProjReferenceIdeal_pre_finite_proj (hProjIdeal := Cert.ProjIdeal.Gen.facts)
    (hProjReferenceIdeal := Cert.ProjReferenceIdeal.Gen.facts) (hPre_finite_proj := preFacts) := by
  intro m g m' g' hpre hm
  refine ⟨fun c => W7 m g c Cert.ProjIdeal.main_v10, fun c => W7 m g c Cert.ProjIdeal.main_v11, fun c => W7 m g c Cert.ProjIdeal.main_v5_9, fun c => W7 m g c Cert.ProjIdeal.main_v12,
    fun c => W7 m g c Cert.ProjIdeal.main_v5_7, fun c => W7 m g c Cert.ProjIdeal.main_v5_8, fun c => W7 m g c Cert.ProjIdeal.main_v9_0, fun c => W7 m g c Cert.ProjIdeal.main_v14,
    fun c => W7 m g c Cert.ProjIdeal.main_v6, fun c => W7 m g c Cert.ProjIdeal.main_v7, fun c => W7 m g c Cert.ProjIdeal.main_v8, run_main m g, ?_⟩
  refine (θ_run Cert.ProjReferenceIdeal.defs _ _).mono (fun r h c => ?_) (Cert.ProjReferenceIdeal.Value.run (F := Ideal) m' g')
  obtain ⟨h0, h1, h2, h3, h4, h5, h6, h7, h8, h9, h10, ha⟩ := h c
  obtain ⟨e0, e1, e2, e3, e4, e5, e6⟩ := hm c
  have H := realArgs m hpre c
  refine ⟨(h0.trans (val_main_v42_eq _ _ _)).trans ?_,
    (h1.trans (val_main_v43_eq _ _ _)).trans ?_,
    (h2.trans (val_main_v44_eq _ _ _)).trans ?_,
    (h3.trans (val_main_v45_eq _ _ _)).trans ?_,
    (h4.trans (val_main_v46_eq _ _ _)).trans ?_,
    (h5.trans (val_main_v47_eq _ _ _)).trans ?_,
    (h6.trans (val_main_v41_eq m' c)).trans ?_,
    (h7.trans (val_main_v26_eq _ _ _ _ _)).trans ?_,
    (h8.trans (val_main_v48_eq _ _ _ _ _)).trans ?_,
    (h9.trans (val_main_v49_eq _ _ _ _ _)).trans ?_,
    (h10.trans (val_main_v50_eq _ _ _ _ _)).trans ?_, ha⟩
  · rw [e0, e1, e2]
    funext i
    idx_vars i
    exact (ka_at _ _ _ _ _).trans (W7_ka m g c _ _).symm
  · rw [e0, e1, e2]
    funext i
    idx_vars i
    exact (va_at _ _ _ _ _).trans (W7_va m g c _ _).symm
  · rw [e0, e1, e2]
    funext i
    idx_vars i
    exact (f_at _ _ _ _ _).trans (W7_f m g c _ _).symm
  · rw [e0, e1, e2]
    funext i
    idx_vars i
    exact (qb_at _ _ _ _ _).trans (W7_qb m g c _ _).symm
  · rw [e0, e1, e2]
    funext i
    idx_vars i
    exact (ga_at _ _ _ _ _).trans (W7_ga m g c _ _).symm
  · rw [e0, e1, e2]
    funext i
    idx_vars i
    exact (gb_at _ _ _ _ _).trans (W7_gb m g c _ _).symm
  · rw [e0, e1, e2, e3, e4, e5, e6]
    funext i
    idx_vars i
    exact ((dx_at _ _ _ _ _ _ _ _ _).trans (dxR_eq (H.x _) H.w (H.t _) (DN_real H _) _)).trans (W7_dx m g c _ _).symm
  · rw [e0, e2, e4, e5, e6]
    funext i
    idx_vars i
    exact (dw_at _ _ _ _ _ _).trans (W7_dw m g c _).symm
  · rw [e0, e1, e4, e5, e6]
    funext i
    idx_vars i
    exact (dA_at _ _ _ _ _ _ _).trans (W7_dA m g c _ _).symm
  · rw [e0, e1, e4, e5, e6]
    funext i
    idx_vars i
    exact (dB_at _ _ _ _ _ _ _).trans (W7_dB m g c _ _).symm
  · rw [e0, e1, e4, e5, e6]
    funext i
    idx_vars i
    exact (dG_at _ _ _ _ _ _ _).trans (W7_dG m g c _ _).symm

end Cert.ProjValue

end
-- ==== Proof.Merge.Spec.lean ====
/-
  The merge of the mixer's two branches, as a function of one row: each branch through its own weight, gated by the
  logistic of its gate, the two added, through the output weight, onto the residual row.
-/
module

public import Idealize.ShloMosaic.Lib.Pointwise

@[expose] public section

noncomputable section

namespace Cert.MergeSpec

open Idealize.ShloMosaic

/-- A row through a weight. -/
def through {n : ℕ} (o : Fin n → EReal) (W : Fin n → Fin 1024 → EReal) (j : Fin 1024) : EReal := ∑ k, o k * W k j

/-- The gated sum of the two branches. -/
def mixed (oa : Fin 1024 → EReal) (ob : Fin 512 → EReal) (ga gb : Fin 1024 → EReal) (Wa : Fin 1024 → Fin 1024 → EReal)
    (Wb : Fin 512 → Fin 1024 → EReal) (j : Fin 1024) : EReal :=
  Ideal.logistic (ga j) * through oa Wa j + Ideal.logistic (gb j) * through ob Wb j

/-- The merged row. -/
def merged (h oa : Fin 1024 → EReal) (ob : Fin 512 → EReal) (ga gb : Fin 1024 → EReal) (Wa : Fin 1024 → Fin 1024 → EReal)
    (Wb : Fin 512 → Fin 1024 → EReal) (Wo : Fin 1024 → Fin 1024 → EReal) (d : Fin 1024) : EReal :=
  h d + through (mixed oa ob ga gb Wa Wb) Wo d

end Cert.MergeSpec

end
-- ==== Proof.Merge.Ref.lean ====
/-
  The reference of the merge, stage by stage: each array of the plain program, read at an index, is the row function of
  `Spec`.
-/
module

public import proofs.«01_k».proof.Proof.Gen.MergeReferenceIdeal.Read
public import proofs.«01_k».proof.Proof.Merge.Spec
public import Idealize.ShloMosaic.Lib.Pointwise

@[expose] public section

set_option maxRecDepth 16384

noncomputable section

namespace Cert.MergeReferenceIdeal.Spec

open Idealize.ShloMosaic Idealize.ShloMosaic.TcCoe Idealize.SL.Sem
open Cert.MergeReferenceIdeal Cert.MergeReferenceIdeal.Gen Cert.MergeReferenceIdeal.Read Cert.MergeSpec

variable (x0 x1 : FVec Ideal S4352x1024 .f32) (x2 : FVec Ideal S4352x512 .f32) (x3 x4 : FVec Ideal S4352x1024 .f32)
  (x5 : FVec Ideal S1024x1024 .f32) (x6 : FVec Ideal S512x1024 .f32) (x7 : FVec Ideal S1024x1024 .f32)

theorem siga_at (i : Fin 4352) (j : Fin 1024) : val_main_v5 (F := Ideal) x3 (ix2 i j) = Ideal.logistic (x3 (ix2 i j)) := by
  pointwise [val_main_v5, val_main_v4, val_main_cst_0, val_main_v3, val_main_v2, val_main_cst, val_main_v1, val_main_v0, Ideal.logistic]

theorem sigb_at (i : Fin 4352) (j : Fin 1024) : val_main_v13 (F := Ideal) x4 (ix2 i j) = Ideal.logistic (x4 (ix2 i j)) := by
  pointwise [val_main_v13, val_main_v12, val_main_cst_2, val_main_v11, val_main_v10, val_main_cst_1, val_main_v9, val_main_v8, Ideal.logistic]

theorem ya_at (i : Fin 4352) (j : Fin 1024) :
    val_main_v6 (F := Ideal) x1 x5 (ix2 i j) = through (fun k => x1 (ix2 i k)) (fun k j => x5 (ix2 k j)) j := by
  pointwise [val_main_v6, through]

theorem yb_at (i : Fin 4352) (j : Fin 1024) :
    val_main_v14 (F := Ideal) x2 x6 (ix2 i j) = through (fun k => x2 (ix2 i k)) (fun k j => x6 (ix2 k j)) j := by
  pointwise [val_main_v14, through]

theorem mixed_at (i : Fin 4352) (j : Fin 1024) : val_main_v16 (F := Ideal) x1 x2 x3 x4 x5 x6 (ix2 i j)
    = mixed (fun k => x1 (ix2 i k)) (fun k => x2 (ix2 i k)) (fun j => x3 (ix2 i j)) (fun j => x4 (ix2 i j)) (fun k j => x5 (ix2 k j))
      (fun k j => x6 (ix2 k j)) j := by
  pointwise [val_main_v16, val_main_v15, val_main_v7, siga_at, sigb_at, ya_at, yb_at, mixed]

theorem out_at (i : Fin 4352) (d : Fin 1024) : val_main_v18 (F := Ideal) x0 x1 x2 x3 x4 x5 x6 x7 (ix2 i d)
    = merged (fun k => x0 (ix2 i k)) (fun k => x1 (ix2 i k)) (fun k => x2 (ix2 i k)) (fun j => x3 (ix2 i j)) (fun j => x4 (ix2 i j))
      (fun k j => x5 (ix2 k j)) (fun k j => x6 (ix2 k j)) (fun k j => x7 (ix2 k j)) d := by
  unfold merged through
  pointwise [val_main_v18, val_main_v17, mixed_at]

end Cert.MergeReferenceIdeal.Spec

end
-- ==== Proof.Merge.Region.lean ====
/-
  The merge's region: the array it leaves is the merged rows of `Spec`, of the arrays it reads.
-/
module

public import proofs.«01_k».proof.Proof.Gen.MergeIdeal.Frame
public import proofs.«01_k».proof.Proof.Merge.Spec
public import Idealize.ShloMosaic.Lib.Pipeline.ValueKit

@[expose] public section

set_option maxRecDepth 16384
set_option maxHeartbeats 2000000

noncomputable section

namespace Cert.MergeIdeal.Value

open Idealize.ShloMosaic Idealize.ShloMosaic.TcCoe Idealize.SL.Sem
open Idealize.ShloMosaic.Pipeline (Dat)
open Cert.MergeIdeal Cert.MergeIdeal.Gen Cert.MergeSpec

variable (m : (ℓ : Loc nD τ sig) → Buf (Elt Ideal) ℓ)

/-- Which block of its array each window holds at grid point `t`. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

/-- What the body stores, of the blocks it loads. -/
theorem pay1_at (oa : Vec Ideal S544x1024 .bf16) (wa : Vec Ideal S1024x1024 .bf16) (ob : Vec Ideal S544x512 .bf16) (wb : Vec Ideal S512x1024 .bf16)
    (ga gb h : Vec Ideal S544x1024 .f32) (wo : Vec Ideal S1024x1024 .bf16) (a : Fin 544) (d : Fin 1024) :
    k0_pay1 oa wa ob wb ga gb h wo (ix2 a d) = merged (fun k => h (ix2 a k)) (fun k => oa (ix2 a k)) (fun k => ob (ix2 a k))
      (fun j => ga (ix2 a j)) (fun j => gb (ix2 a j)) (fun k j => wa (ix2 k j)) (fun k j => wb (ix2 k j)) (fun k j => wo (ix2 k j)) d := by
  pointwise [k0_pay1, merged, mixed, through]

/-- The merged rows. -/
theorem final0_8 (c : Dev nD) : (dats m 0 c).arrAt 8 cfg0.N = fun i =>
    merged (fun k => V m c main_arg0 (ix2 (i 0) k)) (fun k => V m c main_v0 (ix2 (i 0) k)) (fun k => V m c main_v1 (ix2 (i 0) k))
      (fun j => V m c main_arg3 (ix2 (i 0) j)) (fun j => V m c main_arg4 (ix2 (i 0) j)) (fun k j => V m c main_v2 (ix2 k j))
      (fun k j => V m c main_v3 (ix2 k j)) (fun k j => V m c main_v4 (ix2 k j)) (i 1) := by
  refine (dats m 0 c).arrAt_eq_of_covers 8 _ (by decide +kernel) fun t hf y => ?_
  blk_simp
  rw [after0_8]
  unfold out0_8
  frame_out
  have e0 : ∀ k, V m c main_arg0 (ix2 (((View.whole main_v5).slice (win0_8.rect t)).emb y 0) k) = iblk m c 0 t (ix2 (y 0) k) := fun k => by
    blk_ext [iblk, idx0 t]
  have e1 : ∀ k, V m c main_v0 (ix2 (((View.whole main_v5).slice (win0_8.rect t)).emb y 0) k) = iblk m c 1 t (ix2 (y 0) k) := fun k => by
    blk_ext [iblk, idx0 t]
  have e2 : ∀ k, V m c main_v1 (ix2 (((View.whole main_v5).slice (win0_8.rect t)).emb y 0) k) = iblk m c 2 t (ix2 (y 0) k) := fun k => by
    blk_ext [iblk, idx0 t]
  have e3 : ∀ k, V m c main_arg3 (ix2 (((View.whole main_v5).slice (win0_8.rect t)).emb y 0) k) = iblk m c 3 t (ix2 (y 0) k) := fun k => by
    blk_ext [iblk, idx0 t]
  have e4 : ∀ k, V m c main_arg4 (ix2 (((View.whole main_v5).slice (win0_8.rect t)).emb y 0) k) = iblk m c 4 t (ix2 (y 0) k) := fun k => by
    blk_ext [iblk, idx0 t]
  have e5 : ∀ k j, V m c main_v2 (ix2 k j) = iblk m c 5 t (ix2 k j) := fun k j => by
    blk_ext [iblk, idx0 t]
  have e6 : ∀ k j, V m c main_v3 (ix2 k j) = iblk m c 6 t (ix2 k j) := fun k j => by
    blk_ext [iblk, idx0 t]
  have e7 : ∀ k j, V m c main_v4 (ix2 k j) = iblk m c 7 t (ix2 k j) := fun k j => by
    blk_ext [iblk, idx0 t]
  have e8 : (((View.whole main_v5).slice (win0_8.rect t)).emb y 1 : Fin 1024) = y 1 := Fin.ext (by
    blk_simp [idx0 t])
  simp only [e0, e1, e2, e3, e4, e5, e6, e7, e8]
  clear e0 e1 e2 e3 e4 e5 e6 e7 e8
  generalize iblk m c 0 t = X0, iblk m c 1 t = X1, iblk m c 2 t = X2, iblk m c 3 t = X3, iblk m c 4 t = X4, iblk m c 5 t = X5,
    iblk m c 6 t = X6, iblk m c 7 t = X7
  idx_vars y
  exact pay1_at _ _ _ _ _ _ _ _ _ _

end Cert.MergeIdeal.Value

end
-- ==== Proof.Merge.Value.lean ====
/-
  The value claim of the merge: the program and the plain reference end with the same array, the merged rows of `Spec` over
  the arguments.
-/
module

public import proofs.«01_k».proof.Defs
public import proofs.«01_k».proof.Proof.Merge.Ref
public import proofs.«01_k».proof.Proof.Merge.Region
public import proofs.«01_k».proof.Proof.Gen.MergeIdeal
public import proofs.«01_k».proof.Proof.Gen.MergeReferenceIdeal
public import proofs.«01_k».proof.Proof.Gen.MergeReferenceIdeal.Run

@[expose] public section

set_option maxRecDepth 16384

noncomputable section

namespace Cert.MergeIdeal.Value

open Idealize.ShloMosaic Idealize.ShloMosaic.TcCoe Idealize.ShloMosaic.Tactic Idealize.SL.Sem
open Cert.MergeIdeal Cert.MergeIdeal.Gen Cert.MergeSpec

variable (m : (ℓ : Loc nD τ sig) → Buf (Elt Ideal) ℓ) (ρ : Dev nD → PrngReg)

/-- The arrays the region reads that the program rounds first are the arguments. -/
theorem V_oa (c : Dev nD) : V m c main_v0 = m ((c : Thread nD τ).loc main_arg1) := by
  show StableHlo.after hostOps0 _ _ = _; after_results; rfl

theorem V_ob (c : Dev nD) : V m c main_v1 = m ((c : Thread nD τ).loc main_arg2) := by
  show StableHlo.after hostOps0 _ _ = _; after_results; rfl

theorem V_wa (c : Dev nD) : V m c main_v2 = m ((c : Thread nD τ).loc main_arg5) := by
  show StableHlo.after hostOps0 _ _ = _; after_results; rfl

theorem V_wb (c : Dev nD) : V m c main_v3 = m ((c : Thread nD τ).loc main_arg6) := by
  show StableHlo.after hostOps0 _ _ = _; after_results; rfl

theorem V_wo (c : Dev nD) : V m c main_v4 = m ((c : Thread nD τ).loc main_arg7) := by
  show StableHlo.after hostOps0 _ _ = _; after_results; rfl

/-- The merged rows, over the arguments. -/
def Out (c : Dev nD) : Buf (Elt Ideal) ((c : Thread nD τ).loc main_v5) := (dats m 0 c).arrAt 8 cfg0.N

theorem Out_at (c : Dev nD) (i : Fin 4352) (d : Fin 1024) : Out m c (ix2 i d)
    = merged (fun k => m ((c : Thread nD τ).loc main_arg0) (ix2 i k)) (fun k => m ((c : Thread nD τ).loc main_arg1) (ix2 i k))
      (fun k => m ((c : Thread nD τ).loc main_arg2) (ix2 i k)) (fun j => m ((c : Thread nD τ).loc main_arg3) (ix2 i j))
      (fun j => m ((c : Thread nD τ).loc main_arg4) (ix2 i j)) (fun k j => m ((c : Thread nD τ).loc main_arg5) (ix2 k j))
      (fun k j => m ((c : Thread nD τ).loc main_arg6) (ix2 k j)) (fun k j => m ((c : Thread nD τ).loc main_arg7) (ix2 k j)) d := by
  refine (congrFun (final0_8 m c) (ix2 i d)).trans ?_
  rw [V_main_arg0, V_main_arg3, V_main_arg4, V_oa, V_ob, V_wa, V_wb, V_wo]
  rfl

/-- Every run of the program ends with the result at the merged rows, the arguments unchanged. -/
theorem run_main : θ_run defs (onTc (τ := τ) (main (F := Ideal))) ⟨m, fun _ => 0, ρ⟩ (fun r => ∀ c : Dev nD,
      r.2.mem ((c.tc : Thread nD τ).loc main_v5) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 8, h.2 c⟩)
    (θ_run_and (Cert.MergeIdeal.Gen.run_main (F := Ideal) m ρ) (Cert.MergeIdeal.Gen.unchanged (F := Ideal) m ρ))

end Cert.MergeIdeal.Value

namespace Cert.MergeValue

open Idealize.ShloMosaic Idealize.ShloMosaic.TcCoe Idealize.SL.Sem
open Cert.MergeReferenceIdeal.Read Cert.MergeReferenceIdeal.Spec Cert.MergeIdeal.Value

/-- The program and the reference end with equal results. -/
theorem algebraic : Cert.algebraic_MergeIdeal_MergeReferenceIdeal (hMergeIdeal := Cert.MergeIdeal.Gen.facts)
    (hMergeReferenceIdeal := Cert.MergeReferenceIdeal.Gen.facts) := by
  intro m g m' g' _ hm
  refine ⟨fun c => Out m c, run_main m g, ?_⟩
  refine (θ_run Cert.MergeReferenceIdeal.defs _ _).mono (fun r h c => ?_) (Cert.MergeReferenceIdeal.Value.run (F := Ideal) m' g')
  obtain ⟨h0, ha⟩ := h c
  obtain ⟨e0, e1, e2, e3, e4, e5, e6, e7⟩ := hm c
  refine ⟨(h0.trans (val_main_v18_eq _ _ _ _ _ _ _ _)).trans ?_, ha⟩
  rw [e0, e1, e2, e3, e4, e5, e6, e7]
  funext i
  idx_vars i
  exact (out_at _ _ _ _ _ _ _ _ _ _).trans (Out_at m c _ _).symm

end Cert.MergeValue

end
-- ==== Proof.MergeBwd.Spec.lean ====
/-
  The cotangents of the merge of the mixer's two branches, as functions of one row: the output's cotangent back through the
  output weight, gated by each branch's logistic, back through each branch's weight; the gates' cotangents; and the weights'
  gradients as sums over the rows.
-/
module

public import proofs.«01_k».proof.Proof.Merge.Spec

@[expose] public section

noncomputable section

namespace Cert.MergeSpec

open Idealize.ShloMosaic

/-- A row back through a weight. -/
def back {n : ℕ} (v : Fin 1024 → EReal) (W : Fin n → Fin 1024 → EReal) (k : Fin n) : EReal := ∑ j, v j * W k j

/-- A branch's cotangent: the output's, back through the output weight, under the branch's gate. -/
def dy (dh : Fin 1024 → EReal) (Wo : Fin 1024 → Fin 1024 → EReal) (g : Fin 1024 → EReal) (j : Fin 1024) : EReal :=
  back dh Wo j * Ideal.logistic (g j)

/-- A gate's cotangent, from the branch's projected value `y`. -/
def dgate (dh : Fin 1024 → EReal) (Wo : Fin 1024 → Fin 1024 → EReal) (y g : Fin 1024 → EReal) (j : Fin 1024) : EReal :=
  back dh Wo j * y j * (Ideal.logistic (g j) * (1 - Ideal.logistic (g j)))

/-- The two gates' cotangents side by side: the first branch's in the first half of the columns, the second's in the second. -/
def dgates (dh : Fin 1024 → EReal) (Wo : Fin 1024 → Fin 1024 → EReal) (oa : Fin 1024 → EReal) (ob : Fin 512 → EReal)
    (ga gb : Fin 1024 → EReal) (Wa : Fin 1024 → Fin 1024 → EReal) (Wb : Fin 512 → Fin 1024 → EReal) (c : Fin 2048) : EReal :=
  if h : (c : ℕ) < 1024 then dgate dh Wo (through oa Wa) ga ⟨c, h⟩ else dgate dh Wo (through ob Wb) gb ⟨c - 1024, by omega⟩

/-- Two columns multiplied row by row, and summed over the rows. -/
def colDot {n : ℕ} (u v : Fin n → EReal) : EReal := ∑ i, u i * v i

end Cert.MergeSpec

end
-- ==== Proof.MergeBwd.Ref.lean ====
/-
  The reference of the merge's backward call, stage by stage: each array of the plain program, read at an index, is the row
  function of `Spec`.
-/
module

public import proofs.«01_k».proof.Proof.Gen.MergeBwdReferenceIdeal.Read
public import proofs.«01_k».proof.Proof.MergeBwd.Spec
public import Idealize.ShloMosaic.Lib.Pointwise

@[expose] public section

set_option maxRecDepth 16384

noncomputable section

namespace Cert.MergeBwdReferenceIdeal.Spec

open Idealize.ShloMosaic Idealize.ShloMosaic.TcCoe Idealize.SL.Sem
open Cert.MergeBwdReferenceIdeal Cert.MergeBwdReferenceIdeal.Gen Cert.MergeBwdReferenceIdeal.Read Cert.MergeSpec

variable (x0 : FVec Ideal S4352x1024 .f32) (x1 : FVec Ideal S4352x512 .f32) (x2 x3 : FVec Ideal S4352x1024 .f32)
  (x4 : FVec Ideal S1024x1024 .f32) (x5 : FVec Ideal S512x1024 .f32) (x6 : FVec Ideal S1024x1024 .f32) (x7 : FVec Ideal S4352x1024 .f32)

theorem siga_at (i : Fin 4352) (j : Fin 1024) : val_main_v5 (F := Ideal) x2 (ix2 i j) = Ideal.logistic (x2 (ix2 i j)) := by
  pointwise [val_main_v5, val_main_v4, val_main_cst_0, val_main_v3, val_main_v2, val_main_cst, val_main_v1, val_main_v0, Ideal.logistic]

theorem sigb_at (i : Fin 4352) (j : Fin 1024) : val_main_v16 (F := Ideal) x3 (ix2 i j) = Ideal.logistic (x3 (ix2 i j)) := by
  pointwise [val_main_v16, val_main_v15, val_main_cst_3, val_main_v14, val_main_v13, val_main_cst_2, val_main_v12, val_main_v11, Ideal.logistic]

theorem slopea_at (i : Fin 4352) (j : Fin 1024) : val_main_v8 (F := Ideal) x2 (ix2 i j)
    = Ideal.logistic (x2 (ix2 i j)) * (1 - Ideal.logistic (x2 (ix2 i j))) := by
  pointwise [val_main_v8, val_main_v7, val_main_v6, val_main_cst_1, siga_at]

theorem slopeb_at (i : Fin 4352) (j : Fin 1024) : val_main_v19 (F := Ideal) x3 (ix2 i j)
    = Ideal.logistic (x3 (ix2 i j)) * (1 - Ideal.logistic (x3 (ix2 i j))) := by
  pointwise [val_main_v19, val_main_v18, val_main_v17, val_main_cst_4, sigb_at]

theorem ya_at (i : Fin 4352) (j : Fin 1024) :
    val_main_v9 (F := Ideal) x0 x4 (ix2 i j) = through (fun k => x0 (ix2 i k)) (fun k j => x4 (ix2 k j)) j := by
  pointwise [val_main_v9, through]

theorem yb_at (i : Fin 4352) (j : Fin 1024) :
    val_main_v20 (F := Ideal) x1 x5 (ix2 i j) = through (fun k => x1 (ix2 i k)) (fun k j => x5 (ix2 k j)) j := by
  pointwise [val_main_v20, through]

theorem mixed_at (i : Fin 4352) (j : Fin 1024) : val_main_v22 (F := Ideal) x0 x1 x2 x3 x4 x5 (ix2 i j)
    = mixed (fun k => x0 (ix2 i k)) (fun k => x1 (ix2 i k)) (fun j => x2 (ix2 i j)) (fun j => x3 (ix2 i j)) (fun k j => x4 (ix2 k j))
      (fun k j => x5 (ix2 k j)) j := by
  pointwise [val_main_v22, val_main_v21, val_main_v10, siga_at, sigb_at, ya_at, yb_at, mixed]

theorem dmix_at (i : Fin 4352) (j : Fin 1024) :
    val_main_v26 (F := Ideal) x6 x7 (ix2 i j) = back (fun d => x7 (ix2 i d)) (fun j d => x6 (ix2 j d)) j := by
  pointwise [val_main_v26, back]

theorem dya_at (i : Fin 4352) (j : Fin 1024) : val_main_v33 (F := Ideal) x2 x6 x7 (ix2 i j)
    = dy (fun d => x7 (ix2 i d)) (fun j d => x6 (ix2 j d)) (fun j => x2 (ix2 i j)) j := by
  pointwise [val_main_v33, siga_at, dmix_at, dy]
  exact mul_comm _ _

theorem dyb_at (i : Fin 4352) (j : Fin 1024) : val_main_v27 (F := Ideal) x3 x6 x7 (ix2 i j)
    = dy (fun d => x7 (ix2 i d)) (fun j d => x6 (ix2 j d)) (fun j => x3 (ix2 i j)) j := by
  pointwise [val_main_v27, sigb_at, dmix_at, dy]
  exact mul_comm _ _

theorem doa_at (i : Fin 4352) (k : Fin 1024) : val_main_v39 (F := Ideal) x2 x4 x6 x7 (ix2 i k)
    = back (dy (fun d => x7 (ix2 i d)) (fun j d => x6 (ix2 j d)) (fun j => x2 (ix2 i j))) (fun k j => x4 (ix2 k j)) k := by
  unfold back
  pointwise [val_main_v39, val_main_v37, dya_at]

theorem dob_at (i : Fin 4352) (k : Fin 512) : val_main_v40 (F := Ideal) x3 x5 x6 x7 (ix2 i k)
    = back (dy (fun d => x7 (ix2 i d)) (fun j d => x6 (ix2 j d)) (fun j => x3 (ix2 i j))) (fun k j => x5 (ix2 k j)) k := by
  unfold back
  pointwise [val_main_v40, val_main_v31, dyb_at]

theorem dga_at (i : Fin 4352) (j : Fin 1024) : val_main_v38 (F := Ideal) x0 x2 x4 x6 x7 (ix2 i j)
    = dgate (fun d => x7 (ix2 i d)) (fun j d => x6 (ix2 j d)) (through (fun k => x0 (ix2 i k)) (fun k j => x4 (ix2 k j)))
      (fun j => x2 (ix2 i j)) j := by
  pointwise [val_main_v38, val_main_v34, dmix_at, ya_at, slopea_at, dgate]

theorem dgb_at (i : Fin 4352) (j : Fin 1024) : val_main_v32 (F := Ideal) x1 x3 x5 x6 x7 (ix2 i j)
    = dgate (fun d => x7 (ix2 i d)) (fun j d => x6 (ix2 j d)) (through (fun k => x1 (ix2 i k)) (fun k j => x5 (ix2 k j)))
      (fun j => x3 (ix2 i j)) j := by
  pointwise [val_main_v32, val_main_v28, dmix_at, yb_at, slopeb_at, dgate]

theorem dgates_at (i : Fin 4352) (j : Fin 2048) : val_main_v42 (F := Ideal) x0 x1 x2 x3 x4 x5 x6 x7 (ix2 i j)
    = dgates (fun d => x7 (ix2 i d)) (fun j d => x6 (ix2 j d)) (fun k => x0 (ix2 i k)) (fun k => x1 (ix2 i k)) (fun j => x2 (ix2 i j))
      (fun j => x3 (ix2 i j)) (fun k j => x4 (ix2 k j)) (fun k j => x5 (ix2 k j)) j := by
  pointwise [val_main_v42, val_main_v41, dga_at, dgb_at, dgates]

theorem dwa_at (k j : Fin 1024) : val_main_v36 (F := Ideal) x0 x2 x6 x7 (ix2 k j)
    = colDot (fun i => x0 (ix2 i k)) (fun i => dy (fun d => x7 (ix2 i d)) (fun j d => x6 (ix2 j d)) (fun j => x2 (ix2 i j)) j) := by
  pointwise [val_main_v36, val_main_v35, dya_at, colDot]
  exact Finset.sum_congr rfl fun i _ => mul_comm _ _

theorem dwb_at (k : Fin 512) (j : Fin 1024) : val_main_v30 (F := Ideal) x1 x3 x6 x7 (ix2 k j)
    = colDot (fun i => x1 (ix2 i k)) (fun i => dy (fun d => x7 (ix2 i d)) (fun j d => x6 (ix2 j d)) (fun j => x3 (ix2 i j)) j) := by
  pointwise [val_main_v30, val_main_v29, dyb_at, colDot]
  exact Finset.sum_congr rfl fun i _ => mul_comm _ _

theorem dwo_at (j d : Fin 1024) : val_main_v25 (F := Ideal) x0 x1 x2 x3 x4 x5 x7 (ix2 j d)
    = colDot (fun i => mixed (fun k => x0 (ix2 i k)) (fun k => x1 (ix2 i k)) (fun j => x2 (ix2 i j)) (fun j => x3 (ix2 i j))
      (fun k j => x4 (ix2 k j)) (fun k j => x5 (ix2 k j)) j) (fun i => x7 (ix2 i d)) := by
  pointwise [val_main_v25, val_main_v24, mixed_at, colDot]
  exact Finset.sum_congr rfl fun i _ => mul_comm _ _

end Cert.MergeBwdReferenceIdeal.Spec

end
-- ==== Proof.MergeBwd.Payload.lean ====
/-
  What the body of the merge's backward call stores, of the blocks it loads, at an index.
-/
module

public import proofs.«01_k».proof.Proof.Gen.MergeBwdIdeal.Skeleton
public import proofs.«01_k».proof.Proof.MergeBwd.Spec
public import Idealize.ShloMosaic.Lib.Pipeline.ValueKit

@[expose] public section

set_option maxRecDepth 16384
set_option maxHeartbeats 2000000

noncomputable section

namespace Cert.MergeBwdIdeal.Value

open Idealize.ShloMosaic Idealize.ShloMosaic.TcCoe Idealize.SL.Sem
open Cert.MergeBwdIdeal Cert.MergeBwdIdeal.Gen Cert.MergeSpec

variable (dh : Vec Ideal S544x1024 .f32) (oa : Vec Ideal S544x1024 .bf16) (ob : Vec Ideal S544x512 .bf16) (ga gb : Vec Ideal S544x1024 .f32)
  (wa : Vec Ideal S1024x1024 .bf16) (wb : Vec Ideal S512x1024 .bf16) (wo : Vec Ideal S1024x1024 .bf16)

theorem dmix_at (a : Fin 544) (j : Fin 1024) :
    k0_pay6 (F := Ideal) dh wo (ix2 a j) = back (fun d => dh (ix2 a d)) (fun k d => wo (ix2 k d)) j := by
  pointwise [k0_pay6, k0_pay5, back]

theorem ya_at (a : Fin 544) (j : Fin 1024) :
    k0_pay8 (F := Ideal) oa wa (ix2 a j) = through (fun k => oa (ix2 a k)) (fun k j => wa (ix2 k j)) j := by
  pointwise [k0_pay8, k0_pay7, through]

theorem yb_at (a : Fin 544) (j : Fin 1024) :
    k0_pay16 (F := Ideal) ob wb (ix2 a j) = through (fun k => ob (ix2 a k)) (fun k j => wb (ix2 k j)) j := by
  pointwise [k0_pay16, k0_pay15, through]

theorem siga_at (a : Fin 544) (j : Fin 1024) : k0_pay9 (F := Ideal) ga (ix2 a j) = Ideal.logistic (ga (ix2 a j)) := by
  pointwise [k0_pay9]

theorem sigb_at (a : Fin 544) (j : Fin 1024) : k0_pay17 (F := Ideal) gb (ix2 a j) = Ideal.logistic (gb (ix2 a j)) := by
  pointwise [k0_pay17]

theorem dya_at (a : Fin 544) (j : Fin 1024) : k0_pay11 (F := Ideal) dh wo ga (ix2 a j)
    = dy (fun d => dh (ix2 a d)) (fun k d => wo (ix2 k d)) (fun j => ga (ix2 a j)) j := by
  pointwise [k0_pay11, dmix_at, siga_at, dy]

theorem dyb_at (a : Fin 544) (j : Fin 1024) : k0_pay19 (F := Ideal) (k0_pay6 dh wo) gb (ix2 a j)
    = dy (fun d => dh (ix2 a d)) (fun k d => wo (ix2 k d)) (fun j => gb (ix2 a j)) j := by
  pointwise [k0_pay19, dmix_at, sigb_at, dy]

/-- The rows of the first branch's cotangent. -/
theorem doa_at (a : Fin 544) (k : Fin 1024) : k0_pay13 (F := Ideal) dh wo ga wa (ix2 a k)
    = back (dy (fun d => dh (ix2 a d)) (fun k d => wo (ix2 k d)) (fun j => ga (ix2 a j))) (fun k j => wa (ix2 k j)) k := by
  unfold back
  pointwise [k0_pay13, dya_at]

/-- The rows of the second branch's cotangent. -/
theorem dob_at (a : Fin 544) (k : Fin 512) : k0_pay21 (F := Ideal) (k0_pay6 dh wo) gb wb (ix2 a k)
    = back (dy (fun d => dh (ix2 a d)) (fun k d => wo (ix2 k d)) (fun j => gb (ix2 a j))) (fun k j => wb (ix2 k j)) k := by
  unfold back
  pointwise [k0_pay21, dyb_at]

/-- The rows of the first gate's cotangent. -/
theorem dga_at (a : Fin 544) (j : Fin 1024) : k0_pay12 (F := Ideal) dh wo oa wa ga (ix2 a j)
    = dgate (fun d => dh (ix2 a d)) (fun k d => wo (ix2 k d)) (through (fun k => oa (ix2 a k)) (fun k j => wa (ix2 k j)))
      (fun j => ga (ix2 a j)) j := by
  pointwise [k0_pay12, dmix_at, ya_at, siga_at, dgate]

/-- The rows of the second gate's cotangent. -/
theorem dgb_at (a : Fin 544) (j : Fin 1024) : k0_pay20 (F := Ideal) (k0_pay6 dh wo) ob wb gb (ix2 a j)
    = dgate (fun d => dh (ix2 a d)) (fun k d => wo (ix2 k d)) (through (fun k => ob (ix2 a k)) (fun k j => wb (ix2 k j)))
      (fun j => gb (ix2 a j)) j := by
  pointwise [k0_pay20, dmix_at, yb_at, sigb_at, dgate]

/-- The two pieces of the gates' block, at an index. -/
theorem gates_at (y : S544x2048.Idx) :
    View.canon (Val := Elt Ideal) (s := S544x2048) (e := .bf16) [⟨Rect.unit (s := S544x2048) ![0, 1024] S544x1024.size inb_S544x2048_S544x1024_0_1024, k0_pay20 (k0_pay6 dh wo) ob wb gb⟩,
      ⟨Rect.unit (s := S544x2048) ![0, 0] S544x1024.size inb_S544x2048_S544x1024_0_0, k0_pay12 dh wo oa wa ga⟩] y
    = dgates (fun d => dh (ix2 (y 0) d)) (fun k d => wo (ix2 k d)) (fun k => oa (ix2 (y 0) k)) (fun k => ob (ix2 (y 0) k))
      (fun j => ga (ix2 (y 0) j)) (fun j => gb (ix2 (y 0) j)) (fun k j => wa (ix2 k j)) (fun k j => wb (ix2 k j)) (y 1) := by
  idx_vars y
  canon_tiles x h
  · idx_vars x
    obtain rfl : y0 = x0 := Fin.ext h0
    have hy : (y1 : ℕ) = 1024 + x1 := h1
    have e : (⟨(y1 : ℕ) - 1024, by omega⟩ : Fin 1024) = x1 := Fin.ext (by show (y1 : ℕ) - 1024 = x1; omega)
    unfold dgates
    rw [dif_neg (by omega), e]
    exact dgb_at _ _ _ _ _ _ _
  · idx_vars x
    obtain rfl : y0 = x0 := Fin.ext h0
    have hy : (y1 : ℕ) = x1 := h1
    have e : (⟨(y1 : ℕ), by omega⟩ : Fin 1024) = x1 := Fin.ext hy
    unfold dgates
    rw [dif_pos (by omega), e]
    exact dga_at _ _ _ _ _ _ _

/-- The gated sum of the two branches. -/
theorem mixed_at (a : Fin 544) (j : Fin 1024) : k0_pay18 (F := Ideal) (k0_pay10 oa wa ga) ob wb gb (ix2 a j)
    = mixed (fun k => oa (ix2 a k)) (fun k => ob (ix2 a k)) (fun j => ga (ix2 a j)) (fun j => gb (ix2 a j)) (fun k j => wa (ix2 k j))
      (fun k j => wb (ix2 k j)) j := by
  pointwise [k0_pay18, k0_pay10, ya_at, yb_at, siga_at, sigb_at, mixed]

/-- What a tile adds to the first branch weight's gradient. -/
theorem dwa_at (acc : Vec Ideal S1024x1024 .f32) (k j : Fin 1024) :
    k0_pay14 (F := Ideal) (k0_pay7 oa) (k0_pay11 dh wo ga) acc (constant S1024x1024 .f32 0x00000000#32) (ix2 k j)
    = acc (ix2 k j) + colDot (fun r => oa (ix2 r k)) (fun r => dy (fun d => dh (ix2 r d)) (fun k d => wo (ix2 k d)) (fun j => ga (ix2 r j)) j) := by
  pointwise [k0_pay14, k0_pay7, dya_at, colDot]

/-- What a tile adds to the second branch weight's gradient. -/
theorem dwb_at (acc : Vec Ideal S512x1024 .f32) (k : Fin 512) (j : Fin 1024) :
    k0_pay22 (F := Ideal) (k0_pay6 dh wo) ob gb acc (ix2 k j)
    = acc (ix2 k j) + colDot (fun r => ob (ix2 r k)) (fun r => dy (fun d => dh (ix2 r d)) (fun k d => wo (ix2 k d)) (fun j => gb (ix2 r j)) j) := by
  pointwise [k0_pay22, k0_pay15, dyb_at, colDot]

/-- What a tile adds to the output weight's gradient. -/
theorem dwo_at (acc : Vec Ideal S1024x1024 .f32) (j d : Fin 1024) :
    k0_pay1 (F := Ideal) (k0_pay5 dh) (k0_pay18 (k0_pay10 oa wa ga) ob wb gb) acc (ix2 j d)
    = acc (ix2 j d) + colDot (fun r => mixed (fun k => oa (ix2 r k)) (fun k => ob (ix2 r k)) (fun j => ga (ix2 r j)) (fun j => gb (ix2 r j))
      (fun k j => wa (ix2 k j)) (fun k j => wb (ix2 k j)) j) (fun r => dh (ix2 r d)) := by
  pointwise [k0_pay1, k0_pay5, mixed_at, colDot]

theorem zeroa_at (k j : Fin 1024) : k0_pay2 (F := Ideal) (ix2 k j) = (0 : EReal) := by
  pointwise [k0_pay2]

theorem zerob_at (k : Fin 512) (j : Fin 1024) : k0_pay3 (F := Ideal) (ix2 k j) = (0 : EReal) := by
  pointwise [k0_pay3]

theorem zeroo_at (k j : Fin 1024) : k0_pay4 (F := Ideal) (ix2 k j) = (0 : EReal) := by
  pointwise [k0_pay4]

end Cert.MergeBwdIdeal.Value

end
-- ==== Proof.MergeBwd.Outs.lean ====
/-
  What the merge's backward call has in its output blocks, its accumulators and the weight gradients' arrays after each grid
  point, of the blocks the point loads.
-/
module

public import proofs.«01_k».proof.Proof.Gen.MergeBwdIdeal.Frame
public import proofs.«01_k».proof.Proof.MergeBwd.Payload
public import Idealize.ShloMosaic.Lib.Pipeline.ValueKit
public import Idealize.ShloMosaic.Lib.Pipeline.ReadBack
public import Idealize.ShloMosaic.Lib.VecWindow

@[expose] public section

set_option maxRecDepth 16384
set_option maxHeartbeats 2000000

noncomputable section

namespace Cert.MergeBwdIdeal.Value

open Idealize.ShloMosaic Idealize.ShloMosaic.TcCoe Idealize.SL.Sem
open Idealize.ShloMosaic.Pipeline (Dat)
open Cert.MergeBwdIdeal Cert.MergeBwdIdeal.Gen Cert.MergeSpec

variable (m : (ℓ : Loc nD τ sig) → Buf (Elt Ideal) ℓ) (c : Dev nD) (t : Fin cfg0.N)

/-- The blocks a point loads. -/
abbrev bDh : Vec Ideal S544x1024 .f32 := iblk m c 0 t
abbrev bOa : Vec Ideal S544x1024 .bf16 := iblk m c 1 t
abbrev bOb : Vec Ideal S544x512 .bf16 := iblk m c 2 t
abbrev bGa : Vec Ideal S544x1024 .f32 := iblk m c 3 t
abbrev bGb : Vec Ideal S544x1024 .f32 := iblk m c 4 t
abbrev bWa : Vec Ideal S1024x1024 .bf16 := iblk m c 5 t
abbrev bWb : Vec Ideal S512x1024 .bf16 := iblk m c 6 t
abbrev bWo : Vec Ideal S1024x1024 .bf16 := iblk m c 7 t

theorem outs_doa (a : Fin 544) (k : Fin 1024) : (outsAt0 m c t.val t.isLt).1 (ix2 a k)
    = back (dy (fun d => bDh m c t (ix2 a d)) (fun k d => bWo m c t (ix2 k d)) (fun j => bGa m c t (ix2 a j)))
      (fun k j => bWa m c t (ix2 k j)) k := by
  by_cases h0 : t.val % 8 = 0
  · rw [outsAt0_A m c t h0 (by omega)]; frame_out; exact doa_at _ _ _ _ _ _
  · by_cases h1 : t.val % 8 = 7
    · rw [outsAt0_C m c t h0 h1]; frame_out; exact doa_at _ _ _ _ _ _
    · rw [outsAt0_B m c t h0 h1]; frame_out; exact doa_at _ _ _ _ _ _

theorem outs_dob (a : Fin 544) (k : Fin 512) : (outsAt0 m c t.val t.isLt).2.1 (ix2 a k)
    = back (dy (fun d => bDh m c t (ix2 a d)) (fun k d => bWo m c t (ix2 k d)) (fun j => bGb m c t (ix2 a j)))
      (fun k j => bWb m c t (ix2 k j)) k := by
  by_cases h0 : t.val % 8 = 0
  · rw [outsAt0_A m c t h0 (by omega)]; frame_out; exact dob_at _ _ _ _ _ _
  · by_cases h1 : t.val % 8 = 7
    · rw [outsAt0_C m c t h0 h1]; frame_out; exact dob_at _ _ _ _ _ _
    · rw [outsAt0_B m c t h0 h1]; frame_out; exact dob_at _ _ _ _ _ _

theorem outs_dg (y : S544x2048.Idx) : (outsAt0 m c t.val t.isLt).2.2.1 y
    = dgates (fun d => bDh m c t (ix2 (y 0) d)) (fun k d => bWo m c t (ix2 k d)) (fun k => bOa m c t (ix2 (y 0) k)) (fun k => bOb m c t (ix2 (y 0) k))
      (fun j => bGa m c t (ix2 (y 0) j)) (fun j => bGb m c t (ix2 (y 0) j)) (fun k j => bWa m c t (ix2 k j)) (fun k j => bWb m c t (ix2 k j)) (y 1) := by
  by_cases h0 : t.val % 8 = 0
  · rw [outsAt0_A m c t h0 (by omega)]; frame_out; exact gates_at _ _ _ _ _ _ _ _ _
  · by_cases h1 : t.val % 8 = 7
    · rw [outsAt0_C m c t h0 h1]; frame_out; exact gates_at _ _ _ _ _ _ _ _ _
    · rw [outsAt0_B m c t h0 h1]; frame_out; exact gates_at _ _ _ _ _ _ _ _ _

/-- What a point adds to each accumulator. -/
def addWa (i : S1024x1024.Idx) : EReal := colDot (fun r => bOa m c t (ix2 r (i 0)))
  (fun r => dy (fun d => bDh m c t (ix2 r d)) (fun k d => bWo m c t (ix2 k d)) (fun j => bGa m c t (ix2 r j)) (i 1))
def addWb (i : S512x1024.Idx) : EReal := colDot (fun r => bOb m c t (ix2 r (i 0)))
  (fun r => dy (fun d => bDh m c t (ix2 r d)) (fun k d => bWo m c t (ix2 k d)) (fun j => bGb m c t (ix2 r j)) (i 1))
def addWo (i : S1024x1024.Idx) : EReal := colDot (fun r => mixed (fun k => bOa m c t (ix2 r k)) (fun k => bOb m c t (ix2 r k))
  (fun j => bGa m c t (ix2 r j)) (fun j => bGb m c t (ix2 r j)) (fun k j => bWa m c t (ix2 k j)) (fun k j => bWb m c t (ix2 k j)) (i 0))
  (fun r => bDh m c t (ix2 r (i 1)))

theorem acc_wa_first (h0 : t.val % 8 = 0) (i : S1024x1024.Idx) :
    (outsAt0 m c t.val t.isLt).2.2.2.1 i = (0 : EReal) + addWa m c t i := by
  rw [outsAt0_A m c t h0 (by omega)]; frame_out
  idx_vars i
  exact (dwa_at _ _ _ _ _ _ _).trans (congrArg (· + _) (zeroa_at _ _))

theorem acc_wa_next (h0 : ¬t.val % 8 = 0) (i : S1024x1024.Idx) : (outsAt0 m c t.val t.isLt).2.2.2.1 i
    = (outsAt0 m c (t.val - 1) (Nat.lt_of_le_of_lt (Nat.sub_le _ _) t.isLt)).2.2.2.1 i + addWa m c t i := by
  by_cases h1 : t.val % 8 = 7
  · rw [outsAt0_C m c t h0 h1]; frame_out
    idx_vars i
    rw [read_unread_whole]
    exact dwa_at _ _ _ _ _ _ _
  · rw [outsAt0_B m c t h0 h1]; frame_out
    idx_vars i
    rw [read_unread_whole]
    exact dwa_at _ _ _ _ _ _ _

theorem acc_wb_first (h0 : t.val % 8 = 0) (i : S512x1024.Idx) :
    (outsAt0 m c t.val t.isLt).2.2.2.2.1 i = (0 : EReal) + addWb m c t i := by
  rw [outsAt0_A m c t h0 (by omega)]; frame_out
  idx_vars i
  exact (dwb_at _ _ _ _ _ _ _).trans (congrArg (· + _) (zerob_at _ _))

theorem acc_wb_next (h0 : ¬t.val % 8 = 0) (i : S512x1024.Idx) : (outsAt0 m c t.val t.isLt).2.2.2.2.1 i
    = (outsAt0 m c (t.val - 1) (Nat.lt_of_le_of_lt (Nat.sub_le _ _) t.isLt)).2.2.2.2.1 i + addWb m c t i := by
  by_cases h1 : t.val % 8 = 7
  · rw [outsAt0_C m c t h0 h1]; frame_out
    idx_vars i
    rw [read_unread_whole]
    exact dwb_at _ _ _ _ _ _ _
  · rw [outsAt0_B m c t h0 h1]; frame_out
    idx_vars i
    rw [read_unread_whole]
    exact dwb_at _ _ _ _ _ _ _

theorem acc_wo_first (h0 : t.val % 8 = 0) (i : S1024x1024.Idx) :
    (outsAt0 m c t.val t.isLt).2.2.2.2.2.1 i = (0 : EReal) + addWo m c t i := by
  rw [outsAt0_A m c t h0 (by omega)]; frame_out
  idx_vars i
  exact (dwo_at _ _ _ _ _ _ _ _ _ _).trans (congrArg (· + _) (zeroo_at _ _))

theorem acc_wo_next (h0 : ¬t.val % 8 = 0) (i : S1024x1024.Idx) : (outsAt0 m c t.val t.isLt).2.2.2.2.2.1 i
    = (outsAt0 m c (t.val - 1) (Nat.lt_of_le_of_lt (Nat.sub_le _ _) t.isLt)).2.2.2.2.2.1 i + addWo m c t i := by
  by_cases h1 : t.val % 8 = 7
  · rw [outsAt0_C m c t h0 h1]; frame_out
    idx_vars i
    rw [read_unread_whole]
    exact dwo_at _ _ _ _ _ _ _ _ _ _
  · rw [outsAt0_B m c t h0 h1]; frame_out
    idx_vars i
    rw [read_unread_whole]
    exact dwo_at _ _ _ _ _ _ _ _ _ _

/-- The last point copies each accumulator out, as it stands at the end of that point. -/
theorem held_wa (h0 : ¬t.val % 8 = 0) (h1 : t.val % 8 = 7) :
    (outsAt0 m c t.val t.isLt).2.2.2.2.2.2.1 = (outsAt0 m c t.val t.isLt).2.2.2.1 := by
  rw [outsAt0_C m c t h0 h1]
  dsimp only
  unfold hbw0_C_0
  frame_open
  refine (View.write_whole_univ _ _ _).trans ?_
  refine (View.read_writes_full (s := S1024x1024) scM0_0.view _ _ _ _).trans ?_
  generalize k0_pay14 (F := Ideal) _ _ _ _ = P
  exact (View.read_writes_full (Val := Elt Ideal) (s := S1024x1024) VS0_0 _ inb_S1024x1024_S1024x1024_0_0 P []).symm

theorem held_wb (h0 : ¬t.val % 8 = 0) (h1 : t.val % 8 = 7) :
    (outsAt0 m c t.val t.isLt).2.2.2.2.2.2.2.1 = (outsAt0 m c t.val t.isLt).2.2.2.2.1 := by
  rw [outsAt0_C m c t h0 h1]
  dsimp only
  unfold hbw0_C_1
  frame_open
  refine (View.write_whole_univ _ _ _).trans ?_
  refine (View.read_writes_full (s := S512x1024) scM0_1.view _ _ _ _).trans ?_
  generalize k0_pay22 (F := Ideal) _ _ _ _ = P
  exact (View.read_writes_full (Val := Elt Ideal) (s := S512x1024) VS0_1 _ inb_S512x1024_S512x1024_0_0 P []).symm

theorem held_wo (h0 : ¬t.val % 8 = 0) (h1 : t.val % 8 = 7) :
    (outsAt0 m c t.val t.isLt).2.2.2.2.2.2.2.2 = (outsAt0 m c t.val t.isLt).2.2.2.2.2.1 := by
  rw [outsAt0_C m c t h0 h1]
  dsimp only
  unfold hbw0_C_2
  frame_open
  refine (View.write_whole_univ _ _ _).trans ?_
  refine (View.read_writes_full (s := S1024x1024) scM0_2.view _ _ _ _).trans ?_
  generalize k0_pay1 (F := Ideal) _ _ _ = P
  exact (View.read_writes_full (Val := Elt Ideal) (s := S1024x1024) VS0_2 _ inb_S1024x1024_S1024x1024_0_0 P []).symm

end Cert.MergeBwdIdeal.Value

end
-- ==== Proof.MergeBwd.Region.lean ====
/-
  The arrays the merge's backward call leaves, of the arrays it reads: the branches' cotangents and the gates' row by row, and
  the weights' gradients as sums over all the rows.
-/
module

public import proofs.«01_k».proof.Proof.MergeBwd.Outs

@[expose] public section

set_option maxRecDepth 16384
set_option maxHeartbeats 2000000

noncomputable section

namespace Cert.MergeBwdIdeal.Value

open Idealize.ShloMosaic Idealize.ShloMosaic.TcCoe Idealize.SL.Sem
open Idealize.ShloMosaic.Pipeline (Dat)
open Cert.MergeBwdIdeal Cert.MergeBwdIdeal.Gen Cert.MergeSpec

variable (m : (ℓ : Loc nD τ sig) → Buf (Elt Ideal) ℓ)

/-- Which block of its array each window holds at grid point `t`. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- The first branch's cotangent. -/
theorem final_doa (c : Dev nD) : (dats m 0 c).arrAt 8 cfg0.N = fun i =>
    back (dy (fun d => V m c main_arg7 (ix2 (i 0) d)) (fun k d => V m c main_v4 (ix2 k d)) (fun j => V m c main_arg2 (ix2 (i 0) j)))
      (fun k j => V m c main_v2 (ix2 k j)) (i 1) := by
  refine (dats m 0 c).arrAt_eq_of_covers 8 _ (by decide +kernel) fun t hf y => ?_
  blk_simp
  rw [after0_8]
  have e0 : ∀ k, V m c main_arg7 (ix2 (((View.whole main_v5_0).slice (win0_8.rect t)).emb y 0) k) = iblk m c 0 t (ix2 (y 0) k) := fun k => by
    blk_ext [iblk, idx0 t]
  have e3 : ∀ k, V m c main_arg2 (ix2 (((View.whole main_v5_0).slice (win0_8.rect t)).emb y 0) k) = iblk m c 3 t (ix2 (y 0) k) := fun k => by
    blk_ext [iblk, idx0 t]
  have e5 : ∀ k j, V m c main_v2 (ix2 k j) = iblk m c 5 t (ix2 k j) := fun k j => by
    blk_ext [iblk, idx0 t]
  have e7 : ∀ k j, V m c main_v4 (ix2 k j) = iblk m c 7 t (ix2 k j) := fun k j => by
    blk_ext [iblk, idx0 t]
  have e8 : (((View.whole main_v5_0).slice (win0_8.rect t)).emb y 1 : Fin 1024) = y 1 := Fin.ext (by
    blk_simp [idx0 t])
  simp only [e0, e3, e5, e7, e8]
  clear e0 e3 e5 e7 e8
  idx_vars y
  exact outs_doa m c t _ _

/-- The second branch's cotangent. -/
theorem final_dob (c : Dev nD) : (dats m 0 c).arrAt 9 cfg0.N = fun i =>
    back (dy (fun d => V m c main_arg7 (ix2 (i 0) d)) (fun k d => V m c main_v4 (ix2 k d)) (fun j => V m c main_arg3 (ix2 (i 0) j)))
      (fun k j => V m c main_v3 (ix2 k j)) (i 1) := by
  refine (dats m 0 c).arrAt_eq_of_covers 9 _ (by decide +kernel) fun t hf y => ?_
  blk_simp
  rw [after0_9]
  have e0 : ∀ k, V m c main_arg7 (ix2 (((View.whole main_v5_1).slice (win0_9.rect t)).emb y 0) k) = iblk m c 0 t (ix2 (y 0) k) := fun k => by
    blk_ext [iblk, idx0 t]
  have e4 : ∀ k, V m c main_arg3 (ix2 (((View.whole main_v5_1).slice (win0_9.rect t)).emb y 0) k) = iblk m c 4 t (ix2 (y 0) k) := fun k => by
    blk_ext [iblk, idx0 t]
  have e6 : ∀ k j, V m c main_v3 (ix2 k j) = iblk m c 6 t (ix2 k j) := fun k j => by
    blk_ext [iblk, idx0 t]
  have e7 : ∀ k j, V m c main_v4 (ix2 k j) = iblk m c 7 t (ix2 k j) := fun k j => by
    blk_ext [iblk, idx0 t]
  have e8 : (((View.whole main_v5_1).slice (win0_9.rect t)).emb y 1 : Fin 512) = y 1 := Fin.ext (by
    blk_simp [idx0 t])
  simp only [e0, e4, e6, e7, e8]
  clear e0 e4 e6 e7 e8
  idx_vars y
  exact outs_dob m c t _ _

/-- The gates' cotangents. -/
theorem final_dg (c : Dev nD) : (dats m 0 c).arrAt 10 cfg0.N = fun i =>
    dgates (fun d => V m c main_arg7 (ix2 (i 0) d)) (fun k d => V m c main_v4 (ix2 k d)) (fun k => V m c main_v0 (ix2 (i 0) k))
      (fun k => V m c main_v1 (ix2 (i 0) k)) (fun j => V m c main_arg2 (ix2 (i 0) j)) (fun j => V m c main_arg3 (ix2 (i 0) j))
      (fun k j => V m c main_v2 (ix2 k j)) (fun k j => V m c main_v3 (ix2 k j)) (i 1) := by
  refine (dats m 0 c).arrAt_eq_of_covers 10 _ (by decide +kernel) fun t hf y => ?_
  blk_simp
  rw [after0_10]
  have e0 : ∀ k, V m c main_arg7 (ix2 (((View.whole main_v5_2).slice (win0_10.rect t)).emb y 0) k) = iblk m c 0 t (ix2 (y 0) k) := fun k => by
    blk_ext [iblk, idx0 t]
  have e1 : ∀ k, V m c main_v0 (ix2 (((View.whole main_v5_2).slice (win0_10.rect t)).emb y 0) k) = iblk m c 1 t (ix2 (y 0) k) := fun k => by
    blk_ext [iblk, idx0 t]
  have e2 : ∀ k, V m c main_v1 (ix2 (((View.whole main_v5_2).slice (win0_10.rect t)).emb y 0) k) = iblk m c 2 t (ix2 (y 0) k) := fun k => by
    blk_ext [iblk, idx0 t]
  have e3 : ∀ k, V m c main_arg2 (ix2 (((View.whole main_v5_2).slice (win0_10.rect t)).emb y 0) k) = iblk m c 3 t (ix2 (y 0) k) := fun k => by
    blk_ext [iblk, idx0 t]
  have e4 : ∀ k, V m c main_arg3 (ix2 (((View.whole main_v5_2).slice (win0_10.rect t)).emb y 0) k) = iblk m c 4 t (ix2 (y 0) k) := fun k => by
    blk_ext [iblk, idx0 t]
  have e5 : ∀ k j, V m c main_v2 (ix2 k j) = iblk m c 5 t (ix2 k j) := fun k j => by
    blk_ext [iblk, idx0 t]
  have e6 : ∀ k j, V m c main_v3 (ix2 k j) = iblk m c 6 t (ix2 k j) := fun k j => by
    blk_ext [iblk, idx0 t]
  have e7 : ∀ k j, V m c main_v4 (ix2 k j) = iblk m c 7 t (ix2 k j) := fun k j => by
    blk_ext [iblk, idx0 t]
  have e8 : (((View.whole main_v5_2).slice (win0_10.rect t)).emb y 1 : Fin 2048) = y 1 := Fin.ext (by
    blk_simp [idx0 t])
  simp only [e0, e1, e2, e3, e4, e5, e6, e7, e8]
  clear e0 e1 e2 e3 e4 e5 e6 e7 e8
  exact outs_dg m c t y

/-! ## The blocks of a point, as rows of their arrays -/

section Rows

variable (c : Dev nD) (t : Fin cfg0.N) (k : Fin 544) (hl : t.val * 544 + k.val < 4352)

theorem dh_row (d : Fin 1024) : bDh m c t (ix2 k d) = V m c main_arg7 (ix2 ⟨t.val * 544 + k.val, hl⟩ d) := by
  unfold bDh; symm; blk_ext [iblk, idx0 t]
theorem oa_row (d : Fin 1024) : bOa m c t (ix2 k d) = V m c main_v0 (ix2 ⟨t.val * 544 + k.val, hl⟩ d) := by
  unfold bOa; symm; blk_ext [iblk, idx0 t]
theorem ob_row (d : Fin 512) : bOb m c t (ix2 k d) = V m c main_v1 (ix2 ⟨t.val * 544 + k.val, hl⟩ d) := by
  unfold bOb; symm; blk_ext [iblk, idx0 t]
theorem ga_row (d : Fin 1024) : bGa m c t (ix2 k d) = V m c main_arg2 (ix2 ⟨t.val * 544 + k.val, hl⟩ d) := by
  unfold bGa; symm; blk_ext [iblk, idx0 t]
theorem gb_row (d : Fin 1024) : bGb m c t (ix2 k d) = V m c main_arg3 (ix2 ⟨t.val * 544 + k.val, hl⟩ d) := by
  unfold bGb; symm; blk_ext [iblk, idx0 t]

end Rows

theorem wa_whole (c : Dev nD) (t : Fin cfg0.N) (k j : Fin 1024) : bWa m c t (ix2 k j) = V m c main_v2 (ix2 k j) := by
  unfold bWa; symm; blk_ext [iblk, idx0 t]
theorem wb_whole (c : Dev nD) (t : Fin cfg0.N) (k : Fin 512) (j : Fin 1024) : bWb m c t (ix2 k j) = V m c main_v3 (ix2 k j) := by
  unfold bWb; symm; blk_ext [iblk, idx0 t]
theorem wo_whole (c : Dev nD) (t : Fin cfg0.N) (k j : Fin 1024) : bWo m c t (ix2 k j) = V m c main_v4 (ix2 k j) := by
  unfold bWo; symm; blk_ext [iblk, idx0 t]

/-- The row sums of the three weight gradients, point by point, are the sums over all the rows. -/
theorem sum_wa (c : Dev nD) (i : S1024x1024.Idx) : (∑ p : Fin 8, addWa m c p i : EReal) = colDot (fun r : Fin 4352 => V m c main_v0 (ix2 r (i 0)))
    (fun r => dy (fun d => V m c main_arg7 (ix2 r d)) (fun k d => V m c main_v4 (ix2 k d)) (fun j => V m c main_arg2 (ix2 r j)) (i 1)) := by
  unfold addWa colDot
  refine Fin.sum_mul_add_congr fun s k hl => ?_
  simp only [dh_row m c s k hl, ga_row m c s k hl, wo_whole m c s]
  exact congrArg (fun x : EReal => x * _) (oa_row m c s k hl (i 0))

theorem sum_wb (c : Dev nD) (i : S512x1024.Idx) : (∑ p : Fin 8, addWb m c p i : EReal) = colDot (fun r : Fin 4352 => V m c main_v1 (ix2 r (i 0)))
    (fun r => dy (fun d => V m c main_arg7 (ix2 r d)) (fun k d => V m c main_v4 (ix2 k d)) (fun j => V m c main_arg3 (ix2 r j)) (i 1)) := by
  unfold addWb colDot
  refine Fin.sum_mul_add_congr fun s k hl => ?_
  simp only [dh_row m c s k hl, gb_row m c s k hl, wo_whole m c s]
  exact congrArg (fun x : EReal => x * _) (ob_row m c s k hl (i 0))

theorem sum_wo (c : Dev nD) (i : S1024x1024.Idx) : (∑ p : Fin 8, addWo m c p i : EReal) = colDot (fun r : Fin 4352 =>
    mixed (fun k => V m c main_v0 (ix2 r k)) (fun k => V m c main_v1 (ix2 r k)) (fun j => V m c main_arg2 (ix2 r j))
      (fun j => V m c main_arg3 (ix2 r j)) (fun k j => V m c main_v2 (ix2 k j)) (fun k j => V m c main_v3 (ix2 k j)) (i 0))
    (fun r => V m c main_arg7 (ix2 r (i 1))) := by
  unfold addWo colDot
  refine Fin.sum_mul_add_congr fun s k hl => ?_
  simp only [oa_row m c s k hl, ob_row m c s k hl, ga_row m c s k hl, gb_row m c s k hl, wa_whole m c s, wb_whole m c s]
  exact congrArg (fun x : EReal => _ * x) (dh_row m c s k hl (i 1))

/-! ## The weights' gradients -/

theorem final_dwa (c : Dev nD) (t : Fin cfg0.N) (ht : t.val + 1 = cfg0.N) (i : S1024x1024.Idx) :
    (outsAt0 m c t.val t.isLt).2.2.2.2.2.2.1 i = colDot (fun r : Fin 4352 => V m c main_v0 (ix2 r (i 0)))
      (fun r => dy (fun d => V m c main_arg7 (ix2 r d)) (fun k d => V m c main_v4 (ix2 k d)) (fun j => V m c main_arg2 (ix2 r j)) (i 1)) := by
  have hN : cfg0.N = 8 := N_0
  rw [held_wa m c t (by omega) (by omega),
    Pipeline.eq_sum_fin_of_reset_step_apply_last (fun n h j => ((outsAt0 m c n h).2.2.2.1 j : EReal)) 8 (fun _ => (0 : EReal)) (fun t j => addWa m c t j)
      (fun t h j => acc_wa_first m c t h j) (fun t h j => acc_wa_next m c t h j) (le_of_eq N_0) t ht i, zero_add]
  exact sum_wa m c i

theorem final_dwb (c : Dev nD) (t : Fin cfg0.N) (ht : t.val + 1 = cfg0.N) (i : S512x1024.Idx) :
    (outsAt0 m c t.val t.isLt).2.2.2.2.2.2.2.1 i = colDot (fun r : Fin 4352 => V m c main_v1 (ix2 r (i 0)))
      (fun r => dy (fun d => V m c main_arg7 (ix2 r d)) (fun k d => V m c main_v4 (ix2 k d)) (fun j => V m c main_arg3 (ix2 r j)) (i 1)) := by
  have hN : cfg0.N = 8 := N_0
  rw [held_wb m c t (by omega) (by omega),
    Pipeline.eq_sum_fin_of_reset_step_apply_last (fun n h j => ((outsAt0 m c n h).2.2.2.2.1 j : EReal)) 8 (fun _ => (0 : EReal)) (fun t j => addWb m c t j)
      (fun t h j => acc_wb_first m c t h j) (fun t h j => acc_wb_next m c t h j) (le_of_eq N_0) t ht i, zero_add]
  exact sum_wb m c i

theorem final_dwo (c : Dev nD) (t : Fin cfg0.N) (ht : t.val + 1 = cfg0.N) (i : S1024x1024.Idx) :
    (outsAt0 m c t.val t.isLt).2.2.2.2.2.2.2.2 i = colDot (fun r : Fin 4352 =>
      mixed (fun k => V m c main_v0 (ix2 r k)) (fun k => V m c main_v1 (ix2 r k)) (fun j => V m c main_arg2 (ix2 r j))
        (fun j => V m c main_arg3 (ix2 r j)) (fun k j => V m c main_v2 (ix2 k j)) (fun k j => V m c main_v3 (ix2 k j)) (i 0))
      (fun r => V m c main_arg7 (ix2 r (i 1))) := by
  have hN : cfg0.N = 8 := N_0
  rw [held_wo m c t (by omega) (by omega),
    Pipeline.eq_sum_fin_of_reset_step_apply_last (fun n h j => ((outsAt0 m c n h).2.2.2.2.2.1 j : EReal)) 8 (fun _ => (0 : EReal)) (fun t j => addWo m c t j)
      (fun t h j => acc_wo_first m c t h j) (fun t h j => acc_wo_next m c t h j) (le_of_eq N_0) t ht i, zero_add]
  exact sum_wo m c i

end Cert.MergeBwdIdeal.Value

end
-- ==== Proof.MergeBwd.Value.lean ====
/-
  The value claim of the merge's backward call: the program and the plain reference end with the same six arrays, the
  cotangents and the gradients of `Spec` over the arguments.
-/
module

public import proofs.«01_k».proof.Defs
public import proofs.«01_k».proof.Proof.MergeBwd.Ref
public import proofs.«01_k».proof.Proof.MergeBwd.Region
public import proofs.«01_k».proof.Proof.Gen.MergeBwdIdeal
public import proofs.«01_k».proof.Proof.Gen.MergeBwdIdeal.Value
public import proofs.«01_k».proof.Proof.Gen.MergeBwdReferenceIdeal
public import proofs.«01_k».proof.Proof.Gen.MergeBwdReferenceIdeal.Run

@[expose] public section

set_option maxRecDepth 16384

noncomputable section

namespace Cert.MergeBwdIdeal.Value

open Idealize.ShloMosaic Idealize.ShloMosaic.TcCoe Idealize.ShloMosaic.Tactic Idealize.SL.Sem
open Cert.MergeBwdIdeal Cert.MergeBwdIdeal.Gen Cert.MergeSpec

variable (m : (ℓ : Loc nD τ sig) → Buf (Elt Ideal) ℓ) (ρ : Dev nD → PrngReg)

/-- The arrays the region reads that the program rounds first are the arguments. -/
theorem V_oa (c : Dev nD) : V m c main_v0 = m ((c : Thread nD τ).loc main_arg0) := by
  show StableHlo.after hostOps0 _ _ = _; after_results; rfl

theorem V_ob (c : Dev nD) : V m c main_v1 = m ((c : Thread nD τ).loc main_arg1) := by
  show StableHlo.after hostOps0 _ _ = _; after_results; rfl

theorem V_wa (c : Dev nD) : V m c main_v2 = m ((c : Thread nD τ).loc main_arg4) := by
  show StableHlo.after hostOps0 _ _ = _; after_results; rfl

theorem V_wb (c : Dev nD) : V m c main_v3 = m ((c : Thread nD τ).loc main_arg5) := by
  show StableHlo.after hostOps0 _ _ = _; after_results; rfl

theorem V_wo (c : Dev nD) : V m c main_v4 = m ((c : Thread nD τ).loc main_arg6) := by
  show StableHlo.after hostOps0 _ _ = _; after_results; rfl

/-- The last grid point. -/
theorem last_lt : (Fin.last cfg0.N).val - 1 < cfg0.N := by rw [Fin.val_last]; have : cfg0.N = 8 := N_0; omega

theorem last_succ : (Fin.last cfg0.N).val - 1 + 1 = cfg0.N := by rw [Fin.val_last]; have : cfg0.N = 8 := N_0; omega

/-- The six results. -/
def Doa (c : Dev nD) : Buf (Elt Ideal) ((c : Thread nD τ).loc main_v5_0) := (dats m 0 c).arrAt 8 cfg0.N
def Dob (c : Dev nD) : Buf (Elt Ideal) ((c : Thread nD τ).loc main_v5_1) := (dats m 0 c).arrAt 9 cfg0.N
def Dg (c : Dev nD) : Buf (Elt Ideal) ((c : Thread nD τ).loc main_v5_2) := (dats m 0 c).arrAt 10 cfg0.N
def Dwa (c : Dev nD) : Buf (Elt Ideal) ((c : Thread nD τ).loc main_v5_3) := (outsAt0 m c ((Fin.last cfg0.N).val - 1) last_lt).2.2.2.2.2.2.1
def Dwb (c : Dev nD) : Buf (Elt Ideal) ((c : Thread nD τ).loc main_v5_4) := (outsAt0 m c ((Fin.last cfg0.N).val - 1) last_lt).2.2.2.2.2.2.2.1
def Dwo (c : Dev nD) : Buf (Elt Ideal) ((c : Thread nD τ).loc main_v5_5) := (outsAt0 m c ((Fin.last cfg0.N).val - 1) last_lt).2.2.2.2.2.2.2.2

/-! Their entries, over the arguments. -/

theorem Doa_at (c : Dev nD) (i : Fin 4352) (k : Fin 1024) : Doa m c (ix2 i k)
    = back (dy (fun d => m ((c : Thread nD τ).loc main_arg7) (ix2 i d)) (fun j d => m ((c : Thread nD τ).loc main_arg6) (ix2 j d))
        (fun j => m ((c : Thread nD τ).loc main_arg2) (ix2 i j))) (fun k j => m ((c : Thread nD τ).loc main_arg4) (ix2 k j)) k := by
  refine (congrFun (final_doa m c) (ix2 i k)).trans ?_
  rw [V_main_arg7, V_main_arg2, V_wa, V_wo]
  rfl

theorem Dob_at (c : Dev nD) (i : Fin 4352) (k : Fin 512) : Dob m c (ix2 i k)
    = back (dy (fun d => m ((c : Thread nD τ).loc main_arg7) (ix2 i d)) (fun j d => m ((c : Thread nD τ).loc main_arg6) (ix2 j d))
        (fun j => m ((c : Thread nD τ).loc main_arg3) (ix2 i j))) (fun k j => m ((c : Thread nD τ).loc main_arg5) (ix2 k j)) k := by
  refine (congrFun (final_dob m c) (ix2 i k)).trans ?_
  rw [V_main_arg7, V_main_arg3, V_wb, V_wo]
  rfl

theorem Dg_at (c : Dev nD) (i : Fin 4352) (j : Fin 2048) : Dg m c (ix2 i j)
    = dgates (fun d => m ((c : Thread nD τ).loc main_arg7) (ix2 i d)) (fun j d => m ((c : Thread nD τ).loc main_arg6) (ix2 j d))
      (fun k => m ((c : Thread nD τ).loc main_arg0) (ix2 i k)) (fun k => m ((c : Thread nD τ).loc main_arg1) (ix2 i k))
      (fun j => m ((c : Thread nD τ).loc main_arg2) (ix2 i j)) (fun j => m ((c : Thread nD τ).loc main_arg3) (ix2 i j))
      (fun k j => m ((c : Thread nD τ).loc main_arg4) (ix2 k j)) (fun k j => m ((c : Thread nD τ).loc main_arg5) (ix2 k j)) j := by
  refine (congrFun (final_dg m c) (ix2 i j)).trans ?_
  rw [V_main_arg7, V_main_arg2, V_main_arg3, V_oa, V_ob, V_wa, V_wb, V_wo]
  rfl

theorem Dwa_at (c : Dev nD) (k j : Fin 1024) : Dwa m c (ix2 k j)
    = colDot (fun i : Fin 4352 => m ((c : Thread nD τ).loc main_arg0) (ix2 i k))
      (fun i => dy (fun d => m ((c : Thread nD τ).loc main_arg7) (ix2 i d)) (fun j d => m ((c : Thread nD τ).loc main_arg6) (ix2 j d))
        (fun j => m ((c : Thread nD τ).loc main_arg2) (ix2 i j)) j) := by
  refine (final_dwa m c ⟨_, last_lt⟩ last_succ (ix2 k j)).trans ?_
  rw [V_main_arg7, V_main_arg2, V_oa, V_wo]
  rfl

theorem Dwb_at (c : Dev nD) (k : Fin 512) (j : Fin 1024) : Dwb m c (ix2 k j)
    = colDot (fun i : Fin 4352 => m ((c : Thread nD τ).loc main_arg1) (ix2 i k))
      (fun i => dy (fun d => m ((c : Thread nD τ).loc main_arg7) (ix2 i d)) (fun j d => m ((c : Thread nD τ).loc main_arg6) (ix2 j d))
        (fun j => m ((c : Thread nD τ).loc main_arg3) (ix2 i j)) j) := by
  refine (final_dwb m c ⟨_, last_lt⟩ last_succ (ix2 k j)).trans ?_
  rw [V_main_arg7, V_main_arg3, V_ob, V_wo]
  rfl

theorem Dwo_at (c : Dev nD) (j d : Fin 1024) : Dwo m c (ix2 j d)
    = colDot (fun i : Fin 4352 => mixed (fun k => m ((c : Thread nD τ).loc main_arg0) (ix2 i k)) (fun k => m ((c : Thread nD τ).loc main_arg1) (ix2 i k))
        (fun j => m ((c : Thread nD τ).loc main_arg2) (ix2 i j)) (fun j => m ((c : Thread nD τ).loc main_arg3) (ix2 i j))
        (fun k j => m ((c : Thread nD τ).loc main_arg4) (ix2 k j)) (fun k j => m ((c : Thread nD τ).loc main_arg5) (ix2 k j)) j)
      (fun i => m ((c : Thread nD τ).loc main_arg7) (ix2 i d)) := by
  refine (final_dwo m c ⟨_, last_lt⟩ last_succ (ix2 j d)).trans ?_
  rw [V_main_arg7, V_main_arg2, V_main_arg3, V_oa, V_ob, V_wa, V_wb]
  rfl

/-- Every run of the program ends with the six results, the arguments unchanged. -/
theorem run_results : θ_run defs (onTc (τ := τ) (main (F := Ideal))) ⟨m, fun _ => 0, ρ⟩ (fun r => ∀ c : Dev nD,
      r.2.mem ((c.tc : Thread nD τ).loc main_v5_0) = Doa m c
      ∧ r.2.mem ((c.tc : Thread nD τ).loc main_v5_1) = Dob m c
      ∧ r.2.mem ((c.tc : Thread nD τ).loc main_v5_2) = Dg m c
      ∧ r.2.mem ((c.tc : Thread nD τ).loc main_v5_3) = Dwa m c
      ∧ r.2.mem ((c.tc : Thread nD τ).loc main_v5_4) = Dwb m c
      ∧ r.2.mem ((c.tc : Thread nD τ).loc main_v5_5) = Dwo m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
      obtain ⟨h0, h1, h2, a0, a1, a2, a3, a4, a5, a6, a7, h3, h4, h5⟩ := h c
      exact ⟨h0, h1, h2, h3, h4, h5, a0, a1, a2, a3, a4, a5, a6, a7⟩)
    (run_blocks (F := Ideal) m ρ)

end Cert.MergeBwdIdeal.Value

namespace Cert.MergeBwdValue

open Idealize.ShloMosaic Idealize.ShloMosaic.TcCoe Idealize.SL.Sem
open Cert.MergeBwdReferenceIdeal.Read Cert.MergeBwdReferenceIdeal.Spec Cert.MergeBwdIdeal.Value

/-- The program and the reference end with equal results. -/
theorem algebraic : Cert.algebraic_MergeBwdIdeal_MergeBwdReferenceIdeal (hMergeBwdIdeal := Cert.MergeBwdIdeal.Gen.facts)
    (hMergeBwdReferenceIdeal := Cert.MergeBwdReferenceIdeal.Gen.facts) := by
  intro m g m' g' _ hm
  refine ⟨fun c => Doa m c, fun c => Dob m c, fun c => Dg m c, fun c => Dwa m c, fun c => Dwb m c, fun c => Dwo m c, run_results m g, ?_⟩
  refine (θ_run Cert.MergeBwdReferenceIdeal.defs _ _).mono (fun r h c => ?_) (Cert.MergeBwdReferenceIdeal.Value.run (F := Ideal) m' g')
  obtain ⟨h0, h1, h2, h3, h4, h5, ha⟩ := h c
  obtain ⟨e0, e1, e2, e3, e4, e5, e6, e7⟩ := hm c
  refine ⟨(h0.trans (val_main_v39_eq _ _ _ _)).trans ?_, (h1.trans (val_main_v40_eq _ _ _ _)).trans ?_,
    (h2.trans (val_main_v42_eq _ _ _ _ _ _ _ _)).trans ?_, (h3.trans (val_main_v36_eq _ _ _ _)).trans ?_,
    (h4.trans (val_main_v30_eq _ _ _ _)).trans ?_, (h5.trans (val_main_v25_eq _ _ _ _ _ _ _)).trans ?_, ha⟩
  · rw [e2, e4, e6, e7]
    funext i
    idx_vars i
    exact (Cert.MergeBwdReferenceIdeal.Spec.doa_at _ _ _ _ _ _).trans (Doa_at m c _ _).symm
  · rw [e3, e5, e6, e7]
    funext i
    idx_vars i
    exact (Cert.MergeBwdReferenceIdeal.Spec.dob_at _ _ _ _ _ _).trans (Dob_at m c _ _).symm
  · rw [e0, e1, e2, e3, e4, e5, e6, e7]
    funext i
    idx_vars i
    exact (dgates_at _ _ _ _ _ _ _ _ _ _).trans (Dg_at m c _ _).symm
  · rw [e0, e2, e6, e7]
    funext i
    idx_vars i
    exact (Cert.MergeBwdReferenceIdeal.Spec.dwa_at _ _ _ _ _ _).trans (Dwa_at m c _ _).symm
  · rw [e1, e3, e6, e7]
    funext i
    idx_vars i
    exact (Cert.MergeBwdReferenceIdeal.Spec.dwb_at _ _ _ _ _ _).trans (Dwb_at m c _ _).symm
  · rw [e0, e1, e2, e3, e4, e5, e7]
    funext i
    idx_vars i
    exact (Cert.MergeBwdReferenceIdeal.Spec.dwo_at _ _ _ _ _ _ _ _ _).trans (Dwo_at m c _ _).symm

end Cert.MergeBwdValue

end
-- ==== Proof.Adamw.Spec.lean ====
/-
  One step of the optimiser, as a function of one element: the weight, its gradient, and the two moments.
-/
module

public import Idealize.ShloMosaic.Lib.Pointwise

@[expose] public section

noncomputable section

namespace Cert.AdamwSpec

open Idealize.ShloMosaic

/-- The first moment's update. -/
def moment (g m : EReal) : EReal := Ideal.ofBits .f32 0x3F666666#32 * m + Ideal.ofBits .f32 0x3DCCCCCD#32 * g

/-- The second moment's update. -/
def variance (g v : EReal) : EReal := Ideal.ofBits .f32 0x3F7FBE77#32 * v + Ideal.ofBits .f32 0x3A83126F#32 * (g * g)

/-- The weight's change: the corrected first moment over the root of the corrected second, with the decay, at the rate. -/
def delta (w g m v : EReal) : EReal :=
  Ideal.ofBits .f32 0xBA83126F#32 * (Ideal.div (Ideal.div (moment g m) (Ideal.ofBits .f32 0x3F26BD02#32))
      (Ideal.sqrt (Ideal.div (variance g v) (Ideal.ofBits .f32 0x3C231ACC#32)) + Ideal.ofBits .f32 0x322BCC77#32)
    + Ideal.ofBits .f32 0x3C23D70A#32 * w)

end Cert.AdamwSpec

end
-- ==== Proof.Adamw.Ref.lean ====
/-
  The reference of the optimiser: each of its nine arrays, read at an index, is the element function of `Spec`.
-/
module

public import proofs.«01_k».proof.Proof.Gen.AdamwReferenceIdeal.Read
public import proofs.«01_k».proof.Proof.Adamw.Spec
public import Idealize.ShloMosaic.Lib.Pointwise

@[expose] public section

set_option maxRecDepth 16384

noncomputable section

namespace Cert.AdamwReferenceIdeal.Spec

open Idealize.ShloMosaic Idealize.ShloMosaic.TcCoe Idealize.SL.Sem
open Cert.AdamwReferenceIdeal Cert.AdamwReferenceIdeal.Gen Cert.AdamwReferenceIdeal.Read Cert.AdamwSpec

/-! The norm-shaped weight. -/

section

variable (x0 x1 x2 x3 : FVec Ideal S1x1024 .f32) (i : Fin 1) (j : Fin 1024)

theorem moment0_at : val_main_v4 (F := Ideal) x1 x2 (ix2 i j) = moment (x1 (ix2 i j)) (x2 (ix2 i j)) := by
  pointwise [val_main_v4, val_main_v3, val_main_v2, val_main_cst_0, val_main_v1, val_main_v0, val_main_cst, moment]

theorem variance0_at : val_main_v10 (F := Ideal) x1 x3 (ix2 i j) = variance (x1 (ix2 i j)) (x3 (ix2 i j)) := by
  pointwise [val_main_v10, val_main_v9, val_main_v8, val_main_cst_2, val_main_v7, val_main_v6, val_main_v5, val_main_cst_1, variance]

theorem delta0_at : val_main_v23 (F := Ideal) x0 x1 x2 x3 (ix2 i j)
    = delta (x0 (ix2 i j)) (x1 (ix2 i j)) (x2 (ix2 i j)) (x3 (ix2 i j)) := by
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7, moment0_at, variance0_at, delta]

end

/-! The meta tokens' shard. -/

section

variable (x4 x5 x6 x7 : FVec Ideal S16x256 .f32) (i : Fin 16) (j : Fin 256)

theorem moment1_at : val_main_v28 (F := Ideal) x5 x6 (ix2 i j) = moment (x5 (ix2 i j)) (x6 (ix2 i j)) := by
  pointwise [val_main_v28, val_main_v27, val_main_v26, val_main_cst_9, val_main_v25, val_main_v24, val_main_cst_8, moment]

theorem variance1_at : val_main_v34 (F := Ideal) x5 x7 (ix2 i j) = variance (x5 (ix2 i j)) (x7 (ix2 i j)) := by
  pointwise [val_main_v34, val_main_v33, val_main_v32, val_main_cst_11, val_main_v31, val_main_v30, val_main_v29, val_main_cst_10, variance]

theorem delta1_at : val_main_v47 (F := Ideal) x4 x5 x6 x7 (ix2 i j)
    = delta (x4 (ix2 i j)) (x5 (ix2 i j)) (x6 (ix2 i j)) (x7 (ix2 i j)) := by
  pointwise [val_main_v47, val_main_v46, val_main_v45, val_main_v44, val_main_v43, val_main_v42, val_main_v41, val_main_v40, val_main_v39, val_main_v38, val_main_v37, val_main_v36, val_main_v35, val_main_cst_12, val_main_cst_13, val_main_cst_14, val_main_cst_15, val_main_cst_16, moment1_at, variance1_at, delta]

end

/-! The per-head vector. -/

section

variable (x8 x9 x10 x11 : FVec Ideal S1x8 .f32) (i : Fin 1) (j : Fin 8)

theorem moment2_at : val_main_v52 (F := Ideal) x9 x10 (ix2 i j) = moment (x9 (ix2 i j)) (x10 (ix2 i j)) := by
  pointwise [val_main_v52, val_main_v51, val_main_v50, val_main_cst_18, val_main_v49, val_main_v48, val_main_cst_17, moment]

theorem variance2_at : val_main_v58 (F := Ideal) x9 x11 (ix2 i j) = variance (x9 (ix2 i j)) (x11 (ix2 i j)) := by
  pointwise [val_main_v58, val_main_v57, val_main_v56, val_main_cst_20, val_main_v55, val_main_v54, val_main_v53, val_main_cst_19, variance]

theorem delta2_at : val_main_v71 (F := Ideal) x8 x9 x10 x11 (ix2 i j)
    = delta (x8 (ix2 i j)) (x9 (ix2 i j)) (x10 (ix2 i j)) (x11 (ix2 i j)) := by
  pointwise [val_main_v71, val_main_v70, val_main_v69, val_main_v68, val_main_v67, val_main_v66, val_main_v65, val_main_v64, val_main_v63, val_main_v62, val_main_v61, val_main_v60, val_main_v59, val_main_cst_21, val_main_cst_22, val_main_cst_23, val_main_cst_24, val_main_cst_25, moment2_at, variance2_at, delta]

end

end Cert.AdamwReferenceIdeal.Spec

end
-- ==== Proof.Adamw.Region.lean ====
/-
  The optimiser's three regions: each array they leave is the element function of `Spec`, of the arrays the region reads.
-/
module

public import proofs.«01_k».proof.Proof.Gen.AdamwIdeal.Frame
public import proofs.«01_k».proof.Proof.Adamw.Spec
public import Idealize.ShloMosaic.Lib.Pipeline.ValueKit

@[expose] public section

set_option maxRecDepth 16384
set_option maxHeartbeats 1000000

noncomputable section

namespace Cert.AdamwIdeal.Value

open Idealize.ShloMosaic Idealize.ShloMosaic.TcCoe Idealize.SL.Sem
open Idealize.ShloMosaic.Pipeline (Dat)
open Cert.AdamwIdeal Cert.AdamwIdeal.Gen Cert.AdamwSpec

variable (V : (c : Dev nD) → (b : Ref sig .tc) → Buf (Elt Ideal) ((c : Thread nD τ).loc b))

/-! The norm-shaped weight. -/

/-- Which block of its array each window holds at grid point `t`. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem moment0_at (g m : Vec Ideal S1x1024 .f32) (i : Fin 1) (j : Fin 1024) :
    k0_pay1 (F := Ideal) g m (ix2 i j) = moment (g (ix2 i j)) (m (ix2 i j)) := by
  pointwise [k0_pay1, moment]

theorem variance0_at (g v : Vec Ideal S1x1024 .f32) (i : Fin 1) (j : Fin 1024) :
    k0_pay2 (F := Ideal) g v (ix2 i j) = variance (g (ix2 i j)) (v (ix2 i j)) := by
  pointwise [k0_pay2, variance]

theorem delta0_at (w g m v : Vec Ideal S1x1024 .f32) (i : Fin 1) (j : Fin 1024) :
    k0_pay3 (F := Ideal) g m v w (ix2 i j) = delta (w (ix2 i j)) (g (ix2 i j)) (m (ix2 i j)) (v (ix2 i j)) := by
  pointwise [k0_pay3, moment0_at, variance0_at, delta]

theorem final0_4 (c : Dev nD) : (dat0 V c).arrAt 4 cfg0.N = fun i => delta (V c main_arg0 i) (V c main_arg1 i) (V c main_arg2 i) (V c main_arg3 i) := by
  refine (dat0 V c).arrAt_eq_of_covers 4 _ (by decide +kernel) fun t hf y => ?_
  blk_simp
  rw [after0_4]
  unfold out0_4
  frame_out
  have e0 : V c main_arg0 (((View.whole main_v0_0).slice (win0_4.rect t)).emb y) = iblk0 V c 0 t y := by
    blk_ext [iblk0, idx0 t]
  have e1 : V c main_arg1 (((View.whole main_v0_0).slice (win0_4.rect t)).emb y) = iblk0 V c 1 t y := by
    blk_ext [iblk0, idx0 t]
  have e2 : V c main_arg2 (((View.whole main_v0_0).slice (win0_4.rect t)).emb y) = iblk0 V c 2 t y := by
    blk_ext [iblk0, idx0 t]
  have e3 : V c main_arg3 (((View.whole main_v0_0).slice (win0_4.rect t)).emb y) = iblk0 V c 3 t y := by
    blk_ext [iblk0, idx0 t]
  simp only [e0, e1, e2, e3]
  clear e0 e1 e2 e3
  generalize iblk0 V c 0 t = X0, iblk0 V c 1 t = X1, iblk0 V c 2 t = X2, iblk0 V c 3 t = X3
  idx_vars y
  exact delta0_at X0 X1 X2 X3 _ _

theorem final0_5 (c : Dev nD) : (dat0 V c).arrAt 5 cfg0.N = fun i => moment (V c main_arg1 i) (V c main_arg2 i) := by
  refine (dat0 V c).arrAt_eq_of_covers 5 _ (by decide +kernel) fun t hf y => ?_
  blk_simp
  rw [after0_5]
  unfold out0_5
  frame_out
  have e1 : V c main_arg1 (((View.whole main_v0_1).slice (win0_5.rect t)).emb y) = iblk0 V c 1 t y := by
    blk_ext [iblk0, idx0 t]
  have e2 : V c main_arg2 (((View.whole main_v0_1).slice (win0_5.rect t)).emb y) = iblk0 V c 2 t y := by
    blk_ext [iblk0, idx0 t]
  simp only [e1, e2]
  clear e1 e2
  generalize iblk0 V c 1 t = X1, iblk0 V c 2 t = X2
  idx_vars y
  exact moment0_at X1 X2 _ _

theorem final0_6 (c : Dev nD) : (dat0 V c).arrAt 6 cfg0.N = fun i => variance (V c main_arg1 i) (V c main_arg3 i) := by
  refine (dat0 V c).arrAt_eq_of_covers 6 _ (by decide +kernel) fun t hf y => ?_
  blk_simp
  rw [after0_6]
  unfold out0_6
  frame_out
  have e1 : V c main_arg1 (((View.whole main_v0_2).slice (win0_6.rect t)).emb y) = iblk0 V c 1 t y := by
    blk_ext [iblk0, idx0 t]
  have e3 : V c main_arg3 (((View.whole main_v0_2).slice (win0_6.rect t)).emb y) = iblk0 V c 3 t y := by
    blk_ext [iblk0, idx0 t]
  simp only [e1, e3]
  clear e1 e3
  generalize iblk0 V c 1 t = X1, iblk0 V c 3 t = X3
  idx_vars y
  exact variance0_at X1 X3 _ _

/-! The meta tokens' shard. -/

/-- Which block of its array each window holds at grid point `t`. -/
theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] :=
  (by decide +kernel : ∀ t : Fin grid1.N, _)

theorem moment1_at (g m : Vec Ideal S16x256 .f32) (i : Fin 16) (j : Fin 256) :
    k1_pay1 (F := Ideal) g m (ix2 i j) = moment (g (ix2 i j)) (m (ix2 i j)) := by
  pointwise [k1_pay1, moment]

theorem variance1_at (g v : Vec Ideal S16x256 .f32) (i : Fin 16) (j : Fin 256) :
    k1_pay2 (F := Ideal) g v (ix2 i j) = variance (g (ix2 i j)) (v (ix2 i j)) := by
  pointwise [k1_pay2, variance]

theorem delta1_at (w g m v : Vec Ideal S16x256 .f32) (i : Fin 16) (j : Fin 256) :
    k1_pay3 (F := Ideal) g m v w (ix2 i j) = delta (w (ix2 i j)) (g (ix2 i j)) (m (ix2 i j)) (v (ix2 i j)) := by
  pointwise [k1_pay3, moment1_at, variance1_at, delta]

theorem final1_4 (c : Dev nD) : (dat1 V c).arrAt 4 cfg1.N = fun i => delta (V c main_arg4 i) (V c main_arg5 i) (V c main_arg6 i) (V c main_arg7 i) := by
  refine (dat1 V c).arrAt_eq_of_covers 4 _ (by decide +kernel) fun t hf y => ?_
  blk_simp
  rw [after1_4]
  unfold out1_4
  frame_out
  have e0 : V c main_arg4 (((View.whole main_v1_0).slice (win1_4.rect t)).emb y) = iblk1 V c 0 t y := by
    blk_ext [iblk1, idx1 t]
  have e1 : V c main_arg5 (((View.whole main_v1_0).slice (win1_4.rect t)).emb y) = iblk1 V c 1 t y := by
    blk_ext [iblk1, idx1 t]
  have e2 : V c main_arg6 (((View.whole main_v1_0).slice (win1_4.rect t)).emb y) = iblk1 V c 2 t y := by
    blk_ext [iblk1, idx1 t]
  have e3 : V c main_arg7 (((View.whole main_v1_0).slice (win1_4.rect t)).emb y) = iblk1 V c 3 t y := by
    blk_ext [iblk1, idx1 t]
  simp only [e0, e1, e2, e3]
  clear e0 e1 e2 e3
  generalize iblk1 V c 0 t = X0, iblk1 V c 1 t = X1, iblk1 V c 2 t = X2, iblk1 V c 3 t = X3
  idx_vars y
  exact delta1_at X0 X1 X2 X3 _ _

theorem final1_5 (c : Dev nD) : (dat1 V c).arrAt 5 cfg1.N = fun i => moment (V c main_arg5 i) (V c main_arg6 i) := by
  refine (dat1 V c).arrAt_eq_of_covers 5 _ (by decide +kernel) fun t hf y => ?_
  blk_simp
  rw [after1_5]
  unfold out1_5
  frame_out
  have e1 : V c main_arg5 (((View.whole main_v1_1).slice (win1_5.rect t)).emb y) = iblk1 V c 1 t y := by
    blk_ext [iblk1, idx1 t]
  have e2 : V c main_arg6 (((View.whole main_v1_1).slice (win1_5.rect t)).emb y) = iblk1 V c 2 t y := by
    blk_ext [iblk1, idx1 t]
  simp only [e1, e2]
  clear e1 e2
  generalize iblk1 V c 1 t = X1, iblk1 V c 2 t = X2
  idx_vars y
  exact moment1_at X1 X2 _ _

theorem final1_6 (c : Dev nD) : (dat1 V c).arrAt 6 cfg1.N = fun i => variance (V c main_arg5 i) (V c main_arg7 i) := by
  refine (dat1 V c).arrAt_eq_of_covers 6 _ (by decide +kernel) fun t hf y => ?_
  blk_simp
  rw [after1_6]
  unfold out1_6
  frame_out
  have e1 : V c main_arg5 (((View.whole main_v1_2).slice (win1_6.rect t)).emb y) = iblk1 V c 1 t y := by
    blk_ext [iblk1, idx1 t]
  have e3 : V c main_arg7 (((View.whole main_v1_2).slice (win1_6.rect t)).emb y) = iblk1 V c 3 t y := by
    blk_ext [iblk1, idx1 t]
  simp only [e1, e3]
  clear e1 e3
  generalize iblk1 V c 1 t = X1, iblk1 V c 3 t = X3
  idx_vars y
  exact variance1_at X1 X3 _ _

/-! The per-head vector. -/

/-- Which block of its array each window holds at grid point `t`. -/
theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] :=
  (by decide +kernel : ∀ t : Fin grid2.N, _)

theorem moment2_at (g m : Vec Ideal S1x8 .f32) (i : Fin 1) (j : Fin 8) :
    k2_pay1 (F := Ideal) g m (ix2 i j) = moment (g (ix2 i j)) (m (ix2 i j)) := by
  pointwise [k2_pay1, moment]

theorem variance2_at (g v : Vec Ideal S1x8 .f32) (i : Fin 1) (j : Fin 8) :
    k2_pay2 (F := Ideal) g v (ix2 i j) = variance (g (ix2 i j)) (v (ix2 i j)) := by
  pointwise [k2_pay2, variance]

theorem delta2_at (w g m v : Vec Ideal S1x8 .f32) (i : Fin 1) (j : Fin 8) :
    k2_pay3 (F := Ideal) g m v w (ix2 i j) = delta (w (ix2 i j)) (g (ix2 i j)) (m (ix2 i j)) (v (ix2 i j)) := by
  pointwise [k2_pay3, moment2_at, variance2_at, delta]

theorem final2_4 (c : Dev nD) : (dat2 V c).arrAt 4 cfg2.N = fun i => delta (V c main_arg8 i) (V c main_arg9 i) (V c main_arg10 i) (V c main_arg11 i) := by
  refine (dat2 V c).arrAt_eq_of_covers 4 _ (by decide +kernel) fun t hf y => ?_
  blk_simp
  rw [after2_4]
  unfold out2_4
  frame_out
  have e0 : V c main_arg8 (((View.whole main_v2_0).slice (win2_4.rect t)).emb y) = iblk2 V c 0 t y := by
    blk_ext [iblk2, idx2 t]
  have e1 : V c main_arg9 (((View.whole main_v2_0).slice (win2_4.rect t)).emb y) = iblk2 V c 1 t y := by
    blk_ext [iblk2, idx2 t]
  have e2 : V c main_arg10 (((View.whole main_v2_0).slice (win2_4.rect t)).emb y) = iblk2 V c 2 t y := by
    blk_ext [iblk2, idx2 t]
  have e3 : V c main_arg11 (((View.whole main_v2_0).slice (win2_4.rect t)).emb y) = iblk2 V c 3 t y := by
    blk_ext [iblk2, idx2 t]
  simp only [e0, e1, e2, e3]
  clear e0 e1 e2 e3
  generalize iblk2 V c 0 t = X0, iblk2 V c 1 t = X1, iblk2 V c 2 t = X2, iblk2 V c 3 t = X3
  idx_vars y
  exact delta2_at X0 X1 X2 X3 _ _

theorem final2_5 (c : Dev nD) : (dat2 V c).arrAt 5 cfg2.N = fun i => moment (V c main_arg9 i) (V c main_arg10 i) := by
  refine (dat2 V c).arrAt_eq_of_covers 5 _ (by decide +kernel) fun t hf y => ?_
  blk_simp
  rw [after2_5]
  unfold out2_5
  frame_out
  have e1 : V c main_arg9 (((View.whole main_v2_1).slice (win2_5.rect t)).emb y) = iblk2 V c 1 t y := by
    blk_ext [iblk2, idx2 t]
  have e2 : V c main_arg10 (((View.whole main_v2_1).slice (win2_5.rect t)).emb y) = iblk2 V c 2 t y := by
    blk_ext [iblk2, idx2 t]
  simp only [e1, e2]
  clear e1 e2
  generalize iblk2 V c 1 t = X1, iblk2 V c 2 t = X2
  idx_vars y
  exact moment2_at X1 X2 _ _

theorem final2_6 (c : Dev nD) : (dat2 V c).arrAt 6 cfg2.N = fun i => variance (V c main_arg9 i) (V c main_arg11 i) := by
  refine (dat2 V c).arrAt_eq_of_covers 6 _ (by decide +kernel) fun t hf y => ?_
  blk_simp
  rw [after2_6]
  unfold out2_6
  frame_out
  have e1 : V c main_arg9 (((View.whole main_v2_2).slice (win2_6.rect t)).emb y) = iblk2 V c 1 t y := by
    blk_ext [iblk2, idx2 t]
  have e3 : V c main_arg11 (((View.whole main_v2_2).slice (win2_6.rect t)).emb y) = iblk2 V c 3 t y := by
    blk_ext [iblk2, idx2 t]
  simp only [e1, e3]
  clear e1 e3
  generalize iblk2 V c 1 t = X1, iblk2 V c 3 t = X3
  idx_vars y
  exact variance2_at X1 X3 _ _

end Cert.AdamwIdeal.Value

end
-- ==== Proof.Adamw.Value.lean ====
/-
  The value claim of the optimiser: the program and the plain reference end with the same nine arrays, each the element
  function of `Spec` over the arguments.
-/
module

public import proofs.«01_k».proof.Defs
public import proofs.«01_k».proof.Proof.Adamw.Ref
public import proofs.«01_k».proof.Proof.Adamw.Region
public import proofs.«01_k».proof.Proof.Gen.AdamwIdeal
public import proofs.«01_k».proof.Proof.Gen.AdamwReferenceIdeal
public import proofs.«01_k».proof.Proof.Gen.AdamwReferenceIdeal.Run

@[expose] public section

set_option maxRecDepth 16384

noncomputable section

namespace Cert.AdamwIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamwIdeal Cert.AdamwIdeal.Gen Cert.AdamwSpec

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with the nine results at the last buffer's contents `W3`, the arguments unchanged. -/
theorem run_main : θ_run defs (onTc (τ := τ) (main (F := F))) ⟨m, fun _ => 0, ρ⟩ (fun r => ∀ c : Dev nD,
      r.2.mem ((c.tc : Thread nD τ).loc main_v0_0) = W3 m ρ c main_v0_0 ∧
      r.2.mem ((c.tc : Thread nD τ).loc main_v0_1) = W3 m ρ c main_v0_1 ∧
      r.2.mem ((c.tc : Thread nD τ).loc main_v0_2) = W3 m ρ c main_v0_2 ∧
      r.2.mem ((c.tc : Thread nD τ).loc main_v1_0) = W3 m ρ c main_v1_0 ∧
      r.2.mem ((c.tc : Thread nD τ).loc main_v1_1) = W3 m ρ c main_v1_1 ∧
      r.2.mem ((c.tc : Thread nD τ).loc main_v1_2) = W3 m ρ c main_v1_2 ∧
      r.2.mem ((c.tc : Thread nD τ).loc main_v2_0) = W3 m ρ c main_v2_0 ∧
      r.2.mem ((c.tc : Thread nD τ).loc main_v2_1) = W3 m ρ c main_v2_1 ∧
      r.2.mem ((c.tc : Thread nD τ).loc main_v2_2) = W3 m ρ c main_v2_2 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v0_0 (by decide)),
       h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v2_0 (by decide)),
       h c _ (mem_uc main_v2_1 (by decide)),
       h c _ (mem_uc main_v2_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end Run

variable (m : (ℓ : Loc nD τ sig) → Buf (Elt Ideal) ℓ) (ρ : Dev nD → PrngReg) (c : Dev nD)

/-! Each result over the arguments: no region writes another's arrays. -/

theorem out0_0 : W3 m ρ c main_v0_0 = fun i => delta (m ((c : Thread nD τ).loc main_arg0) i) (m ((c : Thread nD τ).loc main_arg1) i) (m ((c : Thread nD τ).loc main_arg2) i) (m ((c : Thread nD τ).loc main_arg3) i) := by
  refine (W3_of m ρ c main_v0_0 (by decide +kernel)).trans <| (W2_of m ρ c main_v0_0 (by decide +kernel)).trans <| (W1_arr m ρ c 4).trans <| (final0_4 (V0 m ρ) c).trans ?_
  rfl

theorem out0_1 : W3 m ρ c main_v0_1 = fun i => moment (m ((c : Thread nD τ).loc main_arg1) i) (m ((c : Thread nD τ).loc main_arg2) i) := by
  refine (W3_of m ρ c main_v0_1 (by decide +kernel)).trans <| (W2_of m ρ c main_v0_1 (by decide +kernel)).trans <| (W1_arr m ρ c 5).trans <| (final0_5 (V0 m ρ) c).trans ?_
  rfl

theorem out0_2 : W3 m ρ c main_v0_2 = fun i => variance (m ((c : Thread nD τ).loc main_arg1) i) (m ((c : Thread nD τ).loc main_arg3) i) := by
  refine (W3_of m ρ c main_v0_2 (by decide +kernel)).trans <| (W2_of m ρ c main_v0_2 (by decide +kernel)).trans <| (W1_arr m ρ c 6).trans <| (final0_6 (V0 m ρ) c).trans ?_
  rfl

theorem out1_0 : W3 m ρ c main_v1_0 = fun i => delta (m ((c : Thread nD τ).loc main_arg4) i) (m ((c : Thread nD τ).loc main_arg5) i) (m ((c : Thread nD τ).loc main_arg6) i) (m ((c : Thread nD τ).loc main_arg7) i) := by
  refine (W3_of m ρ c main_v1_0 (by decide +kernel)).trans <| (W2_arr m ρ c 4).trans <| (final1_4 (V1 m ρ) c).trans ?_
  have h : ∀ a ∈ argRefs, V1 m ρ c a = m ((c : Thread nD τ).loc a) := W1_args m ρ c
  rw [h main_arg4 (by decide), h main_arg5 (by decide), h main_arg6 (by decide), h main_arg7 (by decide)]

theorem out1_1 : W3 m ρ c main_v1_1 = fun i => moment (m ((c : Thread nD τ).loc main_arg5) i) (m ((c : Thread nD τ).loc main_arg6) i) := by
  refine (W3_of m ρ c main_v1_1 (by decide +kernel)).trans <| (W2_arr m ρ c 5).trans <| (final1_5 (V1 m ρ) c).trans ?_
  have h : ∀ a ∈ argRefs, V1 m ρ c a = m ((c : Thread nD τ).loc a) := W1_args m ρ c
  rw [h main_arg5 (by decide), h main_arg6 (by decide)]

theorem out1_2 : W3 m ρ c main_v1_2 = fun i => variance (m ((c : Thread nD τ).loc main_arg5) i) (m ((c : Thread nD τ).loc main_arg7) i) := by
  refine (W3_of m ρ c main_v1_2 (by decide +kernel)).trans <| (W2_arr m ρ c 6).trans <| (final1_6 (V1 m ρ) c).trans ?_
  have h : ∀ a ∈ argRefs, V1 m ρ c a = m ((c : Thread nD τ).loc a) := W1_args m ρ c
  rw [h main_arg5 (by decide), h main_arg7 (by decide)]

theorem out2_0 : W3 m ρ c main_v2_0 = fun i => delta (m ((c : Thread nD τ).loc main_arg8) i) (m ((c : Thread nD τ).loc main_arg9) i) (m ((c : Thread nD τ).loc main_arg10) i) (m ((c : Thread nD τ).loc main_arg11) i) := by
  refine (W3_arr m ρ c 4).trans <| (final2_4 (V2 m ρ) c).trans ?_
  have h : ∀ a ∈ argRefs, V2 m ρ c a = m ((c : Thread nD τ).loc a) := W2_args m ρ c
  rw [h main_arg8 (by decide), h main_arg9 (by decide), h main_arg10 (by decide), h main_arg11 (by decide)]

theorem out2_1 : W3 m ρ c main_v2_1 = fun i => moment (m ((c : Thread nD τ).loc main_arg9) i) (m ((c : Thread nD τ).loc main_arg10) i) := by
  refine (W3_arr m ρ c 5).trans <| (final2_5 (V2 m ρ) c).trans ?_
  have h : ∀ a ∈ argRefs, V2 m ρ c a = m ((c : Thread nD τ).loc a) := W2_args m ρ c
  rw [h main_arg9 (by decide), h main_arg10 (by decide)]

theorem out2_2 : W3 m ρ c main_v2_2 = fun i => variance (m ((c : Thread nD τ).loc main_arg9) i) (m ((c : Thread nD τ).loc main_arg11) i) := by
  refine (W3_arr m ρ c 6).trans <| (final2_6 (V2 m ρ) c).trans ?_
  have h : ∀ a ∈ argRefs, V2 m ρ c a = m ((c : Thread nD τ).loc a) := W2_args m ρ c
  rw [h main_arg9 (by decide), h main_arg11 (by decide)]

end Cert.AdamwIdeal.Value

namespace Cert.AdamwValue

open Idealize.ShloMosaic Idealize.ShloMosaic.TcCoe Idealize.SL.Sem
open Cert.AdamwReferenceIdeal.Read Cert.AdamwReferenceIdeal.Spec
open Cert.AdamwIdeal.Gen (W3)
open Cert.AdamwIdeal.Value (run_main out0_0 out0_1 out0_2 out1_0 out1_1 out1_2 out2_0 out2_1 out2_2)

/-- The program and the reference end with equal results. -/
theorem algebraic : Cert.algebraic_AdamwIdeal_AdamwReferenceIdeal (hAdamwIdeal := Cert.AdamwIdeal.Gen.facts)
    (hAdamwReferenceIdeal := Cert.AdamwReferenceIdeal.Gen.facts) := by
  intro m g m' g' _ hm
  refine ⟨fun c => W3 m g c Cert.AdamwIdeal.main_v0_0, fun c => W3 m g c Cert.AdamwIdeal.main_v0_1, fun c => W3 m g c Cert.AdamwIdeal.main_v0_2, fun c => W3 m g c Cert.AdamwIdeal.main_v1_0, fun c => W3 m g c Cert.AdamwIdeal.main_v1_1, fun c => W3 m g c Cert.AdamwIdeal.main_v1_2, fun c => W3 m g c Cert.AdamwIdeal.main_v2_0, fun c => W3 m g c Cert.AdamwIdeal.main_v2_1, fun c => W3 m g c Cert.AdamwIdeal.main_v2_2, run_main (F := Ideal) m g, ?_⟩
  refine (θ_run Cert.AdamwReferenceIdeal.defs _ _).mono (fun r h c => ?_) (Cert.AdamwReferenceIdeal.Value.run (F := Ideal) m' g')
  obtain ⟨h0, h1, h2, h3, h4, h5, h6, h7, h8, ha⟩ := h c
  obtain ⟨e0, e1, e2, e3, e4, e5, e6, e7, e8, e9, e10, e11⟩ := hm c
  refine ⟨(h0.trans (val_main_v23_eq _ _ _ _ )).trans ?_,
    (h1.trans (val_main_v4_eq _ _ )).trans ?_,
    (h2.trans (val_main_v10_eq _ _ )).trans ?_,
    (h3.trans (val_main_v47_eq _ _ _ _ )).trans ?_,
    (h4.trans (val_main_v28_eq _ _ )).trans ?_,
    (h5.trans (val_main_v34_eq _ _ )).trans ?_,
    (h6.trans (val_main_v71_eq _ _ _ _ )).trans ?_,
    (h7.trans (val_main_v52_eq _ _ )).trans ?_,
    (h8.trans (val_main_v58_eq _ _ )).trans ?_, ha⟩
  · rw [e0, e1, e2, e3]
    refine Eq.trans ?_ (out0_0 m g c).symm
    funext i
    idx_vars i
    exact Cert.AdamwReferenceIdeal.Spec.delta0_at _ _ _ _ _ _
  · rw [e1, e2]
    refine Eq.trans ?_ (out0_1 m g c).symm
    funext i
    idx_vars i
    exact Cert.AdamwReferenceIdeal.Spec.moment0_at _ _ _ _
  · rw [e1, e3]
    refine Eq.trans ?_ (out0_2 m g c).symm
    funext i
    idx_vars i
    exact Cert.AdamwReferenceIdeal.Spec.variance0_at _ _ _ _
  · rw [e4, e5, e6, e7]
    refine Eq.trans ?_ (out1_0 m g c).symm
    funext i
    idx_vars i
    exact Cert.AdamwReferenceIdeal.Spec.delta1_at _ _ _ _ _ _
  · rw [e5, e6]
    refine Eq.trans ?_ (out1_1 m g c).symm
    funext i
    idx_vars i
    exact Cert.AdamwReferenceIdeal.Spec.moment1_at _ _ _ _
  · rw [e5, e7]
    refine Eq.trans ?_ (out1_2 m g c).symm
    funext i
    idx_vars i
    exact Cert.AdamwReferenceIdeal.Spec.variance1_at _ _ _ _
  · rw [e8, e9, e10, e11]
    refine Eq.trans ?_ (out2_0 m g c).symm
    funext i
    idx_vars i
    exact Cert.AdamwReferenceIdeal.Spec.delta2_at _ _ _ _ _ _
  · rw [e9, e10]
    refine Eq.trans ?_ (out2_1 m g c).symm
    funext i
    idx_vars i
    exact Cert.AdamwReferenceIdeal.Spec.moment2_at _ _ _ _
  · rw [e9, e11]
    refine Eq.trans ?_ (out2_2 m g c).symm
    funext i
    idx_vars i
    exact Cert.AdamwReferenceIdeal.Spec.variance2_at _ _ _ _

end Cert.AdamwValue

end
-- ==== Proof.Swa.Run.lean ====
/-  The kernel body run once. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rows of the block before the point's, of batch 0, in closed form. -/
theorem off1_eq : ∀ i : grid0.Coords, k0_off1 i = ![0, 128 * ((i 0).val - 1), 0] := by decide +kernel
instance closedOff_off1 (i : grid0.Coords) : ClosedOff (k0_off1 i) := ⟨_, off1_eq i⟩
/-- The rows of the block before the point's, of batch 1, in closed form. -/
theorem off3_eq : ∀ i : grid0.Coords, k0_off3 i = ![1, 128 * ((i 0).val - 1), 0] := by decide +kernel
instance closedOff_off3 (i : grid0.Coords) : ClosedOff (k0_off3 i) := ⟨_, off3_eq i⟩

set_option maxHeartbeats 2000000 in
noncomputable def bodyRun (c : Dev nD) (i : grid0.Coords) (arg1 : Memref sig .tc .vmem S2x128x1024 .bf16) (harg1 : arg1.IsWhole) (arg2 : Memref sig .tc .vmem S2x128x128 .bf16) (harg2 : arg2.IsWhole) (arg3 : Memref sig .tc .vmem S2x128x128 .bf16) (harg3 : arg3.IsWhole) (arg4 : Memref sig .tc .vmem S2x128x128 .bf16) (harg4 : arg4.IsWhole) (arg5 : Memref sig .tc .vmem S2x128x128 .bf16) (harg5 : arg5.IsWhole) (arg6 : Memref sig .tc .vmem S2x128x128 .bf16) (harg6 : arg6.IsWhole) (arg7 : Memref sig .tc .vmem S2x128x128 .bf16) (harg7 : arg7.IsWhole) (arg8 : Memref sig .tc .vmem S2x128x1024 .bf16) (harg8 : arg8.IsWhole) (arg9 : Memref sig .tc .vmem S2x1x2x512x1 .f32) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x128x512 .bf16) (harg12 : arg12.IsWhole) (arg13 : Memref sig .tc .vmem S2x2176x128 .bf16) (harg13 : arg13.IsWhole) (arg14 : Memref sig .tc .vmem S2x2176x128 .bf16) (harg14 : arg14.IsWhole) (arg15 : Memref sig .tc .vmem S2x2x512x1 .f32) (harg15 : arg15.IsWhole) (arg16 : Memref sig .tc .vmem S2x2176x128 .f32) (harg16 : arg16.IsWhole) (arg17 : Memref sig .tc .vmem S2x2176x128 .f32) (harg17 : arg17.IsWhole)
    (x1 : Vec F S2x128x1024 .bf16) (x2 : Vec F S2x128x128 .bf16) (x3 : Vec F S2x128x128 .bf16) (x4 : Vec F S2x128x128 .bf16) (x5 : Vec F S2x128x128 .bf16) (x6 : Vec F S2x128x128 .bf16) (x7 : Vec F S2x128x128 .bf16) (x8 : Vec F S2x128x1024 .bf16) (x9 : Vec F S2x1x2x512x1 .f32) (x10 : Vec F S2x512x1 .f32) (x11 : Vec F S2x512x1 .f32) (x13 : Vec F S2x2176x128 .bf16) (x14 : Vec F S2x2176x128 .bf16) (x15 : Vec F S2x2x512x1 .f32) (x16 : Vec F S2x2176x128 .f32) (x17 : Vec F S2x2176x128 .f32) :
    Σ' (L12 : List (View.Piece (Elt F) S2x128x512 .bf16)), Σ' (C13 : Buf (Elt F) (arg13.view.loc (c : Thread nD τ))), Σ' (C14 : Buf (Elt F) (arg14.view.loc (c : Thread nD τ))), Σ' (C15 : Buf (Elt F) (arg15.view.loc (c : Thread nD τ))), Σ' (C16 : Buf (Elt F) (arg16.view.loc (c : Thread nD τ))), { C17 : Buf (Elt F) (arg17.view.loc (c : Thread nD τ)) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_swa_bwd_eq_skeleton]; unfold cc0_swa_bwd_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17

    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexact H13
    isplitl [H14]; · iexact H14
    isplitl [H15]; · iexact H15
    isplitl [H16]; · iexact H16
    iexact H17

end Cert.KernelIdeal.Swa

end
-- ==== Proof.Swa.Slots.lean ====
/-  The memrefs the body is called with at a point, and the scratch it shares between points. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The staging memref of each window at a point, and that it is a whole buffer. -/
abbrev ms0 (t : Fin cfg0.N) : Memref sig .tc .vmem S2x128x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x128x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x128x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x128x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x128x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1x2x512x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x512x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x512x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x128x512 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2x2176x128 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S2x2176x128 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S2x2x512x1 .f32 := win0_14.stage (cfg0.slots t 14)
abbrev hs14 (t : Fin cfg0.N) : (ms14 t).IsWhole := hstage0_14 ((cfg0.slots t 14).cast nbuf0_14)
/-- The accumulator of the key gradients. -/
abbrev accK : Memref sig .tc .vmem S2x2176x128 .f32 := Memref.whole cc0_scratch0
/-- The accumulator of the value gradients. -/
abbrev accV : Memref sig .tc .vmem S2x2176x128 .f32 := Memref.whole cc0_scratch1

/-- The launch's invariant, the two accumulators at some contents. -/
theorem scratch_eq (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl

/-- The body the table names at a point is the body at its staging memrefs. -/
theorem defs₀_row (t : Fin cfg0.N) :
    defs₀ (F := F) .tc cfg0.body (cfg0.bodyArgs t (cfg0.slots t)) = bodyAt0 t := by
  unfold defs₀; rw [Defs.onTc_tc]

end Cert.KernelIdeal.Swa

end
-- ==== Proof.Swa.Frame.lean ====
/-  The frame: the run terminates with the arguments unchanged, nothing said of what the outputs hold. -/
module

public import proofs.«01_k».proof.Proof.Swa.Run
public import proofs.«01_k».proof.Proof.Swa.Slots

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of the four gradients. -/
def forgets : Fin 15 → Bool := fun w => w.val == 11 || w.val == 12 || w.val == 13 || w.val == 14

/-- The proof data: every input at its block, the outputs and the accumulators at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (iblk m c 9 t) := by
  unfold Dat.leavesExact; rw [live9 t, after9]
theorem leaves10 (c : Dev nD) (t : Fin cfg0.N) : (dats m 0 c).leavesExact 10 t = owns (c : Thread nD τ) (ms10 t) fullShare (iblk m c 10 t) := by
  unfold Dat.leavesExact; rw [live10 t, after10]

set_option maxHeartbeats 2000000 in
/-- The body at a point. -/
theorem sound_body (c : Dev nD) (t : Fin cfg0.N) :
    iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare d)
    ∗ (∃ d, owns (c : Thread nD τ) (ms12 t) fullShare d)
    ∗ (∃ d, owns (c : Thread nD τ) (ms13 t) fullShare d)
    ∗ (∃ d, owns (c : Thread nD τ) (ms14 t) fullShare d))
    ⊢ wp frame (wpE (defs₀ (F := F)) Variants.none c none) Set.univ (bodyAt0 t) (fun _ =>
      iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms11 t) fullShare d)
    ∗ (∃ d, owns (c : Thread nD τ) (ms12 t) fullShare d)
    ∗ (∃ d, owns (c : Thread nD τ) (ms13 t) fullShare d)
    ∗ (∃ d, owns (c : Thread nD τ) (ms14 t) fullShare d))) := by
  unfold bodyAt0
  simp only [before0, before1, before2, before3, before4, before5, before6, before7, before8, before9, before10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  rw [leaves0, leaves1, leaves2, leaves3, leaves4, leaves5, leaves6, leaves7, leaves8, leaves9, leaves10]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) accK (Memref.isWhole_whole _) accV (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) d12 d13 d14 s0 s1).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [HS0]; · iexact HS0
  isplitl [HS1]; · iexact HS1
  iintro ⟨H0, H1, H2, H3, H4, H5, H6, H7, H8, H9, H10, ⟨%e11, H11⟩, H12, H13, H14, HS0, HS1⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; unfold owns; iexists _; isplitr
    swap; · iexact H11
    ipureintro; rfl
  isplitl [H12]
  · iexists _; unfold owns; iexists _; isplitr
    swap; · iexact H12
    ipureintro; rfl
  isplitl [H13]
  · iexists _; unfold owns; iexists _; isplitr
    swap; · iexact H13
    ipureintro; rfl
  iexists _; unfold owns; iexists _; isplitr
  swap; · iexact H14
  ipureintro; rfl

/-- The pipeline's obligation on the body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- Every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(((h.1) c).2 main_arg0 (Pipeline.mem_restRefs_of main_arg0 (by decide) (by decide))).trans (V_main_arg0 m c),
      (((h.1) c).2 main_arg1 (Pipeline.mem_restRefs_of main_arg1 (by decide) (by decide))).trans (V_main_arg1 m c),
      (((h.1) c).2 main_arg2 (Pipeline.mem_restRefs_of main_arg2 (by decide) (by decide))).trans (V_main_arg2 m c),
      (((h.1) c).2 main_arg3 (Pipeline.mem_restRefs_of main_arg3 (by decide) (by decide))).trans (V_main_arg3 m c),
      (((h.1) c).2 main_arg4 (Pipeline.mem_restRefs_of main_arg4 (by decide) (by decide))).trans (V_main_arg4 m c)⟩, h.2⟩) (run_main m ρ)

end Cert.KernelIdeal.Swa

end
-- ==== Proof.lean ====
/-
  The claims of `Defs.lean`, gathered from the modules that prove them.

  * `Ffn`, `FfnIdeal`: the four calls of one feed-forward half (forward, backward, the two weight gradients);
    their frames are the generated frame certificates; the five results are read in `Proof/Ffn`.
  * `FfnReferenceIdeal`: the same half written plainly, with its gradient taken by differentiation; a straight line of
    host operations and no semaphore. `Proof/Ffn/Value` proves the two end with equal results, from finite arguments.
  * `Proj`, `ProjIdeal`: the five calls of the mixers' input projection (forward, backward, the three weight gradients);
    `ProjReferenceIdeal`: the same projection written plainly; `Proof/Proj/Value` proves their eleven results equal.
  * `Merge`, `MergeIdeal`: the call that merges the mixers' two branches (forward); `MergeReferenceIdeal`: the same merge
    written plainly; `Proof/Merge/Value` proves their results equal.
  * `MergeBwd`, `MergeBwdIdeal`: the merge's backward call; `MergeBwdReferenceIdeal`: the merge differentiated;
    `Proof/MergeBwd/Value` proves their six results equal.
  * `Adamw`, `AdamwIdeal`: the optimiser's call on the small weights, once for each of their three shapes;
    `AdamwReferenceIdeal`: the update written plainly; `Proof/Adamw/Value` proves their nine results equal.
  * `Kernel`, `KernelIdeal`: the gradient of sliding-window attention with a sink; the runs are in `Proof/SwaBits` and
    `Proof/Swa`.
-/
module

public import proofs.«01_k».proof.Defs
public import proofs.«01_k».proof.Proof.Gen.Kernel
public import proofs.«01_k».proof.Proof.Gen.KernelIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Proj
public import proofs.«01_k».proof.Proof.Gen.Proj.Frame
public import proofs.«01_k».proof.Proof.Gen.Proj.Launch
public import proofs.«01_k».proof.Proof.Gen.ProjIdeal
public import proofs.«01_k».proof.Proof.Gen.ProjIdeal.Frame
public import proofs.«01_k».proof.Proof.Gen.ProjIdeal.Launch
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Merge
public import proofs.«01_k».proof.Proof.Gen.Merge.Frame
public import proofs.«01_k».proof.Proof.Gen.Merge.Launch
public import proofs.«01_k».proof.Proof.Gen.MergeIdeal
public import proofs.«01_k».proof.Proof.Gen.MergeIdeal.Frame
public import proofs.«01_k».proof.Proof.Gen.MergeIdeal.Launch
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeBwd
public import proofs.«01_k».proof.Proof.Gen.MergeBwd.Frame
public import proofs.«01_k».proof.Proof.Gen.MergeBwd.Launch
public import proofs.«01_k».proof.Proof.Gen.MergeBwdIdeal
public import proofs.«01_k».proof.Proof.Gen.MergeBwdIdeal.Frame
public import proofs.«01_k».proof.Proof.Gen.MergeBwdIdeal.Launch
public import proofs.«01_k».proof.Proof.Gen.MergeBwdIdeal.Value
public import proofs.«01_k».proof.Proof.Gen.MergeBwdReferenceIdeal
public import proofs.«01_k».proof.Proof.Gen.MergeBwdReferenceIdeal.Run
public import proofs.«01_k».proof.Proof.Gen.MergeBwdReferenceIdeal.Read
public import proofs.«01_k».proof.Proof.Gen.Adamw
public import proofs.«01_k».proof.Proof.Gen.Adamw.Frame
public import proofs.«01_k».proof.Proof.Gen.Adamw.Launch
public import proofs.«01_k».proof.Proof.Gen.AdamwIdeal
public import proofs.«01_k».proof.Proof.Gen.AdamwIdeal.Frame
public import proofs.«01_k».proof.Proof.Gen.AdamwIdeal.Launch
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.Ffn.Value
public import proofs.«01_k».proof.Proof.Proj.Value
public import proofs.«01_k».proof.Proof.Merge.Value
public import proofs.«01_k».proof.Proof.MergeBwd.Value
public import proofs.«01_k».proof.Proof.Adamw.Value
public import proofs.«01_k».proof.Proof.SwaBits.Frame
public import proofs.«01_k».proof.Proof.Swa.Frame
public import Idealize.ShloMosaic.Adequacy
public import Idealize.ShloMosaic.Init

@[expose] public section

noncomputable section

namespace Cert.Proof

open Idealize.ShloMosaic Idealize.SL.Sem

/-- The reference ends with its arguments unchanged; it declares no semaphore, so every counter reads zero. -/
theorem frame_reference : Cert.quiescent_FfnReferenceIdeal (hFfnReferenceIdeal := Cert.FfnReferenceIdeal.Gen.facts) := fun m ρ _ =>
  (θ_run Cert.FfnReferenceIdeal.defs _ _).mono (fun r h => ⟨fun c => (h c).2.2.2.2.2, sem_eq_zero_of_no_sems (by decide) r.2⟩)
    (Cert.FfnReferenceIdeal.Value.run (F := Ideal) m ρ)

/-- The projection's reference ends with its arguments unchanged; it declares no semaphore either. -/
theorem frame_projReference : Cert.quiescent_ProjReferenceIdeal (hProjReferenceIdeal := Cert.ProjReferenceIdeal.Gen.facts) := fun m ρ _ =>
  (θ_run Cert.ProjReferenceIdeal.defs _ _).mono
    (fun r h => ⟨fun c => (h c).2.2.2.2.2.2.2.2.2.2.2, sem_eq_zero_of_no_sems (by decide) r.2⟩)
    (Cert.ProjReferenceIdeal.Value.run (F := Ideal) m ρ)

/-- The merge's reference ends with its arguments unchanged; it declares no semaphore either. -/
theorem frame_mergeReference : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The backward merge's reference ends with its arguments unchanged; it declares no semaphore either. -/
theorem frame_mergeBwdReference : Cert.quiescent_MergeBwdReferenceIdeal (hMergeBwdReferenceIdeal := Cert.MergeBwdReferenceIdeal.Gen.facts) := fun m ρ _ =>
  (θ_run Cert.MergeBwdReferenceIdeal.defs _ _).mono (fun r h => ⟨fun c => (h c).2.2.2.2.2.2, sem_eq_zero_of_no_sems (by decide) r.2⟩)
    (Cert.MergeBwdReferenceIdeal.Value.run (F := Ideal) m ρ)

/-- The optimiser's reference ends with its arguments unchanged; it declares no semaphore either. -/
theorem frame_adamwReference : Cert.quiescent_AdamwReferenceIdeal (hAdamwReferenceIdeal := Cert.AdamwReferenceIdeal.Gen.facts) := fun m ρ _ =>
  (θ_run Cert.AdamwReferenceIdeal.defs _ _).mono
    (fun r h => ⟨fun c => (h c).2.2.2.2.2.2.2.2.2, sem_eq_zero_of_no_sems (by decide) r.2⟩)
    (Cert.AdamwReferenceIdeal.Value.run (F := Ideal) m ρ)

/-- Every claim of the certificate. -/
theorem claim : Cert.Claim :=
  ⟨Cert.Ffn.Gen.facts, Cert.FfnIdeal.Gen.facts, Cert.FfnReferenceIdeal.Gen.facts, Cert.Kernel.Gen.facts, Cert.KernelIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts,
    Cert.MergeBwd.Gen.facts, Cert.MergeBwdIdeal.Gen.facts, Cert.MergeBwdReferenceIdeal.Gen.facts,
    Cert.Adamw.Gen.facts, Cert.AdamwIdeal.Gen.facts, Cert.AdamwReferenceIdeal.Gen.facts,
    Cert.FfnValue.preFacts, Cert.ProjValue.preFacts,
    fun m ρ _ => Cert.Ffn.Gen.frame m ρ,
    fun m ρ _ => Cert.FfnIdeal.Gen.frame m ρ,
    fun m ρ _ => Cert.FfnIdeal.Gen.frame m ρ,
    frame_reference,
    fun m ρ _ => frame_reference m ρ trivial,
    fun m ρ _ => Cert.Kernel.Swa.frame m ρ,
    fun m ρ _ => Cert.KernelIdeal.Swa.frame m ρ,
    fun m ρ _ => Cert.Proj.Gen.frame m ρ,
    fun m ρ _ => Cert.ProjIdeal.Gen.frame m ρ,
    fun m ρ _ => Cert.ProjIdeal.Gen.frame m ρ,
    frame_projReference,
    fun m ρ _ => frame_projReference m ρ trivial,
    fun m ρ _ => Cert.Merge.Gen.frame m ρ,
    fun m ρ _ => Cert.MergeIdeal.Gen.frame m ρ,
    frame_mergeReference,
    fun m ρ _ => Cert.MergeBwd.Gen.frame m ρ,
    fun m ρ _ => Cert.MergeBwdIdeal.Gen.frame m ρ,
    frame_mergeBwdReference,
    fun m ρ _ => Cert.Adamw.Gen.frame m ρ,
    fun m ρ _ => Cert.AdamwIdeal.Gen.frame m ρ,
    frame_adamwReference,
    trivial,
    Cert.FfnValue.algebraic,
    IdealRules.named_const.statement Cert.KernelIdeal.κ "mask" .f32 0xF149F2CA#32 ⊥ rfl,
    trivial,
    Cert.ProjValue.algebraic,
    trivial,
    Cert.MergeValue.algebraic,
    trivial,
    Cert.MergeBwdValue.algebraic,
    trivial,
    Cert.AdamwValue.algebraic⟩

end Cert.Proof

end
